-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_finite_KernelIdeal [hPre_x_finite_KernelIdeal : Cert.Pre_x_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_x_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_finite_ReferenceIdeal [hPre_x_finite_ReferenceIdeal : Cert.Pre_x_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_x_finite_KernelIdeal [hKernelIdeal : Cert.KernelIdeal.Facts] [hPre_x_finite_KernelIdeal : Cert.Pre_x_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_x_finite_ReferenceIdeal [hReferenceIdeal : Cert.ReferenceIdeal.Facts] [hPre_x_finite_ReferenceIdeal : Cert.Pre_x_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_x_finite_KernelIdeal [hKernelIdeal : Cert.KernelIdeal.Facts] [hReferenceIdeal : Cert.ReferenceIdeal.Facts] [hPre_x_finite_KernelIdeal : Cert.Pre_x_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_finite_KernelIdeal m →
    (∀ c : Dev Cert.KernelIdeal.nD,
      m ((c.tc : Thread Cert.KernelIdeal.nD Cert.KernelIdeal.τ).loc Cert.KernelIdeal.main_arg0) = Layout.blockN ⟨2, ![4096, 2048]⟩ ⟨2, ![8192, 2048]⟩ (Layout.meshBlock [2, 4, 4] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![4096, 2048]⟩ ⟨2, ![8192, 2048]⟩ (Layout.meshBlock [2, 4, 4] ![[0], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_x_finite_KernelIdeal : Cert.Pre_x_finite_KernelIdeal.Facts) (hPre_x_finite_ReferenceIdeal : Cert.Pre_x_finite_ReferenceIdeal.Facts),
    quiescent_Kernel (hKernel := hKernel)
    ∧ quiescent_KernelIdeal (hKernelIdeal := hKernelIdeal)
    ∧ quiescent_KernelIdeal_pre_x_finite_KernelIdeal (hKernelIdeal := hKernelIdeal) (hPre_x_finite_KernelIdeal := hPre_x_finite_KernelIdeal)
    ∧ quiescent_ReferenceIdeal (hReferenceIdeal := hReferenceIdeal)
    ∧ quiescent_ReferenceIdeal_pre_x_finite_ReferenceIdeal (hReferenceIdeal := hReferenceIdeal) (hPre_x_finite_ReferenceIdeal := hPre_x_finite_ReferenceIdeal)
    ∧ preserves_Kernel_KernelIdeal
    ∧ algebraic_KernelIdeal_ReferenceIdeal_pre_x_finite_KernelIdeal (hKernelIdeal := hKernelIdeal) (hReferenceIdeal := hReferenceIdeal) (hPre_x_finite_KernelIdeal := hPre_x_finite_KernelIdeal)
-- ==== Pre_x_finite_KernelIdeal.lean ====
abbrev S4096x2048 : Shape := ⟨2, ![4096, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)

variable [Facts]

def fn {F : FTy → Type} [FloatOps F] (main_arg0 : FVec F S4096x2048 .f32) (main_arg1 : FVec F S4096x2048 .f32) (main_arg2 : FVec F S2048 .f32) : IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  main_v2
-- ==== Pre_x_finite_ReferenceIdeal.lean ====
abbrev S8192x2048 : Shape := ⟨2, ![8192, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)

variable [Facts]

def fn {F : FTy → Type} [FloatOps F] (main_arg0 : FVec F S8192x2048 .f32) (main_arg1 : FVec F S8192x2048 .f32) (main_arg2 : FVec F S2048 .f32) : IVec S8192x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  main_v2
-- ==== Kernel.lean ====
abbrev S4096x2048 : Shape := ⟨2, ![4096, 2048]⟩
abbrev S2048 : Shape := ⟨1, ![2048]⟩
abbrev S2x2048 : Shape := ⟨2, ![2, 2048]⟩
abbrev S256x2048 : Shape := ⟨2, ![256, 2048]⟩
abbrev S32x2x2048 : Shape := ⟨3, ![32, 2, 2048]⟩
abbrev S2 : Shape := ⟨1, ![2]⟩
abbrev S31 : Shape := ⟨1, ![31]⟩
abbrev S32 : Shape := ⟨1, ![32]⟩
abbrev S_ : Shape := ⟨0, ![]⟩
abbrev S1 : Shape := ⟨1, ![1]⟩
abbrev S256 : Shape := ⟨1, ![256]⟩
abbrev S256x1 : Shape := ⟨2, ![256, 1]⟩
abbrev S1x2048 : Shape := ⟨2, ![1, 2048]⟩
abbrev S1x2x2048 : Shape := ⟨3, ![1, 2, 2048]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S2x2048, .f32⟩
  | .local _ .vmem, ⟨0, _⟩ => ⟨S2x2048, .f32⟩
  | .local _ .vmem, ⟨1, _⟩ => ⟨S256x2048, .f32⟩
  | .local _ .vmem, ⟨2, _⟩ => ⟨S256x2048, .f32⟩
  | .local _ .vmem, ⟨3, _⟩ => ⟨S2x2048, .f32⟩
  | .local _ .vmem, ⟨4, _⟩ => ⟨S32x2x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_655 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v13 : BitVec 32 := Scalar.addi v2 c0_i32
  let c2_i32_4 : BitVec 32 := 2#32
  let c0_i32_5 : BitVec 32 := 0#32
  let v14 : BitVec 1 := Scalar.cmpi .eq c2_i32_4 c0_i32_5
  let c1_i32_6 : BitVec 32 := 1#32
  let v15 : BitVec 32 := Scalar.select v14 c1_i32_6 c2_i32_4
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let c16_i32_654 : BitVec 32 := 16#32
  let v1037 : BitVec 32 := Scalar.muli v23 c16_i32_654
  let v1038 : BitVec 32 := Scalar.addi c0_i32_655 v1037
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_10 : BitVec 32 := 0#32
  let v24 : BitVec 32 := Scalar.addi v5 c0_i32_10
  let c4_i32_11 : BitVec 32 := 4#32
  let c0_i32_12 : BitVec 32 := 0#32
  let v25 : BitVec 1 := Scalar.cmpi .eq c4_i32_11 c0_i32_12
  let c1_i32_13 : BitVec 32 := 1#32
  let v26 : BitVec 32 := Scalar.select v25 c1_i32_13 c4_i32_11
  let v27 : BitVec 32 := Scalar.remsi v24 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c4_i32_656 : BitVec 32 := 4#32
  let v1039 : BitVec 32 := Scalar.muli v34 c4_i32_656
  let v1040 : BitVec 32 := Scalar.addi v1038 v1039
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_17 : BitVec 32 := 1#32
  let v35 : BitVec 32 := Scalar.addi v8 c1_i32_17
  let c4_i32_18 : BitVec 32 := 4#32
  let c0_i32_19 : BitVec 32 := 0#32
  let v36 : BitVec 1 := Scalar.cmpi .eq c4_i32_18 c0_i32_19
  let c1_i32_20 : BitVec 32 := 1#32
  let v37 : BitVec 32 := Scalar.select v36 c1_i32_20 c4_i32_18
  let v38 : BitVec 32 := Scalar.remsi v35 v37
  let c0_i32_22 : BitVec 32 := 0#32
  let v40 : BitVec 1 := Scalar.cmpi .slt v38 c0_i32_22
  let c0_i32_23 : BitVec 32 := 0#32
  let v41 : BitVec 1 := Scalar.cmpi .slt v37 c0_i32_23
  let v42 : BitVec 1 := Scalar.xori v40 v41
  let c0_i32_21 : BitVec 32 := 0#32
  let v39 : BitVec 1 := Scalar.cmpi .ne v38 c0_i32_21
  let v43 : BitVec 1 := Scalar.andi v42 v39
  let v44 : BitVec 32 := Scalar.addi v38 v37
  let v45 : BitVec 32 := Scalar.select v43 v44 v38
  let c1_i32_657 : BitVec 32 := 1#32
  let v1041 : BitVec 32 := Scalar.muli v45 c1_i32_657
  let v1042 : BitVec 32 := Scalar.addi v1040 v1041
  v1042.toNat
def k0_dev2 (d0 : Dev nD) : Nat :=
  let c0_i32_660 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_24 : BitVec 32 := 0#32
  let v46 : BitVec 32 := Scalar.addi v2 c0_i32_24
  let c2_i32_25 : BitVec 32 := 2#32
  let c0_i32_26 : BitVec 32 := 0#32
  let v47 : BitVec 1 := Scalar.cmpi .eq c2_i32_25 c0_i32_26
  let c1_i32_27 : BitVec 32 := 1#32
  let v48 : BitVec 32 := Scalar.select v47 c1_i32_27 c2_i32_25
  let v49 : BitVec 32 := Scalar.remsi v46 v48
  let c0_i32_29 : BitVec 32 := 0#32
  let v51 : BitVec 1 := Scalar.cmpi .slt v49 c0_i32_29
  let c0_i32_30 : BitVec 32 := 0#32
  let v52 : BitVec 1 := Scalar.cmpi .slt v48 c0_i32_30
  let v53 : BitVec 1 := Scalar.xori v51 v52
  let c0_i32_28 : BitVec 32 := 0#32
  let v50 : BitVec 1 := Scalar.cmpi .ne v49 c0_i32_28
  let v54 : BitVec 1 := Scalar.andi v53 v50
  let v55 : BitVec 32 := Scalar.addi v49 v48
  let v56 : BitVec 32 := Scalar.select v54 v55 v49
  let c16_i32_659 : BitVec 32 := 16#32
  let v1043 : BitVec 32 := Scalar.muli v56 c16_i32_659
  let v1044 : BitVec 32 := Scalar.addi c0_i32_660 v1043
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v57 : BitVec 32 := Scalar.addi v5 c0_i32_31
  let c4_i32_32 : BitVec 32 := 4#32
  let c0_i32_33 : BitVec 32 := 0#32
  let v58 : BitVec 1 := Scalar.cmpi .eq c4_i32_32 c0_i32_33
  let c1_i32_34 : BitVec 32 := 1#32
  let v59 : BitVec 32 := Scalar.select v58 c1_i32_34 c4_i32_32
  let v60 : BitVec 32 := Scalar.remsi v57 v59
  let c0_i32_36 : BitVec 32 := 0#32
  let v62 : BitVec 1 := Scalar.cmpi .slt v60 c0_i32_36
  let c0_i32_37 : BitVec 32 := 0#32
  let v63 : BitVec 1 := Scalar.cmpi .slt v59 c0_i32_37
  let v64 : BitVec 1 := Scalar.xori v62 v63
  let c0_i32_35 : BitVec 32 := 0#32
  let v61 : BitVec 1 := Scalar.cmpi .ne v60 c0_i32_35
  let v65 : BitVec 1 := Scalar.andi v64 v61
  let v66 : BitVec 32 := Scalar.addi v60 v59
  let v67 : BitVec 32 := Scalar.select v65 v66 v60
  let c4_i32_661 : BitVec 32 := 4#32
  let v1045 : BitVec 32 := Scalar.muli v67 c4_i32_661
  let v1046 : BitVec 32 := Scalar.addi v1044 v1045
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_38 : BitVec 32 := 2#32
  let v68 : BitVec 32 := Scalar.addi v8 c2_i32_38
  let c4_i32_39 : BitVec 32 := 4#32
  let c0_i32_40 : BitVec 32 := 0#32
  let v69 : BitVec 1 := Scalar.cmpi .eq c4_i32_39 c0_i32_40
  let c1_i32_41 : BitVec 32 := 1#32
  let v70 : BitVec 32 := Scalar.select v69 c1_i32_41 c4_i32_39
  let v71 : BitVec 32 := Scalar.remsi v68 v70
  let c0_i32_43 : BitVec 32 := 0#32
  let v73 : BitVec 1 := Scalar.cmpi .slt v71 c0_i32_43
  let c0_i32_44 : BitVec 32 := 0#32
  let v74 : BitVec 1 := Scalar.cmpi .slt v70 c0_i32_44
  let v75 : BitVec 1 := Scalar.xori v73 v74
  let c0_i32_42 : BitVec 32 := 0#32
  let v72 : BitVec 1 := Scalar.cmpi .ne v71 c0_i32_42
  let v76 : BitVec 1 := Scalar.andi v75 v72
  let v77 : BitVec 32 := Scalar.addi v71 v70
  let v78 : BitVec 32 := Scalar.select v76 v77 v71
  let c1_i32_662 : BitVec 32 := 1#32
  let v1047 : BitVec 32 := Scalar.muli v78 c1_i32_662
  let v1048 : BitVec 32 := Scalar.addi v1046 v1047
  v1048.toNat
def k0_dev3 (d0 : Dev nD) : Nat :=
  let c0_i32_665 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_45 : BitVec 32 := 0#32
  let v79 : BitVec 32 := Scalar.addi v2 c0_i32_45
  let c2_i32_46 : BitVec 32 := 2#32
  let c0_i32_47 : BitVec 32 := 0#32
  let v80 : BitVec 1 := Scalar.cmpi .eq c2_i32_46 c0_i32_47
  let c1_i32_48 : BitVec 32 := 1#32
  let v81 : BitVec 32 := Scalar.select v80 c1_i32_48 c2_i32_46
  let v82 : BitVec 32 := Scalar.remsi v79 v81
  let c0_i32_50 : BitVec 32 := 0#32
  let v84 : BitVec 1 := Scalar.cmpi .slt v82 c0_i32_50
  let c0_i32_51 : BitVec 32 := 0#32
  let v85 : BitVec 1 := Scalar.cmpi .slt v81 c0_i32_51
  let v86 : BitVec 1 := Scalar.xori v84 v85
  let c0_i32_49 : BitVec 32 := 0#32
  let v83 : BitVec 1 := Scalar.cmpi .ne v82 c0_i32_49
  let v87 : BitVec 1 := Scalar.andi v86 v83
  let v88 : BitVec 32 := Scalar.addi v82 v81
  let v89 : BitVec 32 := Scalar.select v87 v88 v82
  let c16_i32_664 : BitVec 32 := 16#32
  let v1049 : BitVec 32 := Scalar.muli v89 c16_i32_664
  let v1050 : BitVec 32 := Scalar.addi c0_i32_665 v1049
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_52 : BitVec 32 := 0#32
  let v90 : BitVec 32 := Scalar.addi v5 c0_i32_52
  let c4_i32_53 : BitVec 32 := 4#32
  let c0_i32_54 : BitVec 32 := 0#32
  let v91 : BitVec 1 := Scalar.cmpi .eq c4_i32_53 c0_i32_54
  let c1_i32_55 : BitVec 32 := 1#32
  let v92 : BitVec 32 := Scalar.select v91 c1_i32_55 c4_i32_53
  let v93 : BitVec 32 := Scalar.remsi v90 v92
  let c0_i32_57 : BitVec 32 := 0#32
  let v95 : BitVec 1 := Scalar.cmpi .slt v93 c0_i32_57
  let c0_i32_58 : BitVec 32 := 0#32
  let v96 : BitVec 1 := Scalar.cmpi .slt v92 c0_i32_58
  let v97 : BitVec 1 := Scalar.xori v95 v96
  let c0_i32_56 : BitVec 32 := 0#32
  let v94 : BitVec 1 := Scalar.cmpi .ne v93 c0_i32_56
  let v98 : BitVec 1 := Scalar.andi v97 v94
  let v99 : BitVec 32 := Scalar.addi v93 v92
  let v100 : BitVec 32 := Scalar.select v98 v99 v93
  let c4_i32_666 : BitVec 32 := 4#32
  let v1051 : BitVec 32 := Scalar.muli v100 c4_i32_666
  let v1052 : BitVec 32 := Scalar.addi v1050 v1051
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v101 : BitVec 32 := Scalar.addi v8 c3_i32
  let c4_i32_59 : BitVec 32 := 4#32
  let c0_i32_60 : BitVec 32 := 0#32
  let v102 : BitVec 1 := Scalar.cmpi .eq c4_i32_59 c0_i32_60
  let c1_i32_61 : BitVec 32 := 1#32
  let v103 : BitVec 32 := Scalar.select v102 c1_i32_61 c4_i32_59
  let v104 : BitVec 32 := Scalar.remsi v101 v103
  let c0_i32_63 : BitVec 32 := 0#32
  let v106 : BitVec 1 := Scalar.cmpi .slt v104 c0_i32_63
  let c0_i32_64 : BitVec 32 := 0#32
  let v107 : BitVec 1 := Scalar.cmpi .slt v103 c0_i32_64
  let v108 : BitVec 1 := Scalar.xori v106 v107
  let c0_i32_62 : BitVec 32 := 0#32
  let v105 : BitVec 1 := Scalar.cmpi .ne v104 c0_i32_62
  let v109 : BitVec 1 := Scalar.andi v108 v105
  let v110 : BitVec 32 := Scalar.addi v104 v103
  let v111 : BitVec 32 := Scalar.select v109 v110 v104
  let c1_i32_667 : BitVec 32 := 1#32
  let v1053 : BitVec 32 := Scalar.muli v111 c1_i32_667
  let v1054 : BitVec 32 := Scalar.addi v1052 v1053
  v1054.toNat
def k0_dev4 (d0 : Dev nD) : Nat :=
  let c0_i32_670 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_65 : BitVec 32 := 0#32
  let v112 : BitVec 32 := Scalar.addi v2 c0_i32_65
  let c2_i32_66 : BitVec 32 := 2#32
  let c0_i32_67 : BitVec 32 := 0#32
  let v113 : BitVec 1 := Scalar.cmpi .eq c2_i32_66 c0_i32_67
  let c1_i32_68 : BitVec 32 := 1#32
  let v114 : BitVec 32 := Scalar.select v113 c1_i32_68 c2_i32_66
  let v115 : BitVec 32 := Scalar.remsi v112 v114
  let c0_i32_70 : BitVec 32 := 0#32
  let v117 : BitVec 1 := Scalar.cmpi .slt v115 c0_i32_70
  let c0_i32_71 : BitVec 32 := 0#32
  let v118 : BitVec 1 := Scalar.cmpi .slt v114 c0_i32_71
  let v119 : BitVec 1 := Scalar.xori v117 v118
  let c0_i32_69 : BitVec 32 := 0#32
  let v116 : BitVec 1 := Scalar.cmpi .ne v115 c0_i32_69
  let v120 : BitVec 1 := Scalar.andi v119 v116
  let v121 : BitVec 32 := Scalar.addi v115 v114
  let v122 : BitVec 32 := Scalar.select v120 v121 v115
  let c16_i32_669 : BitVec 32 := 16#32
  let v1055 : BitVec 32 := Scalar.muli v122 c16_i32_669
  let v1056 : BitVec 32 := Scalar.addi c0_i32_670 v1055
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_72 : BitVec 32 := 1#32
  let v123 : BitVec 32 := Scalar.addi v5 c1_i32_72
  let c4_i32_73 : BitVec 32 := 4#32
  let c0_i32_74 : BitVec 32 := 0#32
  let v124 : BitVec 1 := Scalar.cmpi .eq c4_i32_73 c0_i32_74
  let c1_i32_75 : BitVec 32 := 1#32
  let v125 : BitVec 32 := Scalar.select v124 c1_i32_75 c4_i32_73
  let v126 : BitVec 32 := Scalar.remsi v123 v125
  let c0_i32_77 : BitVec 32 := 0#32
  let v128 : BitVec 1 := Scalar.cmpi .slt v126 c0_i32_77
  let c0_i32_78 : BitVec 32 := 0#32
  let v129 : BitVec 1 := Scalar.cmpi .slt v125 c0_i32_78
  let v130 : BitVec 1 := Scalar.xori v128 v129
  let c0_i32_76 : BitVec 32 := 0#32
  let v127 : BitVec 1 := Scalar.cmpi .ne v126 c0_i32_76
  let v131 : BitVec 1 := Scalar.andi v130 v127
  let v132 : BitVec 32 := Scalar.addi v126 v125
  let v133 : BitVec 32 := Scalar.select v131 v132 v126
  let c4_i32_671 : BitVec 32 := 4#32
  let v1057 : BitVec 32 := Scalar.muli v133 c4_i32_671
  let v1058 : BitVec 32 := Scalar.addi v1056 v1057
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_79 : BitVec 32 := 0#32
  let v134 : BitVec 32 := Scalar.addi v8 c0_i32_79
  let c4_i32_80 : BitVec 32 := 4#32
  let c0_i32_81 : BitVec 32 := 0#32
  let v135 : BitVec 1 := Scalar.cmpi .eq c4_i32_80 c0_i32_81
  let c1_i32_82 : BitVec 32 := 1#32
  let v136 : BitVec 32 := Scalar.select v135 c1_i32_82 c4_i32_80
  let v137 : BitVec 32 := Scalar.remsi v134 v136
  let c0_i32_84 : BitVec 32 := 0#32
  let v139 : BitVec 1 := Scalar.cmpi .slt v137 c0_i32_84
  let c0_i32_85 : BitVec 32 := 0#32
  let v140 : BitVec 1 := Scalar.cmpi .slt v136 c0_i32_85
  let v141 : BitVec 1 := Scalar.xori v139 v140
  let c0_i32_83 : BitVec 32 := 0#32
  let v138 : BitVec 1 := Scalar.cmpi .ne v137 c0_i32_83
  let v142 : BitVec 1 := Scalar.andi v141 v138
  let v143 : BitVec 32 := Scalar.addi v137 v136
  let v144 : BitVec 32 := Scalar.select v142 v143 v137
  let c1_i32_672 : BitVec 32 := 1#32
  let v1059 : BitVec 32 := Scalar.muli v144 c1_i32_672
  let v1060 : BitVec 32 := Scalar.addi v1058 v1059
  v1060.toNat
def k0_dev5 (d0 : Dev nD) : Nat :=
  let c0_i32_675 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_86 : BitVec 32 := 0#32
  let v145 : BitVec 32 := Scalar.addi v2 c0_i32_86
  let c2_i32_87 : BitVec 32 := 2#32
  let c0_i32_88 : BitVec 32 := 0#32
  let v146 : BitVec 1 := Scalar.cmpi .eq c2_i32_87 c0_i32_88
  let c1_i32_89 : BitVec 32 := 1#32
  let v147 : BitVec 32 := Scalar.select v146 c1_i32_89 c2_i32_87
  let v148 : BitVec 32 := Scalar.remsi v145 v147
  let c0_i32_91 : BitVec 32 := 0#32
  let v150 : BitVec 1 := Scalar.cmpi .slt v148 c0_i32_91
  let c0_i32_92 : BitVec 32 := 0#32
  let v151 : BitVec 1 := Scalar.cmpi .slt v147 c0_i32_92
  let v152 : BitVec 1 := Scalar.xori v150 v151
  let c0_i32_90 : BitVec 32 := 0#32
  let v149 : BitVec 1 := Scalar.cmpi .ne v148 c0_i32_90
  let v153 : BitVec 1 := Scalar.andi v152 v149
  let v154 : BitVec 32 := Scalar.addi v148 v147
  let v155 : BitVec 32 := Scalar.select v153 v154 v148
  let c16_i32_674 : BitVec 32 := 16#32
  let v1061 : BitVec 32 := Scalar.muli v155 c16_i32_674
  let v1062 : BitVec 32 := Scalar.addi c0_i32_675 v1061
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_93 : BitVec 32 := 1#32
  let v156 : BitVec 32 := Scalar.addi v5 c1_i32_93
  let c4_i32_94 : BitVec 32 := 4#32
  let c0_i32_95 : BitVec 32 := 0#32
  let v157 : BitVec 1 := Scalar.cmpi .eq c4_i32_94 c0_i32_95
  let c1_i32_96 : BitVec 32 := 1#32
  let v158 : BitVec 32 := Scalar.select v157 c1_i32_96 c4_i32_94
  let v159 : BitVec 32 := Scalar.remsi v156 v158
  let c0_i32_98 : BitVec 32 := 0#32
  let v161 : BitVec 1 := Scalar.cmpi .slt v159 c0_i32_98
  let c0_i32_99 : BitVec 32 := 0#32
  let v162 : BitVec 1 := Scalar.cmpi .slt v158 c0_i32_99
  let v163 : BitVec 1 := Scalar.xori v161 v162
  let c0_i32_97 : BitVec 32 := 0#32
  let v160 : BitVec 1 := Scalar.cmpi .ne v159 c0_i32_97
  let v164 : BitVec 1 := Scalar.andi v163 v160
  let v165 : BitVec 32 := Scalar.addi v159 v158
  let v166 : BitVec 32 := Scalar.select v164 v165 v159
  let c4_i32_676 : BitVec 32 := 4#32
  let v1063 : BitVec 32 := Scalar.muli v166 c4_i32_676
  let v1064 : BitVec 32 := Scalar.addi v1062 v1063
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_100 : BitVec 32 := 1#32
  let v167 : BitVec 32 := Scalar.addi v8 c1_i32_100
  let c4_i32_101 : BitVec 32 := 4#32
  let c0_i32_102 : BitVec 32 := 0#32
  let v168 : BitVec 1 := Scalar.cmpi .eq c4_i32_101 c0_i32_102
  let c1_i32_103 : BitVec 32 := 1#32
  let v169 : BitVec 32 := Scalar.select v168 c1_i32_103 c4_i32_101
  let v170 : BitVec 32 := Scalar.remsi v167 v169
  let c0_i32_105 : BitVec 32 := 0#32
  let v172 : BitVec 1 := Scalar.cmpi .slt v170 c0_i32_105
  let c0_i32_106 : BitVec 32 := 0#32
  let v173 : BitVec 1 := Scalar.cmpi .slt v169 c0_i32_106
  let v174 : BitVec 1 := Scalar.xori v172 v173
  let c0_i32_104 : BitVec 32 := 0#32
  let v171 : BitVec 1 := Scalar.cmpi .ne v170 c0_i32_104
  let v175 : BitVec 1 := Scalar.andi v174 v171
  let v176 : BitVec 32 := Scalar.addi v170 v169
  let v177 : BitVec 32 := Scalar.select v175 v176 v170
  let c1_i32_677 : BitVec 32 := 1#32
  let v1065 : BitVec 32 := Scalar.muli v177 c1_i32_677
  let v1066 : BitVec 32 := Scalar.addi v1064 v1065
  v1066.toNat
def k0_dev6 (d0 : Dev nD) : Nat :=
  let c0_i32_680 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_107 : BitVec 32 := 0#32
  let v178 : BitVec 32 := Scalar.addi v2 c0_i32_107
  let c2_i32_108 : BitVec 32 := 2#32
  let c0_i32_109 : BitVec 32 := 0#32
  let v179 : BitVec 1 := Scalar.cmpi .eq c2_i32_108 c0_i32_109
  let c1_i32_110 : BitVec 32 := 1#32
  let v180 : BitVec 32 := Scalar.select v179 c1_i32_110 c2_i32_108
  let v181 : BitVec 32 := Scalar.remsi v178 v180
  let c0_i32_112 : BitVec 32 := 0#32
  let v183 : BitVec 1 := Scalar.cmpi .slt v181 c0_i32_112
  let c0_i32_113 : BitVec 32 := 0#32
  let v184 : BitVec 1 := Scalar.cmpi .slt v180 c0_i32_113
  let v185 : BitVec 1 := Scalar.xori v183 v184
  let c0_i32_111 : BitVec 32 := 0#32
  let v182 : BitVec 1 := Scalar.cmpi .ne v181 c0_i32_111
  let v186 : BitVec 1 := Scalar.andi v185 v182
  let v187 : BitVec 32 := Scalar.addi v181 v180
  let v188 : BitVec 32 := Scalar.select v186 v187 v181
  let c16_i32_679 : BitVec 32 := 16#32
  let v1067 : BitVec 32 := Scalar.muli v188 c16_i32_679
  let v1068 : BitVec 32 := Scalar.addi c0_i32_680 v1067
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_114 : BitVec 32 := 1#32
  let v189 : BitVec 32 := Scalar.addi v5 c1_i32_114
  let c4_i32_115 : BitVec 32 := 4#32
  let c0_i32_116 : BitVec 32 := 0#32
  let v190 : BitVec 1 := Scalar.cmpi .eq c4_i32_115 c0_i32_116
  let c1_i32_117 : BitVec 32 := 1#32
  let v191 : BitVec 32 := Scalar.select v190 c1_i32_117 c4_i32_115
  let v192 : BitVec 32 := Scalar.remsi v189 v191
  let c0_i32_119 : BitVec 32 := 0#32
  let v194 : BitVec 1 := Scalar.cmpi .slt v192 c0_i32_119
  let c0_i32_120 : BitVec 32 := 0#32
  let v195 : BitVec 1 := Scalar.cmpi .slt v191 c0_i32_120
  let v196 : BitVec 1 := Scalar.xori v194 v195
  let c0_i32_118 : BitVec 32 := 0#32
  let v193 : BitVec 1 := Scalar.cmpi .ne v192 c0_i32_118
  let v197 : BitVec 1 := Scalar.andi v196 v193
  let v198 : BitVec 32 := Scalar.addi v192 v191
  let v199 : BitVec 32 := Scalar.select v197 v198 v192
  let c4_i32_681 : BitVec 32 := 4#32
  let v1069 : BitVec 32 := Scalar.muli v199 c4_i32_681
  let v1070 : BitVec 32 := Scalar.addi v1068 v1069
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_121 : BitVec 32 := 2#32
  let v200 : BitVec 32 := Scalar.addi v8 c2_i32_121
  let c4_i32_122 : BitVec 32 := 4#32
  let c0_i32_123 : BitVec 32 := 0#32
  let v201 : BitVec 1 := Scalar.cmpi .eq c4_i32_122 c0_i32_123
  let c1_i32_124 : BitVec 32 := 1#32
  let v202 : BitVec 32 := Scalar.select v201 c1_i32_124 c4_i32_122
  let v203 : BitVec 32 := Scalar.remsi v200 v202
  let c0_i32_126 : BitVec 32 := 0#32
  let v205 : BitVec 1 := Scalar.cmpi .slt v203 c0_i32_126
  let c0_i32_127 : BitVec 32 := 0#32
  let v206 : BitVec 1 := Scalar.cmpi .slt v202 c0_i32_127
  let v207 : BitVec 1 := Scalar.xori v205 v206
  let c0_i32_125 : BitVec 32 := 0#32
  let v204 : BitVec 1 := Scalar.cmpi .ne v203 c0_i32_125
  let v208 : BitVec 1 := Scalar.andi v207 v204
  let v209 : BitVec 32 := Scalar.addi v203 v202
  let v210 : BitVec 32 := Scalar.select v208 v209 v203
  let c1_i32_682 : BitVec 32 := 1#32
  let v1071 : BitVec 32 := Scalar.muli v210 c1_i32_682
  let v1072 : BitVec 32 := Scalar.addi v1070 v1071
  v1072.toNat
def k0_dev7 (d0 : Dev nD) : Nat :=
  let c0_i32_685 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_128 : BitVec 32 := 0#32
  let v211 : BitVec 32 := Scalar.addi v2 c0_i32_128
  let c2_i32_129 : BitVec 32 := 2#32
  let c0_i32_130 : BitVec 32 := 0#32
  let v212 : BitVec 1 := Scalar.cmpi .eq c2_i32_129 c0_i32_130
  let c1_i32_131 : BitVec 32 := 1#32
  let v213 : BitVec 32 := Scalar.select v212 c1_i32_131 c2_i32_129
  let v214 : BitVec 32 := Scalar.remsi v211 v213
  let c0_i32_133 : BitVec 32 := 0#32
  let v216 : BitVec 1 := Scalar.cmpi .slt v214 c0_i32_133
  let c0_i32_134 : BitVec 32 := 0#32
  let v217 : BitVec 1 := Scalar.cmpi .slt v213 c0_i32_134
  let v218 : BitVec 1 := Scalar.xori v216 v217
  let c0_i32_132 : BitVec 32 := 0#32
  let v215 : BitVec 1 := Scalar.cmpi .ne v214 c0_i32_132
  let v219 : BitVec 1 := Scalar.andi v218 v215
  let v220 : BitVec 32 := Scalar.addi v214 v213
  let v221 : BitVec 32 := Scalar.select v219 v220 v214
  let c16_i32_684 : BitVec 32 := 16#32
  let v1073 : BitVec 32 := Scalar.muli v221 c16_i32_684
  let v1074 : BitVec 32 := Scalar.addi c0_i32_685 v1073
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_135 : BitVec 32 := 1#32
  let v222 : BitVec 32 := Scalar.addi v5 c1_i32_135
  let c4_i32_136 : BitVec 32 := 4#32
  let c0_i32_137 : BitVec 32 := 0#32
  let v223 : BitVec 1 := Scalar.cmpi .eq c4_i32_136 c0_i32_137
  let c1_i32_138 : BitVec 32 := 1#32
  let v224 : BitVec 32 := Scalar.select v223 c1_i32_138 c4_i32_136
  let v225 : BitVec 32 := Scalar.remsi v222 v224
  let c0_i32_140 : BitVec 32 := 0#32
  let v227 : BitVec 1 := Scalar.cmpi .slt v225 c0_i32_140
  let c0_i32_141 : BitVec 32 := 0#32
  let v228 : BitVec 1 := Scalar.cmpi .slt v224 c0_i32_141
  let v229 : BitVec 1 := Scalar.xori v227 v228
  let c0_i32_139 : BitVec 32 := 0#32
  let v226 : BitVec 1 := Scalar.cmpi .ne v225 c0_i32_139
  let v230 : BitVec 1 := Scalar.andi v229 v226
  let v231 : BitVec 32 := Scalar.addi v225 v224
  let v232 : BitVec 32 := Scalar.select v230 v231 v225
  let c4_i32_686 : BitVec 32 := 4#32
  let v1075 : BitVec 32 := Scalar.muli v232 c4_i32_686
  let v1076 : BitVec 32 := Scalar.addi v1074 v1075
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_142 : BitVec 32 := 3#32
  let v233 : BitVec 32 := Scalar.addi v8 c3_i32_142
  let c4_i32_143 : BitVec 32 := 4#32
  let c0_i32_144 : BitVec 32 := 0#32
  let v234 : BitVec 1 := Scalar.cmpi .eq c4_i32_143 c0_i32_144
  let c1_i32_145 : BitVec 32 := 1#32
  let v235 : BitVec 32 := Scalar.select v234 c1_i32_145 c4_i32_143
  let v236 : BitVec 32 := Scalar.remsi v233 v235
  let c0_i32_147 : BitVec 32 := 0#32
  let v238 : BitVec 1 := Scalar.cmpi .slt v236 c0_i32_147
  let c0_i32_148 : BitVec 32 := 0#32
  let v239 : BitVec 1 := Scalar.cmpi .slt v235 c0_i32_148
  let v240 : BitVec 1 := Scalar.xori v238 v239
  let c0_i32_146 : BitVec 32 := 0#32
  let v237 : BitVec 1 := Scalar.cmpi .ne v236 c0_i32_146
  let v241 : BitVec 1 := Scalar.andi v240 v237
  let v242 : BitVec 32 := Scalar.addi v236 v235
  let v243 : BitVec 32 := Scalar.select v241 v242 v236
  let c1_i32_687 : BitVec 32 := 1#32
  let v1077 : BitVec 32 := Scalar.muli v243 c1_i32_687
  let v1078 : BitVec 32 := Scalar.addi v1076 v1077
  v1078.toNat
def k0_dev8 (d0 : Dev nD) : Nat :=
  let c0_i32_690 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_149 : BitVec 32 := 0#32
  let v244 : BitVec 32 := Scalar.addi v2 c0_i32_149
  let c2_i32_150 : BitVec 32 := 2#32
  let c0_i32_151 : BitVec 32 := 0#32
  let v245 : BitVec 1 := Scalar.cmpi .eq c2_i32_150 c0_i32_151
  let c1_i32_152 : BitVec 32 := 1#32
  let v246 : BitVec 32 := Scalar.select v245 c1_i32_152 c2_i32_150
  let v247 : BitVec 32 := Scalar.remsi v244 v246
  let c0_i32_154 : BitVec 32 := 0#32
  let v249 : BitVec 1 := Scalar.cmpi .slt v247 c0_i32_154
  let c0_i32_155 : BitVec 32 := 0#32
  let v250 : BitVec 1 := Scalar.cmpi .slt v246 c0_i32_155
  let v251 : BitVec 1 := Scalar.xori v249 v250
  let c0_i32_153 : BitVec 32 := 0#32
  let v248 : BitVec 1 := Scalar.cmpi .ne v247 c0_i32_153
  let v252 : BitVec 1 := Scalar.andi v251 v248
  let v253 : BitVec 32 := Scalar.addi v247 v246
  let v254 : BitVec 32 := Scalar.select v252 v253 v247
  let c16_i32_689 : BitVec 32 := 16#32
  let v1079 : BitVec 32 := Scalar.muli v254 c16_i32_689
  let v1080 : BitVec 32 := Scalar.addi c0_i32_690 v1079
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_156 : BitVec 32 := 2#32
  let v255 : BitVec 32 := Scalar.addi v5 c2_i32_156
  let c4_i32_157 : BitVec 32 := 4#32
  let c0_i32_158 : BitVec 32 := 0#32
  let v256 : BitVec 1 := Scalar.cmpi .eq c4_i32_157 c0_i32_158
  let c1_i32_159 : BitVec 32 := 1#32
  let v257 : BitVec 32 := Scalar.select v256 c1_i32_159 c4_i32_157
  let v258 : BitVec 32 := Scalar.remsi v255 v257
  let c0_i32_161 : BitVec 32 := 0#32
  let v260 : BitVec 1 := Scalar.cmpi .slt v258 c0_i32_161
  let c0_i32_162 : BitVec 32 := 0#32
  let v261 : BitVec 1 := Scalar.cmpi .slt v257 c0_i32_162
  let v262 : BitVec 1 := Scalar.xori v260 v261
  let c0_i32_160 : BitVec 32 := 0#32
  let v259 : BitVec 1 := Scalar.cmpi .ne v258 c0_i32_160
  let v263 : BitVec 1 := Scalar.andi v262 v259
  let v264 : BitVec 32 := Scalar.addi v258 v257
  let v265 : BitVec 32 := Scalar.select v263 v264 v258
  let c4_i32_691 : BitVec 32 := 4#32
  let v1081 : BitVec 32 := Scalar.muli v265 c4_i32_691
  let v1082 : BitVec 32 := Scalar.addi v1080 v1081
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_163 : BitVec 32 := 0#32
  let v266 : BitVec 32 := Scalar.addi v8 c0_i32_163
  let c4_i32_164 : BitVec 32 := 4#32
  let c0_i32_165 : BitVec 32 := 0#32
  let v267 : BitVec 1 := Scalar.cmpi .eq c4_i32_164 c0_i32_165
  let c1_i32_166 : BitVec 32 := 1#32
  let v268 : BitVec 32 := Scalar.select v267 c1_i32_166 c4_i32_164
  let v269 : BitVec 32 := Scalar.remsi v266 v268
  let c0_i32_168 : BitVec 32 := 0#32
  let v271 : BitVec 1 := Scalar.cmpi .slt v269 c0_i32_168
  let c0_i32_169 : BitVec 32 := 0#32
  let v272 : BitVec 1 := Scalar.cmpi .slt v268 c0_i32_169
  let v273 : BitVec 1 := Scalar.xori v271 v272
  let c0_i32_167 : BitVec 32 := 0#32
  let v270 : BitVec 1 := Scalar.cmpi .ne v269 c0_i32_167
  let v274 : BitVec 1 := Scalar.andi v273 v270
  let v275 : BitVec 32 := Scalar.addi v269 v268
  let v276 : BitVec 32 := Scalar.select v274 v275 v269
  let c1_i32_692 : BitVec 32 := 1#32
  let v1083 : BitVec 32 := Scalar.muli v276 c1_i32_692
  let v1084 : BitVec 32 := Scalar.addi v1082 v1083
  v1084.toNat
def k0_dev9 (d0 : Dev nD) : Nat :=
  let c0_i32_695 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_170 : BitVec 32 := 0#32
  let v277 : BitVec 32 := Scalar.addi v2 c0_i32_170
  let c2_i32_171 : BitVec 32 := 2#32
  let c0_i32_172 : BitVec 32 := 0#32
  let v278 : BitVec 1 := Scalar.cmpi .eq c2_i32_171 c0_i32_172
  let c1_i32_173 : BitVec 32 := 1#32
  let v279 : BitVec 32 := Scalar.select v278 c1_i32_173 c2_i32_171
  let v280 : BitVec 32 := Scalar.remsi v277 v279
  let c0_i32_175 : BitVec 32 := 0#32
  let v282 : BitVec 1 := Scalar.cmpi .slt v280 c0_i32_175
  let c0_i32_176 : BitVec 32 := 0#32
  let v283 : BitVec 1 := Scalar.cmpi .slt v279 c0_i32_176
  let v284 : BitVec 1 := Scalar.xori v282 v283
  let c0_i32_174 : BitVec 32 := 0#32
  let v281 : BitVec 1 := Scalar.cmpi .ne v280 c0_i32_174
  let v285 : BitVec 1 := Scalar.andi v284 v281
  let v286 : BitVec 32 := Scalar.addi v280 v279
  let v287 : BitVec 32 := Scalar.select v285 v286 v280
  let c16_i32_694 : BitVec 32 := 16#32
  let v1085 : BitVec 32 := Scalar.muli v287 c16_i32_694
  let v1086 : BitVec 32 := Scalar.addi c0_i32_695 v1085
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_177 : BitVec 32 := 2#32
  let v288 : BitVec 32 := Scalar.addi v5 c2_i32_177
  let c4_i32_178 : BitVec 32 := 4#32
  let c0_i32_179 : BitVec 32 := 0#32
  let v289 : BitVec 1 := Scalar.cmpi .eq c4_i32_178 c0_i32_179
  let c1_i32_180 : BitVec 32 := 1#32
  let v290 : BitVec 32 := Scalar.select v289 c1_i32_180 c4_i32_178
  let v291 : BitVec 32 := Scalar.remsi v288 v290
  let c0_i32_182 : BitVec 32 := 0#32
  let v293 : BitVec 1 := Scalar.cmpi .slt v291 c0_i32_182
  let c0_i32_183 : BitVec 32 := 0#32
  let v294 : BitVec 1 := Scalar.cmpi .slt v290 c0_i32_183
  let v295 : BitVec 1 := Scalar.xori v293 v294
  let c0_i32_181 : BitVec 32 := 0#32
  let v292 : BitVec 1 := Scalar.cmpi .ne v291 c0_i32_181
  let v296 : BitVec 1 := Scalar.andi v295 v292
  let v297 : BitVec 32 := Scalar.addi v291 v290
  let v298 : BitVec 32 := Scalar.select v296 v297 v291
  let c4_i32_696 : BitVec 32 := 4#32
  let v1087 : BitVec 32 := Scalar.muli v298 c4_i32_696
  let v1088 : BitVec 32 := Scalar.addi v1086 v1087
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_184 : BitVec 32 := 1#32
  let v299 : BitVec 32 := Scalar.addi v8 c1_i32_184
  let c4_i32_185 : BitVec 32 := 4#32
  let c0_i32_186 : BitVec 32 := 0#32
  let v300 : BitVec 1 := Scalar.cmpi .eq c4_i32_185 c0_i32_186
  let c1_i32_187 : BitVec 32 := 1#32
  let v301 : BitVec 32 := Scalar.select v300 c1_i32_187 c4_i32_185
  let v302 : BitVec 32 := Scalar.remsi v299 v301
  let c0_i32_189 : BitVec 32 := 0#32
  let v304 : BitVec 1 := Scalar.cmpi .slt v302 c0_i32_189
  let c0_i32_190 : BitVec 32 := 0#32
  let v305 : BitVec 1 := Scalar.cmpi .slt v301 c0_i32_190
  let v306 : BitVec 1 := Scalar.xori v304 v305
  let c0_i32_188 : BitVec 32 := 0#32
  let v303 : BitVec 1 := Scalar.cmpi .ne v302 c0_i32_188
  let v307 : BitVec 1 := Scalar.andi v306 v303
  let v308 : BitVec 32 := Scalar.addi v302 v301
  let v309 : BitVec 32 := Scalar.select v307 v308 v302
  let c1_i32_697 : BitVec 32 := 1#32
  let v1089 : BitVec 32 := Scalar.muli v309 c1_i32_697
  let v1090 : BitVec 32 := Scalar.addi v1088 v1089
  v1090.toNat
def k0_dev10 (d0 : Dev nD) : Nat :=
  let c0_i32_700 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_191 : BitVec 32 := 0#32
  let v310 : BitVec 32 := Scalar.addi v2 c0_i32_191
  let c2_i32_192 : BitVec 32 := 2#32
  let c0_i32_193 : BitVec 32 := 0#32
  let v311 : BitVec 1 := Scalar.cmpi .eq c2_i32_192 c0_i32_193
  let c1_i32_194 : BitVec 32 := 1#32
  let v312 : BitVec 32 := Scalar.select v311 c1_i32_194 c2_i32_192
  let v313 : BitVec 32 := Scalar.remsi v310 v312
  let c0_i32_196 : BitVec 32 := 0#32
  let v315 : BitVec 1 := Scalar.cmpi .slt v313 c0_i32_196
  let c0_i32_197 : BitVec 32 := 0#32
  let v316 : BitVec 1 := Scalar.cmpi .slt v312 c0_i32_197
  let v317 : BitVec 1 := Scalar.xori v315 v316
  let c0_i32_195 : BitVec 32 := 0#32
  let v314 : BitVec 1 := Scalar.cmpi .ne v313 c0_i32_195
  let v318 : BitVec 1 := Scalar.andi v317 v314
  let v319 : BitVec 32 := Scalar.addi v313 v312
  let v320 : BitVec 32 := Scalar.select v318 v319 v313
  let c16_i32_699 : BitVec 32 := 16#32
  let v1091 : BitVec 32 := Scalar.muli v320 c16_i32_699
  let v1092 : BitVec 32 := Scalar.addi c0_i32_700 v1091
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_198 : BitVec 32 := 2#32
  let v321 : BitVec 32 := Scalar.addi v5 c2_i32_198
  let c4_i32_199 : BitVec 32 := 4#32
  let c0_i32_200 : BitVec 32 := 0#32
  let v322 : BitVec 1 := Scalar.cmpi .eq c4_i32_199 c0_i32_200
  let c1_i32_201 : BitVec 32 := 1#32
  let v323 : BitVec 32 := Scalar.select v322 c1_i32_201 c4_i32_199
  let v324 : BitVec 32 := Scalar.remsi v321 v323
  let c0_i32_203 : BitVec 32 := 0#32
  let v326 : BitVec 1 := Scalar.cmpi .slt v324 c0_i32_203
  let c0_i32_204 : BitVec 32 := 0#32
  let v327 : BitVec 1 := Scalar.cmpi .slt v323 c0_i32_204
  let v328 : BitVec 1 := Scalar.xori v326 v327
  let c0_i32_202 : BitVec 32 := 0#32
  let v325 : BitVec 1 := Scalar.cmpi .ne v324 c0_i32_202
  let v329 : BitVec 1 := Scalar.andi v328 v325
  let v330 : BitVec 32 := Scalar.addi v324 v323
  let v331 : BitVec 32 := Scalar.select v329 v330 v324
  let c4_i32_701 : BitVec 32 := 4#32
  let v1093 : BitVec 32 := Scalar.muli v331 c4_i32_701
  let v1094 : BitVec 32 := Scalar.addi v1092 v1093
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_205 : BitVec 32 := 2#32
  let v332 : BitVec 32 := Scalar.addi v8 c2_i32_205
  let c4_i32_206 : BitVec 32 := 4#32
  let c0_i32_207 : BitVec 32 := 0#32
  let v333 : BitVec 1 := Scalar.cmpi .eq c4_i32_206 c0_i32_207
  let c1_i32_208 : BitVec 32 := 1#32
  let v334 : BitVec 32 := Scalar.select v333 c1_i32_208 c4_i32_206
  let v335 : BitVec 32 := Scalar.remsi v332 v334
  let c0_i32_210 : BitVec 32 := 0#32
  let v337 : BitVec 1 := Scalar.cmpi .slt v335 c0_i32_210
  let c0_i32_211 : BitVec 32 := 0#32
  let v338 : BitVec 1 := Scalar.cmpi .slt v334 c0_i32_211
  let v339 : BitVec 1 := Scalar.xori v337 v338
  let c0_i32_209 : BitVec 32 := 0#32
  let v336 : BitVec 1 := Scalar.cmpi .ne v335 c0_i32_209
  let v340 : BitVec 1 := Scalar.andi v339 v336
  let v341 : BitVec 32 := Scalar.addi v335 v334
  let v342 : BitVec 32 := Scalar.select v340 v341 v335
  let c1_i32_702 : BitVec 32 := 1#32
  let v1095 : BitVec 32 := Scalar.muli v342 c1_i32_702
  let v1096 : BitVec 32 := Scalar.addi v1094 v1095
  v1096.toNat
def k0_dev11 (d0 : Dev nD) : Nat :=
  let c0_i32_705 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_212 : BitVec 32 := 0#32
  let v343 : BitVec 32 := Scalar.addi v2 c0_i32_212
  let c2_i32_213 : BitVec 32 := 2#32
  let c0_i32_214 : BitVec 32 := 0#32
  let v344 : BitVec 1 := Scalar.cmpi .eq c2_i32_213 c0_i32_214
  let c1_i32_215 : BitVec 32 := 1#32
  let v345 : BitVec 32 := Scalar.select v344 c1_i32_215 c2_i32_213
  let v346 : BitVec 32 := Scalar.remsi v343 v345
  let c0_i32_217 : BitVec 32 := 0#32
  let v348 : BitVec 1 := Scalar.cmpi .slt v346 c0_i32_217
  let c0_i32_218 : BitVec 32 := 0#32
  let v349 : BitVec 1 := Scalar.cmpi .slt v345 c0_i32_218
  let v350 : BitVec 1 := Scalar.xori v348 v349
  let c0_i32_216 : BitVec 32 := 0#32
  let v347 : BitVec 1 := Scalar.cmpi .ne v346 c0_i32_216
  let v351 : BitVec 1 := Scalar.andi v350 v347
  let v352 : BitVec 32 := Scalar.addi v346 v345
  let v353 : BitVec 32 := Scalar.select v351 v352 v346
  let c16_i32_704 : BitVec 32 := 16#32
  let v1097 : BitVec 32 := Scalar.muli v353 c16_i32_704
  let v1098 : BitVec 32 := Scalar.addi c0_i32_705 v1097
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_219 : BitVec 32 := 2#32
  let v354 : BitVec 32 := Scalar.addi v5 c2_i32_219
  let c4_i32_220 : BitVec 32 := 4#32
  let c0_i32_221 : BitVec 32 := 0#32
  let v355 : BitVec 1 := Scalar.cmpi .eq c4_i32_220 c0_i32_221
  let c1_i32_222 : BitVec 32 := 1#32
  let v356 : BitVec 32 := Scalar.select v355 c1_i32_222 c4_i32_220
  let v357 : BitVec 32 := Scalar.remsi v354 v356
  let c0_i32_224 : BitVec 32 := 0#32
  let v359 : BitVec 1 := Scalar.cmpi .slt v357 c0_i32_224
  let c0_i32_225 : BitVec 32 := 0#32
  let v360 : BitVec 1 := Scalar.cmpi .slt v356 c0_i32_225
  let v361 : BitVec 1 := Scalar.xori v359 v360
  let c0_i32_223 : BitVec 32 := 0#32
  let v358 : BitVec 1 := Scalar.cmpi .ne v357 c0_i32_223
  let v362 : BitVec 1 := Scalar.andi v361 v358
  let v363 : BitVec 32 := Scalar.addi v357 v356
  let v364 : BitVec 32 := Scalar.select v362 v363 v357
  let c4_i32_706 : BitVec 32 := 4#32
  let v1099 : BitVec 32 := Scalar.muli v364 c4_i32_706
  let v1100 : BitVec 32 := Scalar.addi v1098 v1099
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_226 : BitVec 32 := 3#32
  let v365 : BitVec 32 := Scalar.addi v8 c3_i32_226
  let c4_i32_227 : BitVec 32 := 4#32
  let c0_i32_228 : BitVec 32 := 0#32
  let v366 : BitVec 1 := Scalar.cmpi .eq c4_i32_227 c0_i32_228
  let c1_i32_229 : BitVec 32 := 1#32
  let v367 : BitVec 32 := Scalar.select v366 c1_i32_229 c4_i32_227
  let v368 : BitVec 32 := Scalar.remsi v365 v367
  let c0_i32_231 : BitVec 32 := 0#32
  let v370 : BitVec 1 := Scalar.cmpi .slt v368 c0_i32_231
  let c0_i32_232 : BitVec 32 := 0#32
  let v371 : BitVec 1 := Scalar.cmpi .slt v367 c0_i32_232
  let v372 : BitVec 1 := Scalar.xori v370 v371
  let c0_i32_230 : BitVec 32 := 0#32
  let v369 : BitVec 1 := Scalar.cmpi .ne v368 c0_i32_230
  let v373 : BitVec 1 := Scalar.andi v372 v369
  let v374 : BitVec 32 := Scalar.addi v368 v367
  let v375 : BitVec 32 := Scalar.select v373 v374 v368
  let c1_i32_707 : BitVec 32 := 1#32
  let v1101 : BitVec 32 := Scalar.muli v375 c1_i32_707
  let v1102 : BitVec 32 := Scalar.addi v1100 v1101
  v1102.toNat
def k0_dev12 (d0 : Dev nD) : Nat :=
  let c0_i32_710 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_233 : BitVec 32 := 0#32
  let v376 : BitVec 32 := Scalar.addi v2 c0_i32_233
  let c2_i32_234 : BitVec 32 := 2#32
  let c0_i32_235 : BitVec 32 := 0#32
  let v377 : BitVec 1 := Scalar.cmpi .eq c2_i32_234 c0_i32_235
  let c1_i32_236 : BitVec 32 := 1#32
  let v378 : BitVec 32 := Scalar.select v377 c1_i32_236 c2_i32_234
  let v379 : BitVec 32 := Scalar.remsi v376 v378
  let c0_i32_238 : BitVec 32 := 0#32
  let v381 : BitVec 1 := Scalar.cmpi .slt v379 c0_i32_238
  let c0_i32_239 : BitVec 32 := 0#32
  let v382 : BitVec 1 := Scalar.cmpi .slt v378 c0_i32_239
  let v383 : BitVec 1 := Scalar.xori v381 v382
  let c0_i32_237 : BitVec 32 := 0#32
  let v380 : BitVec 1 := Scalar.cmpi .ne v379 c0_i32_237
  let v384 : BitVec 1 := Scalar.andi v383 v380
  let v385 : BitVec 32 := Scalar.addi v379 v378
  let v386 : BitVec 32 := Scalar.select v384 v385 v379
  let c16_i32_709 : BitVec 32 := 16#32
  let v1103 : BitVec 32 := Scalar.muli v386 c16_i32_709
  let v1104 : BitVec 32 := Scalar.addi c0_i32_710 v1103
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_240 : BitVec 32 := 3#32
  let v387 : BitVec 32 := Scalar.addi v5 c3_i32_240
  let c4_i32_241 : BitVec 32 := 4#32
  let c0_i32_242 : BitVec 32 := 0#32
  let v388 : BitVec 1 := Scalar.cmpi .eq c4_i32_241 c0_i32_242
  let c1_i32_243 : BitVec 32 := 1#32
  let v389 : BitVec 32 := Scalar.select v388 c1_i32_243 c4_i32_241
  let v390 : BitVec 32 := Scalar.remsi v387 v389
  let c0_i32_245 : BitVec 32 := 0#32
  let v392 : BitVec 1 := Scalar.cmpi .slt v390 c0_i32_245
  let c0_i32_246 : BitVec 32 := 0#32
  let v393 : BitVec 1 := Scalar.cmpi .slt v389 c0_i32_246
  let v394 : BitVec 1 := Scalar.xori v392 v393
  let c0_i32_244 : BitVec 32 := 0#32
  let v391 : BitVec 1 := Scalar.cmpi .ne v390 c0_i32_244
  let v395 : BitVec 1 := Scalar.andi v394 v391
  let v396 : BitVec 32 := Scalar.addi v390 v389
  let v397 : BitVec 32 := Scalar.select v395 v396 v390
  let c4_i32_711 : BitVec 32 := 4#32
  let v1105 : BitVec 32 := Scalar.muli v397 c4_i32_711
  let v1106 : BitVec 32 := Scalar.addi v1104 v1105
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_247 : BitVec 32 := 0#32
  let v398 : BitVec 32 := Scalar.addi v8 c0_i32_247
  let c4_i32_248 : BitVec 32 := 4#32
  let c0_i32_249 : BitVec 32 := 0#32
  let v399 : BitVec 1 := Scalar.cmpi .eq c4_i32_248 c0_i32_249
  let c1_i32_250 : BitVec 32 := 1#32
  let v400 : BitVec 32 := Scalar.select v399 c1_i32_250 c4_i32_248
  let v401 : BitVec 32 := Scalar.remsi v398 v400
  let c0_i32_252 : BitVec 32 := 0#32
  let v403 : BitVec 1 := Scalar.cmpi .slt v401 c0_i32_252
  let c0_i32_253 : BitVec 32 := 0#32
  let v404 : BitVec 1 := Scalar.cmpi .slt v400 c0_i32_253
  let v405 : BitVec 1 := Scalar.xori v403 v404
  let c0_i32_251 : BitVec 32 := 0#32
  let v402 : BitVec 1 := Scalar.cmpi .ne v401 c0_i32_251
  let v406 : BitVec 1 := Scalar.andi v405 v402
  let v407 : BitVec 32 := Scalar.addi v401 v400
  let v408 : BitVec 32 := Scalar.select v406 v407 v401
  let c1_i32_712 : BitVec 32 := 1#32
  let v1107 : BitVec 32 := Scalar.muli v408 c1_i32_712
  let v1108 : BitVec 32 := Scalar.addi v1106 v1107
  v1108.toNat
def k0_dev13 (d0 : Dev nD) : Nat :=
  let c0_i32_715 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_254 : BitVec 32 := 0#32
  let v409 : BitVec 32 := Scalar.addi v2 c0_i32_254
  let c2_i32_255 : BitVec 32 := 2#32
  let c0_i32_256 : BitVec 32 := 0#32
  let v410 : BitVec 1 := Scalar.cmpi .eq c2_i32_255 c0_i32_256
  let c1_i32_257 : BitVec 32 := 1#32
  let v411 : BitVec 32 := Scalar.select v410 c1_i32_257 c2_i32_255
  let v412 : BitVec 32 := Scalar.remsi v409 v411
  let c0_i32_259 : BitVec 32 := 0#32
  let v414 : BitVec 1 := Scalar.cmpi .slt v412 c0_i32_259
  let c0_i32_260 : BitVec 32 := 0#32
  let v415 : BitVec 1 := Scalar.cmpi .slt v411 c0_i32_260
  let v416 : BitVec 1 := Scalar.xori v414 v415
  let c0_i32_258 : BitVec 32 := 0#32
  let v413 : BitVec 1 := Scalar.cmpi .ne v412 c0_i32_258
  let v417 : BitVec 1 := Scalar.andi v416 v413
  let v418 : BitVec 32 := Scalar.addi v412 v411
  let v419 : BitVec 32 := Scalar.select v417 v418 v412
  let c16_i32_714 : BitVec 32 := 16#32
  let v1109 : BitVec 32 := Scalar.muli v419 c16_i32_714
  let v1110 : BitVec 32 := Scalar.addi c0_i32_715 v1109
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_261 : BitVec 32 := 3#32
  let v420 : BitVec 32 := Scalar.addi v5 c3_i32_261
  let c4_i32_262 : BitVec 32 := 4#32
  let c0_i32_263 : BitVec 32 := 0#32
  let v421 : BitVec 1 := Scalar.cmpi .eq c4_i32_262 c0_i32_263
  let c1_i32_264 : BitVec 32 := 1#32
  let v422 : BitVec 32 := Scalar.select v421 c1_i32_264 c4_i32_262
  let v423 : BitVec 32 := Scalar.remsi v420 v422
  let c0_i32_266 : BitVec 32 := 0#32
  let v425 : BitVec 1 := Scalar.cmpi .slt v423 c0_i32_266
  let c0_i32_267 : BitVec 32 := 0#32
  let v426 : BitVec 1 := Scalar.cmpi .slt v422 c0_i32_267
  let v427 : BitVec 1 := Scalar.xori v425 v426
  let c0_i32_265 : BitVec 32 := 0#32
  let v424 : BitVec 1 := Scalar.cmpi .ne v423 c0_i32_265
  let v428 : BitVec 1 := Scalar.andi v427 v424
  let v429 : BitVec 32 := Scalar.addi v423 v422
  let v430 : BitVec 32 := Scalar.select v428 v429 v423
  let c4_i32_716 : BitVec 32 := 4#32
  let v1111 : BitVec 32 := Scalar.muli v430 c4_i32_716
  let v1112 : BitVec 32 := Scalar.addi v1110 v1111
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_268 : BitVec 32 := 1#32
  let v431 : BitVec 32 := Scalar.addi v8 c1_i32_268
  let c4_i32_269 : BitVec 32 := 4#32
  let c0_i32_270 : BitVec 32 := 0#32
  let v432 : BitVec 1 := Scalar.cmpi .eq c4_i32_269 c0_i32_270
  let c1_i32_271 : BitVec 32 := 1#32
  let v433 : BitVec 32 := Scalar.select v432 c1_i32_271 c4_i32_269
  let v434 : BitVec 32 := Scalar.remsi v431 v433
  let c0_i32_273 : BitVec 32 := 0#32
  let v436 : BitVec 1 := Scalar.cmpi .slt v434 c0_i32_273
  let c0_i32_274 : BitVec 32 := 0#32
  let v437 : BitVec 1 := Scalar.cmpi .slt v433 c0_i32_274
  let v438 : BitVec 1 := Scalar.xori v436 v437
  let c0_i32_272 : BitVec 32 := 0#32
  let v435 : BitVec 1 := Scalar.cmpi .ne v434 c0_i32_272
  let v439 : BitVec 1 := Scalar.andi v438 v435
  let v440 : BitVec 32 := Scalar.addi v434 v433
  let v441 : BitVec 32 := Scalar.select v439 v440 v434
  let c1_i32_717 : BitVec 32 := 1#32
  let v1113 : BitVec 32 := Scalar.muli v441 c1_i32_717
  let v1114 : BitVec 32 := Scalar.addi v1112 v1113
  v1114.toNat
def k0_dev14 (d0 : Dev nD) : Nat :=
  let c0_i32_720 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_275 : BitVec 32 := 0#32
  let v442 : BitVec 32 := Scalar.addi v2 c0_i32_275
  let c2_i32_276 : BitVec 32 := 2#32
  let c0_i32_277 : BitVec 32 := 0#32
  let v443 : BitVec 1 := Scalar.cmpi .eq c2_i32_276 c0_i32_277
  let c1_i32_278 : BitVec 32 := 1#32
  let v444 : BitVec 32 := Scalar.select v443 c1_i32_278 c2_i32_276
  let v445 : BitVec 32 := Scalar.remsi v442 v444
  let c0_i32_280 : BitVec 32 := 0#32
  let v447 : BitVec 1 := Scalar.cmpi .slt v445 c0_i32_280
  let c0_i32_281 : BitVec 32 := 0#32
  let v448 : BitVec 1 := Scalar.cmpi .slt v444 c0_i32_281
  let v449 : BitVec 1 := Scalar.xori v447 v448
  let c0_i32_279 : BitVec 32 := 0#32
  let v446 : BitVec 1 := Scalar.cmpi .ne v445 c0_i32_279
  let v450 : BitVec 1 := Scalar.andi v449 v446
  let v451 : BitVec 32 := Scalar.addi v445 v444
  let v452 : BitVec 32 := Scalar.select v450 v451 v445
  let c16_i32_719 : BitVec 32 := 16#32
  let v1115 : BitVec 32 := Scalar.muli v452 c16_i32_719
  let v1116 : BitVec 32 := Scalar.addi c0_i32_720 v1115
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_282 : BitVec 32 := 3#32
  let v453 : BitVec 32 := Scalar.addi v5 c3_i32_282
  let c4_i32_283 : BitVec 32 := 4#32
  let c0_i32_284 : BitVec 32 := 0#32
  let v454 : BitVec 1 := Scalar.cmpi .eq c4_i32_283 c0_i32_284
  let c1_i32_285 : BitVec 32 := 1#32
  let v455 : BitVec 32 := Scalar.select v454 c1_i32_285 c4_i32_283
  let v456 : BitVec 32 := Scalar.remsi v453 v455
  let c0_i32_287 : BitVec 32 := 0#32
  let v458 : BitVec 1 := Scalar.cmpi .slt v456 c0_i32_287
  let c0_i32_288 : BitVec 32 := 0#32
  let v459 : BitVec 1 := Scalar.cmpi .slt v455 c0_i32_288
  let v460 : BitVec 1 := Scalar.xori v458 v459
  let c0_i32_286 : BitVec 32 := 0#32
  let v457 : BitVec 1 := Scalar.cmpi .ne v456 c0_i32_286
  let v461 : BitVec 1 := Scalar.andi v460 v457
  let v462 : BitVec 32 := Scalar.addi v456 v455
  let v463 : BitVec 32 := Scalar.select v461 v462 v456
  let c4_i32_721 : BitVec 32 := 4#32
  let v1117 : BitVec 32 := Scalar.muli v463 c4_i32_721
  let v1118 : BitVec 32 := Scalar.addi v1116 v1117
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_289 : BitVec 32 := 2#32
  let v464 : BitVec 32 := Scalar.addi v8 c2_i32_289
  let c4_i32_290 : BitVec 32 := 4#32
  let c0_i32_291 : BitVec 32 := 0#32
  let v465 : BitVec 1 := Scalar.cmpi .eq c4_i32_290 c0_i32_291
  let c1_i32_292 : BitVec 32 := 1#32
  let v466 : BitVec 32 := Scalar.select v465 c1_i32_292 c4_i32_290
  let v467 : BitVec 32 := Scalar.remsi v464 v466
  let c0_i32_294 : BitVec 32 := 0#32
  let v469 : BitVec 1 := Scalar.cmpi .slt v467 c0_i32_294
  let c0_i32_295 : BitVec 32 := 0#32
  let v470 : BitVec 1 := Scalar.cmpi .slt v466 c0_i32_295
  let v471 : BitVec 1 := Scalar.xori v469 v470
  let c0_i32_293 : BitVec 32 := 0#32
  let v468 : BitVec 1 := Scalar.cmpi .ne v467 c0_i32_293
  let v472 : BitVec 1 := Scalar.andi v471 v468
  let v473 : BitVec 32 := Scalar.addi v467 v466
  let v474 : BitVec 32 := Scalar.select v472 v473 v467
  let c1_i32_722 : BitVec 32 := 1#32
  let v1119 : BitVec 32 := Scalar.muli v474 c1_i32_722
  let v1120 : BitVec 32 := Scalar.addi v1118 v1119
  v1120.toNat
def k0_dev15 (d0 : Dev nD) : Nat :=
  let c0_i32_725 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_296 : BitVec 32 := 0#32
  let v475 : BitVec 32 := Scalar.addi v2 c0_i32_296
  let c2_i32_297 : BitVec 32 := 2#32
  let c0_i32_298 : BitVec 32 := 0#32
  let v476 : BitVec 1 := Scalar.cmpi .eq c2_i32_297 c0_i32_298
  let c1_i32_299 : BitVec 32 := 1#32
  let v477 : BitVec 32 := Scalar.select v476 c1_i32_299 c2_i32_297
  let v478 : BitVec 32 := Scalar.remsi v475 v477
  let c0_i32_301 : BitVec 32 := 0#32
  let v480 : BitVec 1 := Scalar.cmpi .slt v478 c0_i32_301
  let c0_i32_302 : BitVec 32 := 0#32
  let v481 : BitVec 1 := Scalar.cmpi .slt v477 c0_i32_302
  let v482 : BitVec 1 := Scalar.xori v480 v481
  let c0_i32_300 : BitVec 32 := 0#32
  let v479 : BitVec 1 := Scalar.cmpi .ne v478 c0_i32_300
  let v483 : BitVec 1 := Scalar.andi v482 v479
  let v484 : BitVec 32 := Scalar.addi v478 v477
  let v485 : BitVec 32 := Scalar.select v483 v484 v478
  let c16_i32_724 : BitVec 32 := 16#32
  let v1121 : BitVec 32 := Scalar.muli v485 c16_i32_724
  let v1122 : BitVec 32 := Scalar.addi c0_i32_725 v1121
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_303 : BitVec 32 := 3#32
  let v486 : BitVec 32 := Scalar.addi v5 c3_i32_303
  let c4_i32_304 : BitVec 32 := 4#32
  let c0_i32_305 : BitVec 32 := 0#32
  let v487 : BitVec 1 := Scalar.cmpi .eq c4_i32_304 c0_i32_305
  let c1_i32_306 : BitVec 32 := 1#32
  let v488 : BitVec 32 := Scalar.select v487 c1_i32_306 c4_i32_304
  let v489 : BitVec 32 := Scalar.remsi v486 v488
  let c0_i32_308 : BitVec 32 := 0#32
  let v491 : BitVec 1 := Scalar.cmpi .slt v489 c0_i32_308
  let c0_i32_309 : BitVec 32 := 0#32
  let v492 : BitVec 1 := Scalar.cmpi .slt v488 c0_i32_309
  let v493 : BitVec 1 := Scalar.xori v491 v492
  let c0_i32_307 : BitVec 32 := 0#32
  let v490 : BitVec 1 := Scalar.cmpi .ne v489 c0_i32_307
  let v494 : BitVec 1 := Scalar.andi v493 v490
  let v495 : BitVec 32 := Scalar.addi v489 v488
  let v496 : BitVec 32 := Scalar.select v494 v495 v489
  let c4_i32_726 : BitVec 32 := 4#32
  let v1123 : BitVec 32 := Scalar.muli v496 c4_i32_726
  let v1124 : BitVec 32 := Scalar.addi v1122 v1123
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_310 : BitVec 32 := 3#32
  let v497 : BitVec 32 := Scalar.addi v8 c3_i32_310
  let c4_i32_311 : BitVec 32 := 4#32
  let c0_i32_312 : BitVec 32 := 0#32
  let v498 : BitVec 1 := Scalar.cmpi .eq c4_i32_311 c0_i32_312
  let c1_i32_313 : BitVec 32 := 1#32
  let v499 : BitVec 32 := Scalar.select v498 c1_i32_313 c4_i32_311
  let v500 : BitVec 32 := Scalar.remsi v497 v499
  let c0_i32_315 : BitVec 32 := 0#32
  let v502 : BitVec 1 := Scalar.cmpi .slt v500 c0_i32_315
  let c0_i32_316 : BitVec 32 := 0#32
  let v503 : BitVec 1 := Scalar.cmpi .slt v499 c0_i32_316
  let v504 : BitVec 1 := Scalar.xori v502 v503
  let c0_i32_314 : BitVec 32 := 0#32
  let v501 : BitVec 1 := Scalar.cmpi .ne v500 c0_i32_314
  let v505 : BitVec 1 := Scalar.andi v504 v501
  let v506 : BitVec 32 := Scalar.addi v500 v499
  let v507 : BitVec 32 := Scalar.select v505 v506 v500
  let c1_i32_727 : BitVec 32 := 1#32
  let v1125 : BitVec 32 := Scalar.muli v507 c1_i32_727
  let v1126 : BitVec 32 := Scalar.addi v1124 v1125
  v1126.toNat
def k0_dev16 (d0 : Dev nD) : Nat :=
  let c0_i32_730 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_317 : BitVec 32 := 1#32
  let v508 : BitVec 32 := Scalar.addi v2 c1_i32_317
  let c2_i32_318 : BitVec 32 := 2#32
  let c0_i32_319 : BitVec 32 := 0#32
  let v509 : BitVec 1 := Scalar.cmpi .eq c2_i32_318 c0_i32_319
  let c1_i32_320 : BitVec 32 := 1#32
  let v510 : BitVec 32 := Scalar.select v509 c1_i32_320 c2_i32_318
  let v511 : BitVec 32 := Scalar.remsi v508 v510
  let c0_i32_322 : BitVec 32 := 0#32
  let v513 : BitVec 1 := Scalar.cmpi .slt v511 c0_i32_322
  let c0_i32_323 : BitVec 32 := 0#32
  let v514 : BitVec 1 := Scalar.cmpi .slt v510 c0_i32_323
  let v515 : BitVec 1 := Scalar.xori v513 v514
  let c0_i32_321 : BitVec 32 := 0#32
  let v512 : BitVec 1 := Scalar.cmpi .ne v511 c0_i32_321
  let v516 : BitVec 1 := Scalar.andi v515 v512
  let v517 : BitVec 32 := Scalar.addi v511 v510
  let v518 : BitVec 32 := Scalar.select v516 v517 v511
  let c16_i32_729 : BitVec 32 := 16#32
  let v1127 : BitVec 32 := Scalar.muli v518 c16_i32_729
  let v1128 : BitVec 32 := Scalar.addi c0_i32_730 v1127
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_324 : BitVec 32 := 0#32
  let v519 : BitVec 32 := Scalar.addi v5 c0_i32_324
  let c4_i32_325 : BitVec 32 := 4#32
  let c0_i32_326 : BitVec 32 := 0#32
  let v520 : BitVec 1 := Scalar.cmpi .eq c4_i32_325 c0_i32_326
  let c1_i32_327 : BitVec 32 := 1#32
  let v521 : BitVec 32 := Scalar.select v520 c1_i32_327 c4_i32_325
  let v522 : BitVec 32 := Scalar.remsi v519 v521
  let c0_i32_329 : BitVec 32 := 0#32
  let v524 : BitVec 1 := Scalar.cmpi .slt v522 c0_i32_329
  let c0_i32_330 : BitVec 32 := 0#32
  let v525 : BitVec 1 := Scalar.cmpi .slt v521 c0_i32_330
  let v526 : BitVec 1 := Scalar.xori v524 v525
  let c0_i32_328 : BitVec 32 := 0#32
  let v523 : BitVec 1 := Scalar.cmpi .ne v522 c0_i32_328
  let v527 : BitVec 1 := Scalar.andi v526 v523
  let v528 : BitVec 32 := Scalar.addi v522 v521
  let v529 : BitVec 32 := Scalar.select v527 v528 v522
  let c4_i32_731 : BitVec 32 := 4#32
  let v1129 : BitVec 32 := Scalar.muli v529 c4_i32_731
  let v1130 : BitVec 32 := Scalar.addi v1128 v1129
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_331 : BitVec 32 := 0#32
  let v530 : BitVec 32 := Scalar.addi v8 c0_i32_331
  let c4_i32_332 : BitVec 32 := 4#32
  let c0_i32_333 : BitVec 32 := 0#32
  let v531 : BitVec 1 := Scalar.cmpi .eq c4_i32_332 c0_i32_333
  let c1_i32_334 : BitVec 32 := 1#32
  let v532 : BitVec 32 := Scalar.select v531 c1_i32_334 c4_i32_332
  let v533 : BitVec 32 := Scalar.remsi v530 v532
  let c0_i32_336 : BitVec 32 := 0#32
  let v535 : BitVec 1 := Scalar.cmpi .slt v533 c0_i32_336
  let c0_i32_337 : BitVec 32 := 0#32
  let v536 : BitVec 1 := Scalar.cmpi .slt v532 c0_i32_337
  let v537 : BitVec 1 := Scalar.xori v535 v536
  let c0_i32_335 : BitVec 32 := 0#32
  let v534 : BitVec 1 := Scalar.cmpi .ne v533 c0_i32_335
  let v538 : BitVec 1 := Scalar.andi v537 v534
  let v539 : BitVec 32 := Scalar.addi v533 v532
  let v540 : BitVec 32 := Scalar.select v538 v539 v533
  let c1_i32_732 : BitVec 32 := 1#32
  let v1131 : BitVec 32 := Scalar.muli v540 c1_i32_732
  let v1132 : BitVec 32 := Scalar.addi v1130 v1131
  v1132.toNat
def k0_dev17 (d0 : Dev nD) : Nat :=
  let c0_i32_735 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_338 : BitVec 32 := 1#32
  let v541 : BitVec 32 := Scalar.addi v2 c1_i32_338
  let c2_i32_339 : BitVec 32 := 2#32
  let c0_i32_340 : BitVec 32 := 0#32
  let v542 : BitVec 1 := Scalar.cmpi .eq c2_i32_339 c0_i32_340
  let c1_i32_341 : BitVec 32 := 1#32
  let v543 : BitVec 32 := Scalar.select v542 c1_i32_341 c2_i32_339
  let v544 : BitVec 32 := Scalar.remsi v541 v543
  let c0_i32_343 : BitVec 32 := 0#32
  let v546 : BitVec 1 := Scalar.cmpi .slt v544 c0_i32_343
  let c0_i32_344 : BitVec 32 := 0#32
  let v547 : BitVec 1 := Scalar.cmpi .slt v543 c0_i32_344
  let v548 : BitVec 1 := Scalar.xori v546 v547
  let c0_i32_342 : BitVec 32 := 0#32
  let v545 : BitVec 1 := Scalar.cmpi .ne v544 c0_i32_342
  let v549 : BitVec 1 := Scalar.andi v548 v545
  let v550 : BitVec 32 := Scalar.addi v544 v543
  let v551 : BitVec 32 := Scalar.select v549 v550 v544
  let c16_i32_734 : BitVec 32 := 16#32
  let v1133 : BitVec 32 := Scalar.muli v551 c16_i32_734
  let v1134 : BitVec 32 := Scalar.addi c0_i32_735 v1133
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_345 : BitVec 32 := 0#32
  let v552 : BitVec 32 := Scalar.addi v5 c0_i32_345
  let c4_i32_346 : BitVec 32 := 4#32
  let c0_i32_347 : BitVec 32 := 0#32
  let v553 : BitVec 1 := Scalar.cmpi .eq c4_i32_346 c0_i32_347
  let c1_i32_348 : BitVec 32 := 1#32
  let v554 : BitVec 32 := Scalar.select v553 c1_i32_348 c4_i32_346
  let v555 : BitVec 32 := Scalar.remsi v552 v554
  let c0_i32_350 : BitVec 32 := 0#32
  let v557 : BitVec 1 := Scalar.cmpi .slt v555 c0_i32_350
  let c0_i32_351 : BitVec 32 := 0#32
  let v558 : BitVec 1 := Scalar.cmpi .slt v554 c0_i32_351
  let v559 : BitVec 1 := Scalar.xori v557 v558
  let c0_i32_349 : BitVec 32 := 0#32
  let v556 : BitVec 1 := Scalar.cmpi .ne v555 c0_i32_349
  let v560 : BitVec 1 := Scalar.andi v559 v556
  let v561 : BitVec 32 := Scalar.addi v555 v554
  let v562 : BitVec 32 := Scalar.select v560 v561 v555
  let c4_i32_736 : BitVec 32 := 4#32
  let v1135 : BitVec 32 := Scalar.muli v562 c4_i32_736
  let v1136 : BitVec 32 := Scalar.addi v1134 v1135
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_352 : BitVec 32 := 1#32
  let v563 : BitVec 32 := Scalar.addi v8 c1_i32_352
  let c4_i32_353 : BitVec 32 := 4#32
  let c0_i32_354 : BitVec 32 := 0#32
  let v564 : BitVec 1 := Scalar.cmpi .eq c4_i32_353 c0_i32_354
  let c1_i32_355 : BitVec 32 := 1#32
  let v565 : BitVec 32 := Scalar.select v564 c1_i32_355 c4_i32_353
  let v566 : BitVec 32 := Scalar.remsi v563 v565
  let c0_i32_357 : BitVec 32 := 0#32
  let v568 : BitVec 1 := Scalar.cmpi .slt v566 c0_i32_357
  let c0_i32_358 : BitVec 32 := 0#32
  let v569 : BitVec 1 := Scalar.cmpi .slt v565 c0_i32_358
  let v570 : BitVec 1 := Scalar.xori v568 v569
  let c0_i32_356 : BitVec 32 := 0#32
  let v567 : BitVec 1 := Scalar.cmpi .ne v566 c0_i32_356
  let v571 : BitVec 1 := Scalar.andi v570 v567
  let v572 : BitVec 32 := Scalar.addi v566 v565
  let v573 : BitVec 32 := Scalar.select v571 v572 v566
  let c1_i32_737 : BitVec 32 := 1#32
  let v1137 : BitVec 32 := Scalar.muli v573 c1_i32_737
  let v1138 : BitVec 32 := Scalar.addi v1136 v1137
  v1138.toNat
def k0_dev18 (d0 : Dev nD) : Nat :=
  let c0_i32_740 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_359 : BitVec 32 := 1#32
  let v574 : BitVec 32 := Scalar.addi v2 c1_i32_359
  let c2_i32_360 : BitVec 32 := 2#32
  let c0_i32_361 : BitVec 32 := 0#32
  let v575 : BitVec 1 := Scalar.cmpi .eq c2_i32_360 c0_i32_361
  let c1_i32_362 : BitVec 32 := 1#32
  let v576 : BitVec 32 := Scalar.select v575 c1_i32_362 c2_i32_360
  let v577 : BitVec 32 := Scalar.remsi v574 v576
  let c0_i32_364 : BitVec 32 := 0#32
  let v579 : BitVec 1 := Scalar.cmpi .slt v577 c0_i32_364
  let c0_i32_365 : BitVec 32 := 0#32
  let v580 : BitVec 1 := Scalar.cmpi .slt v576 c0_i32_365
  let v581 : BitVec 1 := Scalar.xori v579 v580
  let c0_i32_363 : BitVec 32 := 0#32
  let v578 : BitVec 1 := Scalar.cmpi .ne v577 c0_i32_363
  let v582 : BitVec 1 := Scalar.andi v581 v578
  let v583 : BitVec 32 := Scalar.addi v577 v576
  let v584 : BitVec 32 := Scalar.select v582 v583 v577
  let c16_i32_739 : BitVec 32 := 16#32
  let v1139 : BitVec 32 := Scalar.muli v584 c16_i32_739
  let v1140 : BitVec 32 := Scalar.addi c0_i32_740 v1139
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_366 : BitVec 32 := 0#32
  let v585 : BitVec 32 := Scalar.addi v5 c0_i32_366
  let c4_i32_367 : BitVec 32 := 4#32
  let c0_i32_368 : BitVec 32 := 0#32
  let v586 : BitVec 1 := Scalar.cmpi .eq c4_i32_367 c0_i32_368
  let c1_i32_369 : BitVec 32 := 1#32
  let v587 : BitVec 32 := Scalar.select v586 c1_i32_369 c4_i32_367
  let v588 : BitVec 32 := Scalar.remsi v585 v587
  let c0_i32_371 : BitVec 32 := 0#32
  let v590 : BitVec 1 := Scalar.cmpi .slt v588 c0_i32_371
  let c0_i32_372 : BitVec 32 := 0#32
  let v591 : BitVec 1 := Scalar.cmpi .slt v587 c0_i32_372
  let v592 : BitVec 1 := Scalar.xori v590 v591
  let c0_i32_370 : BitVec 32 := 0#32
  let v589 : BitVec 1 := Scalar.cmpi .ne v588 c0_i32_370
  let v593 : BitVec 1 := Scalar.andi v592 v589
  let v594 : BitVec 32 := Scalar.addi v588 v587
  let v595 : BitVec 32 := Scalar.select v593 v594 v588
  let c4_i32_741 : BitVec 32 := 4#32
  let v1141 : BitVec 32 := Scalar.muli v595 c4_i32_741
  let v1142 : BitVec 32 := Scalar.addi v1140 v1141
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_373 : BitVec 32 := 2#32
  let v596 : BitVec 32 := Scalar.addi v8 c2_i32_373
  let c4_i32_374 : BitVec 32 := 4#32
  let c0_i32_375 : BitVec 32 := 0#32
  let v597 : BitVec 1 := Scalar.cmpi .eq c4_i32_374 c0_i32_375
  let c1_i32_376 : BitVec 32 := 1#32
  let v598 : BitVec 32 := Scalar.select v597 c1_i32_376 c4_i32_374
  let v599 : BitVec 32 := Scalar.remsi v596 v598
  let c0_i32_378 : BitVec 32 := 0#32
  let v601 : BitVec 1 := Scalar.cmpi .slt v599 c0_i32_378
  let c0_i32_379 : BitVec 32 := 0#32
  let v602 : BitVec 1 := Scalar.cmpi .slt v598 c0_i32_379
  let v603 : BitVec 1 := Scalar.xori v601 v602
  let c0_i32_377 : BitVec 32 := 0#32
  let v600 : BitVec 1 := Scalar.cmpi .ne v599 c0_i32_377
  let v604 : BitVec 1 := Scalar.andi v603 v600
  let v605 : BitVec 32 := Scalar.addi v599 v598
  let v606 : BitVec 32 := Scalar.select v604 v605 v599
  let c1_i32_742 : BitVec 32 := 1#32
  let v1143 : BitVec 32 := Scalar.muli v606 c1_i32_742
  let v1144 : BitVec 32 := Scalar.addi v1142 v1143
  v1144.toNat
def k0_dev19 (d0 : Dev nD) : Nat :=
  let c0_i32_745 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_380 : BitVec 32 := 1#32
  let v607 : BitVec 32 := Scalar.addi v2 c1_i32_380
  let c2_i32_381 : BitVec 32 := 2#32
  let c0_i32_382 : BitVec 32 := 0#32
  let v608 : BitVec 1 := Scalar.cmpi .eq c2_i32_381 c0_i32_382
  let c1_i32_383 : BitVec 32 := 1#32
  let v609 : BitVec 32 := Scalar.select v608 c1_i32_383 c2_i32_381
  let v610 : BitVec 32 := Scalar.remsi v607 v609
  let c0_i32_385 : BitVec 32 := 0#32
  let v612 : BitVec 1 := Scalar.cmpi .slt v610 c0_i32_385
  let c0_i32_386 : BitVec 32 := 0#32
  let v613 : BitVec 1 := Scalar.cmpi .slt v609 c0_i32_386
  let v614 : BitVec 1 := Scalar.xori v612 v613
  let c0_i32_384 : BitVec 32 := 0#32
  let v611 : BitVec 1 := Scalar.cmpi .ne v610 c0_i32_384
  let v615 : BitVec 1 := Scalar.andi v614 v611
  let v616 : BitVec 32 := Scalar.addi v610 v609
  let v617 : BitVec 32 := Scalar.select v615 v616 v610
  let c16_i32_744 : BitVec 32 := 16#32
  let v1145 : BitVec 32 := Scalar.muli v617 c16_i32_744
  let v1146 : BitVec 32 := Scalar.addi c0_i32_745 v1145
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_387 : BitVec 32 := 0#32
  let v618 : BitVec 32 := Scalar.addi v5 c0_i32_387
  let c4_i32_388 : BitVec 32 := 4#32
  let c0_i32_389 : BitVec 32 := 0#32
  let v619 : BitVec 1 := Scalar.cmpi .eq c4_i32_388 c0_i32_389
  let c1_i32_390 : BitVec 32 := 1#32
  let v620 : BitVec 32 := Scalar.select v619 c1_i32_390 c4_i32_388
  let v621 : BitVec 32 := Scalar.remsi v618 v620
  let c0_i32_392 : BitVec 32 := 0#32
  let v623 : BitVec 1 := Scalar.cmpi .slt v621 c0_i32_392
  let c0_i32_393 : BitVec 32 := 0#32
  let v624 : BitVec 1 := Scalar.cmpi .slt v620 c0_i32_393
  let v625 : BitVec 1 := Scalar.xori v623 v624
  let c0_i32_391 : BitVec 32 := 0#32
  let v622 : BitVec 1 := Scalar.cmpi .ne v621 c0_i32_391
  let v626 : BitVec 1 := Scalar.andi v625 v622
  let v627 : BitVec 32 := Scalar.addi v621 v620
  let v628 : BitVec 32 := Scalar.select v626 v627 v621
  let c4_i32_746 : BitVec 32 := 4#32
  let v1147 : BitVec 32 := Scalar.muli v628 c4_i32_746
  let v1148 : BitVec 32 := Scalar.addi v1146 v1147
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_394 : BitVec 32 := 3#32
  let v629 : BitVec 32 := Scalar.addi v8 c3_i32_394
  let c4_i32_395 : BitVec 32 := 4#32
  let c0_i32_396 : BitVec 32 := 0#32
  let v630 : BitVec 1 := Scalar.cmpi .eq c4_i32_395 c0_i32_396
  let c1_i32_397 : BitVec 32 := 1#32
  let v631 : BitVec 32 := Scalar.select v630 c1_i32_397 c4_i32_395
  let v632 : BitVec 32 := Scalar.remsi v629 v631
  let c0_i32_399 : BitVec 32 := 0#32
  let v634 : BitVec 1 := Scalar.cmpi .slt v632 c0_i32_399
  let c0_i32_400 : BitVec 32 := 0#32
  let v635 : BitVec 1 := Scalar.cmpi .slt v631 c0_i32_400
  let v636 : BitVec 1 := Scalar.xori v634 v635
  let c0_i32_398 : BitVec 32 := 0#32
  let v633 : BitVec 1 := Scalar.cmpi .ne v632 c0_i32_398
  let v637 : BitVec 1 := Scalar.andi v636 v633
  let v638 : BitVec 32 := Scalar.addi v632 v631
  let v639 : BitVec 32 := Scalar.select v637 v638 v632
  let c1_i32_747 : BitVec 32 := 1#32
  let v1149 : BitVec 32 := Scalar.muli v639 c1_i32_747
  let v1150 : BitVec 32 := Scalar.addi v1148 v1149
  v1150.toNat
def k0_dev20 (d0 : Dev nD) : Nat :=
  let c0_i32_750 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_401 : BitVec 32 := 1#32
  let v640 : BitVec 32 := Scalar.addi v2 c1_i32_401
  let c2_i32_402 : BitVec 32 := 2#32
  let c0_i32_403 : BitVec 32 := 0#32
  let v641 : BitVec 1 := Scalar.cmpi .eq c2_i32_402 c0_i32_403
  let c1_i32_404 : BitVec 32 := 1#32
  let v642 : BitVec 32 := Scalar.select v641 c1_i32_404 c2_i32_402
  let v643 : BitVec 32 := Scalar.remsi v640 v642
  let c0_i32_406 : BitVec 32 := 0#32
  let v645 : BitVec 1 := Scalar.cmpi .slt v643 c0_i32_406
  let c0_i32_407 : BitVec 32 := 0#32
  let v646 : BitVec 1 := Scalar.cmpi .slt v642 c0_i32_407
  let v647 : BitVec 1 := Scalar.xori v645 v646
  let c0_i32_405 : BitVec 32 := 0#32
  let v644 : BitVec 1 := Scalar.cmpi .ne v643 c0_i32_405
  let v648 : BitVec 1 := Scalar.andi v647 v644
  let v649 : BitVec 32 := Scalar.addi v643 v642
  let v650 : BitVec 32 := Scalar.select v648 v649 v643
  let c16_i32_749 : BitVec 32 := 16#32
  let v1151 : BitVec 32 := Scalar.muli v650 c16_i32_749
  let v1152 : BitVec 32 := Scalar.addi c0_i32_750 v1151
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_408 : BitVec 32 := 1#32
  let v651 : BitVec 32 := Scalar.addi v5 c1_i32_408
  let c4_i32_409 : BitVec 32 := 4#32
  let c0_i32_410 : BitVec 32 := 0#32
  let v652 : BitVec 1 := Scalar.cmpi .eq c4_i32_409 c0_i32_410
  let c1_i32_411 : BitVec 32 := 1#32
  let v653 : BitVec 32 := Scalar.select v652 c1_i32_411 c4_i32_409
  let v654 : BitVec 32 := Scalar.remsi v651 v653
  let c0_i32_413 : BitVec 32 := 0#32
  let v656 : BitVec 1 := Scalar.cmpi .slt v654 c0_i32_413
  let c0_i32_414 : BitVec 32 := 0#32
  let v657 : BitVec 1 := Scalar.cmpi .slt v653 c0_i32_414
  let v658 : BitVec 1 := Scalar.xori v656 v657
  let c0_i32_412 : BitVec 32 := 0#32
  let v655 : BitVec 1 := Scalar.cmpi .ne v654 c0_i32_412
  let v659 : BitVec 1 := Scalar.andi v658 v655
  let v660 : BitVec 32 := Scalar.addi v654 v653
  let v661 : BitVec 32 := Scalar.select v659 v660 v654
  let c4_i32_751 : BitVec 32 := 4#32
  let v1153 : BitVec 32 := Scalar.muli v661 c4_i32_751
  let v1154 : BitVec 32 := Scalar.addi v1152 v1153
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_415 : BitVec 32 := 0#32
  let v662 : BitVec 32 := Scalar.addi v8 c0_i32_415
  let c4_i32_416 : BitVec 32 := 4#32
  let c0_i32_417 : BitVec 32 := 0#32
  let v663 : BitVec 1 := Scalar.cmpi .eq c4_i32_416 c0_i32_417
  let c1_i32_418 : BitVec 32 := 1#32
  let v664 : BitVec 32 := Scalar.select v663 c1_i32_418 c4_i32_416
  let v665 : BitVec 32 := Scalar.remsi v662 v664
  let c0_i32_420 : BitVec 32 := 0#32
  let v667 : BitVec 1 := Scalar.cmpi .slt v665 c0_i32_420
  let c0_i32_421 : BitVec 32 := 0#32
  let v668 : BitVec 1 := Scalar.cmpi .slt v664 c0_i32_421
  let v669 : BitVec 1 := Scalar.xori v667 v668
  let c0_i32_419 : BitVec 32 := 0#32
  let v666 : BitVec 1 := Scalar.cmpi .ne v665 c0_i32_419
  let v670 : BitVec 1 := Scalar.andi v669 v666
  let v671 : BitVec 32 := Scalar.addi v665 v664
  let v672 : BitVec 32 := Scalar.select v670 v671 v665
  let c1_i32_752 : BitVec 32 := 1#32
  let v1155 : BitVec 32 := Scalar.muli v672 c1_i32_752
  let v1156 : BitVec 32 := Scalar.addi v1154 v1155
  v1156.toNat
def k0_dev21 (d0 : Dev nD) : Nat :=
  let c0_i32_755 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_422 : BitVec 32 := 1#32
  let v673 : BitVec 32 := Scalar.addi v2 c1_i32_422
  let c2_i32_423 : BitVec 32 := 2#32
  let c0_i32_424 : BitVec 32 := 0#32
  let v674 : BitVec 1 := Scalar.cmpi .eq c2_i32_423 c0_i32_424
  let c1_i32_425 : BitVec 32 := 1#32
  let v675 : BitVec 32 := Scalar.select v674 c1_i32_425 c2_i32_423
  let v676 : BitVec 32 := Scalar.remsi v673 v675
  let c0_i32_427 : BitVec 32 := 0#32
  let v678 : BitVec 1 := Scalar.cmpi .slt v676 c0_i32_427
  let c0_i32_428 : BitVec 32 := 0#32
  let v679 : BitVec 1 := Scalar.cmpi .slt v675 c0_i32_428
  let v680 : BitVec 1 := Scalar.xori v678 v679
  let c0_i32_426 : BitVec 32 := 0#32
  let v677 : BitVec 1 := Scalar.cmpi .ne v676 c0_i32_426
  let v681 : BitVec 1 := Scalar.andi v680 v677
  let v682 : BitVec 32 := Scalar.addi v676 v675
  let v683 : BitVec 32 := Scalar.select v681 v682 v676
  let c16_i32_754 : BitVec 32 := 16#32
  let v1157 : BitVec 32 := Scalar.muli v683 c16_i32_754
  let v1158 : BitVec 32 := Scalar.addi c0_i32_755 v1157
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_429 : BitVec 32 := 1#32
  let v684 : BitVec 32 := Scalar.addi v5 c1_i32_429
  let c4_i32_430 : BitVec 32 := 4#32
  let c0_i32_431 : BitVec 32 := 0#32
  let v685 : BitVec 1 := Scalar.cmpi .eq c4_i32_430 c0_i32_431
  let c1_i32_432 : BitVec 32 := 1#32
  let v686 : BitVec 32 := Scalar.select v685 c1_i32_432 c4_i32_430
  let v687 : BitVec 32 := Scalar.remsi v684 v686
  let c0_i32_434 : BitVec 32 := 0#32
  let v689 : BitVec 1 := Scalar.cmpi .slt v687 c0_i32_434
  let c0_i32_435 : BitVec 32 := 0#32
  let v690 : BitVec 1 := Scalar.cmpi .slt v686 c0_i32_435
  let v691 : BitVec 1 := Scalar.xori v689 v690
  let c0_i32_433 : BitVec 32 := 0#32
  let v688 : BitVec 1 := Scalar.cmpi .ne v687 c0_i32_433
  let v692 : BitVec 1 := Scalar.andi v691 v688
  let v693 : BitVec 32 := Scalar.addi v687 v686
  let v694 : BitVec 32 := Scalar.select v692 v693 v687
  let c4_i32_756 : BitVec 32 := 4#32
  let v1159 : BitVec 32 := Scalar.muli v694 c4_i32_756
  let v1160 : BitVec 32 := Scalar.addi v1158 v1159
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_436 : BitVec 32 := 1#32
  let v695 : BitVec 32 := Scalar.addi v8 c1_i32_436
  let c4_i32_437 : BitVec 32 := 4#32
  let c0_i32_438 : BitVec 32 := 0#32
  let v696 : BitVec 1 := Scalar.cmpi .eq c4_i32_437 c0_i32_438
  let c1_i32_439 : BitVec 32 := 1#32
  let v697 : BitVec 32 := Scalar.select v696 c1_i32_439 c4_i32_437
  let v698 : BitVec 32 := Scalar.remsi v695 v697
  let c0_i32_441 : BitVec 32 := 0#32
  let v700 : BitVec 1 := Scalar.cmpi .slt v698 c0_i32_441
  let c0_i32_442 : BitVec 32 := 0#32
  let v701 : BitVec 1 := Scalar.cmpi .slt v697 c0_i32_442
  let v702 : BitVec 1 := Scalar.xori v700 v701
  let c0_i32_440 : BitVec 32 := 0#32
  let v699 : BitVec 1 := Scalar.cmpi .ne v698 c0_i32_440
  let v703 : BitVec 1 := Scalar.andi v702 v699
  let v704 : BitVec 32 := Scalar.addi v698 v697
  let v705 : BitVec 32 := Scalar.select v703 v704 v698
  let c1_i32_757 : BitVec 32 := 1#32
  let v1161 : BitVec 32 := Scalar.muli v705 c1_i32_757
  let v1162 : BitVec 32 := Scalar.addi v1160 v1161
  v1162.toNat
def k0_dev22 (d0 : Dev nD) : Nat :=
  let c0_i32_760 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_443 : BitVec 32 := 1#32
  let v706 : BitVec 32 := Scalar.addi v2 c1_i32_443
  let c2_i32_444 : BitVec 32 := 2#32
  let c0_i32_445 : BitVec 32 := 0#32
  let v707 : BitVec 1 := Scalar.cmpi .eq c2_i32_444 c0_i32_445
  let c1_i32_446 : BitVec 32 := 1#32
  let v708 : BitVec 32 := Scalar.select v707 c1_i32_446 c2_i32_444
  let v709 : BitVec 32 := Scalar.remsi v706 v708
  let c0_i32_448 : BitVec 32 := 0#32
  let v711 : BitVec 1 := Scalar.cmpi .slt v709 c0_i32_448
  let c0_i32_449 : BitVec 32 := 0#32
  let v712 : BitVec 1 := Scalar.cmpi .slt v708 c0_i32_449
  let v713 : BitVec 1 := Scalar.xori v711 v712
  let c0_i32_447 : BitVec 32 := 0#32
  let v710 : BitVec 1 := Scalar.cmpi .ne v709 c0_i32_447
  let v714 : BitVec 1 := Scalar.andi v713 v710
  let v715 : BitVec 32 := Scalar.addi v709 v708
  let v716 : BitVec 32 := Scalar.select v714 v715 v709
  let c16_i32_759 : BitVec 32 := 16#32
  let v1163 : BitVec 32 := Scalar.muli v716 c16_i32_759
  let v1164 : BitVec 32 := Scalar.addi c0_i32_760 v1163
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_450 : BitVec 32 := 1#32
  let v717 : BitVec 32 := Scalar.addi v5 c1_i32_450
  let c4_i32_451 : BitVec 32 := 4#32
  let c0_i32_452 : BitVec 32 := 0#32
  let v718 : BitVec 1 := Scalar.cmpi .eq c4_i32_451 c0_i32_452
  let c1_i32_453 : BitVec 32 := 1#32
  let v719 : BitVec 32 := Scalar.select v718 c1_i32_453 c4_i32_451
  let v720 : BitVec 32 := Scalar.remsi v717 v719
  let c0_i32_455 : BitVec 32 := 0#32
  let v722 : BitVec 1 := Scalar.cmpi .slt v720 c0_i32_455
  let c0_i32_456 : BitVec 32 := 0#32
  let v723 : BitVec 1 := Scalar.cmpi .slt v719 c0_i32_456
  let v724 : BitVec 1 := Scalar.xori v722 v723
  let c0_i32_454 : BitVec 32 := 0#32
  let v721 : BitVec 1 := Scalar.cmpi .ne v720 c0_i32_454
  let v725 : BitVec 1 := Scalar.andi v724 v721
  let v726 : BitVec 32 := Scalar.addi v720 v719
  let v727 : BitVec 32 := Scalar.select v725 v726 v720
  let c4_i32_761 : BitVec 32 := 4#32
  let v1165 : BitVec 32 := Scalar.muli v727 c4_i32_761
  let v1166 : BitVec 32 := Scalar.addi v1164 v1165
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_457 : BitVec 32 := 2#32
  let v728 : BitVec 32 := Scalar.addi v8 c2_i32_457
  let c4_i32_458 : BitVec 32 := 4#32
  let c0_i32_459 : BitVec 32 := 0#32
  let v729 : BitVec 1 := Scalar.cmpi .eq c4_i32_458 c0_i32_459
  let c1_i32_460 : BitVec 32 := 1#32
  let v730 : BitVec 32 := Scalar.select v729 c1_i32_460 c4_i32_458
  let v731 : BitVec 32 := Scalar.remsi v728 v730
  let c0_i32_462 : BitVec 32 := 0#32
  let v733 : BitVec 1 := Scalar.cmpi .slt v731 c0_i32_462
  let c0_i32_463 : BitVec 32 := 0#32
  let v734 : BitVec 1 := Scalar.cmpi .slt v730 c0_i32_463
  let v735 : BitVec 1 := Scalar.xori v733 v734
  let c0_i32_461 : BitVec 32 := 0#32
  let v732 : BitVec 1 := Scalar.cmpi .ne v731 c0_i32_461
  let v736 : BitVec 1 := Scalar.andi v735 v732
  let v737 : BitVec 32 := Scalar.addi v731 v730
  let v738 : BitVec 32 := Scalar.select v736 v737 v731
  let c1_i32_762 : BitVec 32 := 1#32
  let v1167 : BitVec 32 := Scalar.muli v738 c1_i32_762
  let v1168 : BitVec 32 := Scalar.addi v1166 v1167
  v1168.toNat
def k0_dev23 (d0 : Dev nD) : Nat :=
  let c0_i32_765 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_464 : BitVec 32 := 1#32
  let v739 : BitVec 32 := Scalar.addi v2 c1_i32_464
  let c2_i32_465 : BitVec 32 := 2#32
  let c0_i32_466 : BitVec 32 := 0#32
  let v740 : BitVec 1 := Scalar.cmpi .eq c2_i32_465 c0_i32_466
  let c1_i32_467 : BitVec 32 := 1#32
  let v741 : BitVec 32 := Scalar.select v740 c1_i32_467 c2_i32_465
  let v742 : BitVec 32 := Scalar.remsi v739 v741
  let c0_i32_469 : BitVec 32 := 0#32
  let v744 : BitVec 1 := Scalar.cmpi .slt v742 c0_i32_469
  let c0_i32_470 : BitVec 32 := 0#32
  let v745 : BitVec 1 := Scalar.cmpi .slt v741 c0_i32_470
  let v746 : BitVec 1 := Scalar.xori v744 v745
  let c0_i32_468 : BitVec 32 := 0#32
  let v743 : BitVec 1 := Scalar.cmpi .ne v742 c0_i32_468
  let v747 : BitVec 1 := Scalar.andi v746 v743
  let v748 : BitVec 32 := Scalar.addi v742 v741
  let v749 : BitVec 32 := Scalar.select v747 v748 v742
  let c16_i32_764 : BitVec 32 := 16#32
  let v1169 : BitVec 32 := Scalar.muli v749 c16_i32_764
  let v1170 : BitVec 32 := Scalar.addi c0_i32_765 v1169
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_471 : BitVec 32 := 1#32
  let v750 : BitVec 32 := Scalar.addi v5 c1_i32_471
  let c4_i32_472 : BitVec 32 := 4#32
  let c0_i32_473 : BitVec 32 := 0#32
  let v751 : BitVec 1 := Scalar.cmpi .eq c4_i32_472 c0_i32_473
  let c1_i32_474 : BitVec 32 := 1#32
  let v752 : BitVec 32 := Scalar.select v751 c1_i32_474 c4_i32_472
  let v753 : BitVec 32 := Scalar.remsi v750 v752
  let c0_i32_476 : BitVec 32 := 0#32
  let v755 : BitVec 1 := Scalar.cmpi .slt v753 c0_i32_476
  let c0_i32_477 : BitVec 32 := 0#32
  let v756 : BitVec 1 := Scalar.cmpi .slt v752 c0_i32_477
  let v757 : BitVec 1 := Scalar.xori v755 v756
  let c0_i32_475 : BitVec 32 := 0#32
  let v754 : BitVec 1 := Scalar.cmpi .ne v753 c0_i32_475
  let v758 : BitVec 1 := Scalar.andi v757 v754
  let v759 : BitVec 32 := Scalar.addi v753 v752
  let v760 : BitVec 32 := Scalar.select v758 v759 v753
  let c4_i32_766 : BitVec 32 := 4#32
  let v1171 : BitVec 32 := Scalar.muli v760 c4_i32_766
  let v1172 : BitVec 32 := Scalar.addi v1170 v1171
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_478 : BitVec 32 := 3#32
  let v761 : BitVec 32 := Scalar.addi v8 c3_i32_478
  let c4_i32_479 : BitVec 32 := 4#32
  let c0_i32_480 : BitVec 32 := 0#32
  let v762 : BitVec 1 := Scalar.cmpi .eq c4_i32_479 c0_i32_480
  let c1_i32_481 : BitVec 32 := 1#32
  let v763 : BitVec 32 := Scalar.select v762 c1_i32_481 c4_i32_479
  let v764 : BitVec 32 := Scalar.remsi v761 v763
  let c0_i32_483 : BitVec 32 := 0#32
  let v766 : BitVec 1 := Scalar.cmpi .slt v764 c0_i32_483
  let c0_i32_484 : BitVec 32 := 0#32
  let v767 : BitVec 1 := Scalar.cmpi .slt v763 c0_i32_484
  let v768 : BitVec 1 := Scalar.xori v766 v767
  let c0_i32_482 : BitVec 32 := 0#32
  let v765 : BitVec 1 := Scalar.cmpi .ne v764 c0_i32_482
  let v769 : BitVec 1 := Scalar.andi v768 v765
  let v770 : BitVec 32 := Scalar.addi v764 v763
  let v771 : BitVec 32 := Scalar.select v769 v770 v764
  let c1_i32_767 : BitVec 32 := 1#32
  let v1173 : BitVec 32 := Scalar.muli v771 c1_i32_767
  let v1174 : BitVec 32 := Scalar.addi v1172 v1173
  v1174.toNat
def k0_dev24 (d0 : Dev nD) : Nat :=
  let c0_i32_770 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_485 : BitVec 32 := 1#32
  let v772 : BitVec 32 := Scalar.addi v2 c1_i32_485
  let c2_i32_486 : BitVec 32 := 2#32
  let c0_i32_487 : BitVec 32 := 0#32
  let v773 : BitVec 1 := Scalar.cmpi .eq c2_i32_486 c0_i32_487
  let c1_i32_488 : BitVec 32 := 1#32
  let v774 : BitVec 32 := Scalar.select v773 c1_i32_488 c2_i32_486
  let v775 : BitVec 32 := Scalar.remsi v772 v774
  let c0_i32_490 : BitVec 32 := 0#32
  let v777 : BitVec 1 := Scalar.cmpi .slt v775 c0_i32_490
  let c0_i32_491 : BitVec 32 := 0#32
  let v778 : BitVec 1 := Scalar.cmpi .slt v774 c0_i32_491
  let v779 : BitVec 1 := Scalar.xori v777 v778
  let c0_i32_489 : BitVec 32 := 0#32
  let v776 : BitVec 1 := Scalar.cmpi .ne v775 c0_i32_489
  let v780 : BitVec 1 := Scalar.andi v779 v776
  let v781 : BitVec 32 := Scalar.addi v775 v774
  let v782 : BitVec 32 := Scalar.select v780 v781 v775
  let c16_i32_769 : BitVec 32 := 16#32
  let v1175 : BitVec 32 := Scalar.muli v782 c16_i32_769
  let v1176 : BitVec 32 := Scalar.addi c0_i32_770 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_492 : BitVec 32 := 2#32
  let v783 : BitVec 32 := Scalar.addi v5 c2_i32_492
  let c4_i32_493 : BitVec 32 := 4#32
  let c0_i32_494 : BitVec 32 := 0#32
  let v784 : BitVec 1 := Scalar.cmpi .eq c4_i32_493 c0_i32_494
  let c1_i32_495 : BitVec 32 := 1#32
  let v785 : BitVec 32 := Scalar.select v784 c1_i32_495 c4_i32_493
  let v786 : BitVec 32 := Scalar.remsi v783 v785
  let c0_i32_497 : BitVec 32 := 0#32
  let v788 : BitVec 1 := Scalar.cmpi .slt v786 c0_i32_497
  let c0_i32_498 : BitVec 32 := 0#32
  let v789 : BitVec 1 := Scalar.cmpi .slt v785 c0_i32_498
  let v790 : BitVec 1 := Scalar.xori v788 v789
  let c0_i32_496 : BitVec 32 := 0#32
  let v787 : BitVec 1 := Scalar.cmpi .ne v786 c0_i32_496
  let v791 : BitVec 1 := Scalar.andi v790 v787
  let v792 : BitVec 32 := Scalar.addi v786 v785
  let v793 : BitVec 32 := Scalar.select v791 v792 v786
  let c4_i32_771 : BitVec 32 := 4#32
  let v1177 : BitVec 32 := Scalar.muli v793 c4_i32_771
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_499 : BitVec 32 := 0#32
  let v794 : BitVec 32 := Scalar.addi v8 c0_i32_499
  let c4_i32_500 : BitVec 32 := 4#32
  let c0_i32_501 : BitVec 32 := 0#32
  let v795 : BitVec 1 := Scalar.cmpi .eq c4_i32_500 c0_i32_501
  let c1_i32_502 : BitVec 32 := 1#32
  let v796 : BitVec 32 := Scalar.select v795 c1_i32_502 c4_i32_500
  let v797 : BitVec 32 := Scalar.remsi v794 v796
  let c0_i32_504 : BitVec 32 := 0#32
  let v799 : BitVec 1 := Scalar.cmpi .slt v797 c0_i32_504
  let c0_i32_505 : BitVec 32 := 0#32
  let v800 : BitVec 1 := Scalar.cmpi .slt v796 c0_i32_505
  let v801 : BitVec 1 := Scalar.xori v799 v800
  let c0_i32_503 : BitVec 32 := 0#32
  let v798 : BitVec 1 := Scalar.cmpi .ne v797 c0_i32_503
  let v802 : BitVec 1 := Scalar.andi v801 v798
  let v803 : BitVec 32 := Scalar.addi v797 v796
  let v804 : BitVec 32 := Scalar.select v802 v803 v797
  let c1_i32_772 : BitVec 32 := 1#32
  let v1179 : BitVec 32 := Scalar.muli v804 c1_i32_772
  let v1180 : BitVec 32 := Scalar.addi v1178 v1179
  v1180.toNat
def k0_dev25 (d0 : Dev nD) : Nat :=
  let c0_i32_775 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_506 : BitVec 32 := 1#32
  let v805 : BitVec 32 := Scalar.addi v2 c1_i32_506
  let c2_i32_507 : BitVec 32 := 2#32
  let c0_i32_508 : BitVec 32 := 0#32
  let v806 : BitVec 1 := Scalar.cmpi .eq c2_i32_507 c0_i32_508
  let c1_i32_509 : BitVec 32 := 1#32
  let v807 : BitVec 32 := Scalar.select v806 c1_i32_509 c2_i32_507
  let v808 : BitVec 32 := Scalar.remsi v805 v807
  let c0_i32_511 : BitVec 32 := 0#32
  let v810 : BitVec 1 := Scalar.cmpi .slt v808 c0_i32_511
  let c0_i32_512 : BitVec 32 := 0#32
  let v811 : BitVec 1 := Scalar.cmpi .slt v807 c0_i32_512
  let v812 : BitVec 1 := Scalar.xori v810 v811
  let c0_i32_510 : BitVec 32 := 0#32
  let v809 : BitVec 1 := Scalar.cmpi .ne v808 c0_i32_510
  let v813 : BitVec 1 := Scalar.andi v812 v809
  let v814 : BitVec 32 := Scalar.addi v808 v807
  let v815 : BitVec 32 := Scalar.select v813 v814 v808
  let c16_i32_774 : BitVec 32 := 16#32
  let v1181 : BitVec 32 := Scalar.muli v815 c16_i32_774
  let v1182 : BitVec 32 := Scalar.addi c0_i32_775 v1181
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_513 : BitVec 32 := 2#32
  let v816 : BitVec 32 := Scalar.addi v5 c2_i32_513
  let c4_i32_514 : BitVec 32 := 4#32
  let c0_i32_515 : BitVec 32 := 0#32
  let v817 : BitVec 1 := Scalar.cmpi .eq c4_i32_514 c0_i32_515
  let c1_i32_516 : BitVec 32 := 1#32
  let v818 : BitVec 32 := Scalar.select v817 c1_i32_516 c4_i32_514
  let v819 : BitVec 32 := Scalar.remsi v816 v818
  let c0_i32_518 : BitVec 32 := 0#32
  let v821 : BitVec 1 := Scalar.cmpi .slt v819 c0_i32_518
  let c0_i32_519 : BitVec 32 := 0#32
  let v822 : BitVec 1 := Scalar.cmpi .slt v818 c0_i32_519
  let v823 : BitVec 1 := Scalar.xori v821 v822
  let c0_i32_517 : BitVec 32 := 0#32
  let v820 : BitVec 1 := Scalar.cmpi .ne v819 c0_i32_517
  let v824 : BitVec 1 := Scalar.andi v823 v820
  let v825 : BitVec 32 := Scalar.addi v819 v818
  let v826 : BitVec 32 := Scalar.select v824 v825 v819
  let c4_i32_776 : BitVec 32 := 4#32
  let v1183 : BitVec 32 := Scalar.muli v826 c4_i32_776
  let v1184 : BitVec 32 := Scalar.addi v1182 v1183
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_520 : BitVec 32 := 1#32
  let v827 : BitVec 32 := Scalar.addi v8 c1_i32_520
  let c4_i32_521 : BitVec 32 := 4#32
  let c0_i32_522 : BitVec 32 := 0#32
  let v828 : BitVec 1 := Scalar.cmpi .eq c4_i32_521 c0_i32_522
  let c1_i32_523 : BitVec 32 := 1#32
  let v829 : BitVec 32 := Scalar.select v828 c1_i32_523 c4_i32_521
  let v830 : BitVec 32 := Scalar.remsi v827 v829
  let c0_i32_525 : BitVec 32 := 0#32
  let v832 : BitVec 1 := Scalar.cmpi .slt v830 c0_i32_525
  let c0_i32_526 : BitVec 32 := 0#32
  let v833 : BitVec 1 := Scalar.cmpi .slt v829 c0_i32_526
  let v834 : BitVec 1 := Scalar.xori v832 v833
  let c0_i32_524 : BitVec 32 := 0#32
  let v831 : BitVec 1 := Scalar.cmpi .ne v830 c0_i32_524
  let v835 : BitVec 1 := Scalar.andi v834 v831
  let v836 : BitVec 32 := Scalar.addi v830 v829
  let v837 : BitVec 32 := Scalar.select v835 v836 v830
  let c1_i32_777 : BitVec 32 := 1#32
  let v1185 : BitVec 32 := Scalar.muli v837 c1_i32_777
  let v1186 : BitVec 32 := Scalar.addi v1184 v1185
  v1186.toNat
def k0_dev26 (d0 : Dev nD) : Nat :=
  let c0_i32_780 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_527 : BitVec 32 := 1#32
  let v838 : BitVec 32 := Scalar.addi v2 c1_i32_527
  let c2_i32_528 : BitVec 32 := 2#32
  let c0_i32_529 : BitVec 32 := 0#32
  let v839 : BitVec 1 := Scalar.cmpi .eq c2_i32_528 c0_i32_529
  let c1_i32_530 : BitVec 32 := 1#32
  let v840 : BitVec 32 := Scalar.select v839 c1_i32_530 c2_i32_528
  let v841 : BitVec 32 := Scalar.remsi v838 v840
  let c0_i32_532 : BitVec 32 := 0#32
  let v843 : BitVec 1 := Scalar.cmpi .slt v841 c0_i32_532
  let c0_i32_533 : BitVec 32 := 0#32
  let v844 : BitVec 1 := Scalar.cmpi .slt v840 c0_i32_533
  let v845 : BitVec 1 := Scalar.xori v843 v844
  let c0_i32_531 : BitVec 32 := 0#32
  let v842 : BitVec 1 := Scalar.cmpi .ne v841 c0_i32_531
  let v846 : BitVec 1 := Scalar.andi v845 v842
  let v847 : BitVec 32 := Scalar.addi v841 v840
  let v848 : BitVec 32 := Scalar.select v846 v847 v841
  let c16_i32_779 : BitVec 32 := 16#32
  let v1187 : BitVec 32 := Scalar.muli v848 c16_i32_779
  let v1188 : BitVec 32 := Scalar.addi c0_i32_780 v1187
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_534 : BitVec 32 := 2#32
  let v849 : BitVec 32 := Scalar.addi v5 c2_i32_534
  let c4_i32_535 : BitVec 32 := 4#32
  let c0_i32_536 : BitVec 32 := 0#32
  let v850 : BitVec 1 := Scalar.cmpi .eq c4_i32_535 c0_i32_536
  let c1_i32_537 : BitVec 32 := 1#32
  let v851 : BitVec 32 := Scalar.select v850 c1_i32_537 c4_i32_535
  let v852 : BitVec 32 := Scalar.remsi v849 v851
  let c0_i32_539 : BitVec 32 := 0#32
  let v854 : BitVec 1 := Scalar.cmpi .slt v852 c0_i32_539
  let c0_i32_540 : BitVec 32 := 0#32
  let v855 : BitVec 1 := Scalar.cmpi .slt v851 c0_i32_540
  let v856 : BitVec 1 := Scalar.xori v854 v855
  let c0_i32_538 : BitVec 32 := 0#32
  let v853 : BitVec 1 := Scalar.cmpi .ne v852 c0_i32_538
  let v857 : BitVec 1 := Scalar.andi v856 v853
  let v858 : BitVec 32 := Scalar.addi v852 v851
  let v859 : BitVec 32 := Scalar.select v857 v858 v852
  let c4_i32_781 : BitVec 32 := 4#32
  let v1189 : BitVec 32 := Scalar.muli v859 c4_i32_781
  let v1190 : BitVec 32 := Scalar.addi v1188 v1189
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_541 : BitVec 32 := 2#32
  let v860 : BitVec 32 := Scalar.addi v8 c2_i32_541
  let c4_i32_542 : BitVec 32 := 4#32
  let c0_i32_543 : BitVec 32 := 0#32
  let v861 : BitVec 1 := Scalar.cmpi .eq c4_i32_542 c0_i32_543
  let c1_i32_544 : BitVec 32 := 1#32
  let v862 : BitVec 32 := Scalar.select v861 c1_i32_544 c4_i32_542
  let v863 : BitVec 32 := Scalar.remsi v860 v862
  let c0_i32_546 : BitVec 32 := 0#32
  let v865 : BitVec 1 := Scalar.cmpi .slt v863 c0_i32_546
  let c0_i32_547 : BitVec 32 := 0#32
  let v866 : BitVec 1 := Scalar.cmpi .slt v862 c0_i32_547
  let v867 : BitVec 1 := Scalar.xori v865 v866
  let c0_i32_545 : BitVec 32 := 0#32
  let v864 : BitVec 1 := Scalar.cmpi .ne v863 c0_i32_545
  let v868 : BitVec 1 := Scalar.andi v867 v864
  let v869 : BitVec 32 := Scalar.addi v863 v862
  let v870 : BitVec 32 := Scalar.select v868 v869 v863
  let c1_i32_782 : BitVec 32 := 1#32
  let v1191 : BitVec 32 := Scalar.muli v870 c1_i32_782
  let v1192 : BitVec 32 := Scalar.addi v1190 v1191
  v1192.toNat
def k0_dev27 (d0 : Dev nD) : Nat :=
  let c0_i32_785 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_548 : BitVec 32 := 1#32
  let v871 : BitVec 32 := Scalar.addi v2 c1_i32_548
  let c2_i32_549 : BitVec 32 := 2#32
  let c0_i32_550 : BitVec 32 := 0#32
  let v872 : BitVec 1 := Scalar.cmpi .eq c2_i32_549 c0_i32_550
  let c1_i32_551 : BitVec 32 := 1#32
  let v873 : BitVec 32 := Scalar.select v872 c1_i32_551 c2_i32_549
  let v874 : BitVec 32 := Scalar.remsi v871 v873
  let c0_i32_553 : BitVec 32 := 0#32
  let v876 : BitVec 1 := Scalar.cmpi .slt v874 c0_i32_553
  let c0_i32_554 : BitVec 32 := 0#32
  let v877 : BitVec 1 := Scalar.cmpi .slt v873 c0_i32_554
  let v878 : BitVec 1 := Scalar.xori v876 v877
  let c0_i32_552 : BitVec 32 := 0#32
  let v875 : BitVec 1 := Scalar.cmpi .ne v874 c0_i32_552
  let v879 : BitVec 1 := Scalar.andi v878 v875
  let v880 : BitVec 32 := Scalar.addi v874 v873
  let v881 : BitVec 32 := Scalar.select v879 v880 v874
  let c16_i32_784 : BitVec 32 := 16#32
  let v1193 : BitVec 32 := Scalar.muli v881 c16_i32_784
  let v1194 : BitVec 32 := Scalar.addi c0_i32_785 v1193
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_555 : BitVec 32 := 2#32
  let v882 : BitVec 32 := Scalar.addi v5 c2_i32_555
  let c4_i32_556 : BitVec 32 := 4#32
  let c0_i32_557 : BitVec 32 := 0#32
  let v883 : BitVec 1 := Scalar.cmpi .eq c4_i32_556 c0_i32_557
  let c1_i32_558 : BitVec 32 := 1#32
  let v884 : BitVec 32 := Scalar.select v883 c1_i32_558 c4_i32_556
  let v885 : BitVec 32 := Scalar.remsi v882 v884
  let c0_i32_560 : BitVec 32 := 0#32
  let v887 : BitVec 1 := Scalar.cmpi .slt v885 c0_i32_560
  let c0_i32_561 : BitVec 32 := 0#32
  let v888 : BitVec 1 := Scalar.cmpi .slt v884 c0_i32_561
  let v889 : BitVec 1 := Scalar.xori v887 v888
  let c0_i32_559 : BitVec 32 := 0#32
  let v886 : BitVec 1 := Scalar.cmpi .ne v885 c0_i32_559
  let v890 : BitVec 1 := Scalar.andi v889 v886
  let v891 : BitVec 32 := Scalar.addi v885 v884
  let v892 : BitVec 32 := Scalar.select v890 v891 v885
  let c4_i32_786 : BitVec 32 := 4#32
  let v1195 : BitVec 32 := Scalar.muli v892 c4_i32_786
  let v1196 : BitVec 32 := Scalar.addi v1194 v1195
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_562 : BitVec 32 := 3#32
  let v893 : BitVec 32 := Scalar.addi v8 c3_i32_562
  let c4_i32_563 : BitVec 32 := 4#32
  let c0_i32_564 : BitVec 32 := 0#32
  let v894 : BitVec 1 := Scalar.cmpi .eq c4_i32_563 c0_i32_564
  let c1_i32_565 : BitVec 32 := 1#32
  let v895 : BitVec 32 := Scalar.select v894 c1_i32_565 c4_i32_563
  let v896 : BitVec 32 := Scalar.remsi v893 v895
  let c0_i32_567 : BitVec 32 := 0#32
  let v898 : BitVec 1 := Scalar.cmpi .slt v896 c0_i32_567
  let c0_i32_568 : BitVec 32 := 0#32
  let v899 : BitVec 1 := Scalar.cmpi .slt v895 c0_i32_568
  let v900 : BitVec 1 := Scalar.xori v898 v899
  let c0_i32_566 : BitVec 32 := 0#32
  let v897 : BitVec 1 := Scalar.cmpi .ne v896 c0_i32_566
  let v901 : BitVec 1 := Scalar.andi v900 v897
  let v902 : BitVec 32 := Scalar.addi v896 v895
  let v903 : BitVec 32 := Scalar.select v901 v902 v896
  let c1_i32_787 : BitVec 32 := 1#32
  let v1197 : BitVec 32 := Scalar.muli v903 c1_i32_787
  let v1198 : BitVec 32 := Scalar.addi v1196 v1197
  v1198.toNat
def k0_dev28 (d0 : Dev nD) : Nat :=
  let c0_i32_790 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_569 : BitVec 32 := 1#32
  let v904 : BitVec 32 := Scalar.addi v2 c1_i32_569
  let c2_i32_570 : BitVec 32 := 2#32
  let c0_i32_571 : BitVec 32 := 0#32
  let v905 : BitVec 1 := Scalar.cmpi .eq c2_i32_570 c0_i32_571
  let c1_i32_572 : BitVec 32 := 1#32
  let v906 : BitVec 32 := Scalar.select v905 c1_i32_572 c2_i32_570
  let v907 : BitVec 32 := Scalar.remsi v904 v906
  let c0_i32_574 : BitVec 32 := 0#32
  let v909 : BitVec 1 := Scalar.cmpi .slt v907 c0_i32_574
  let c0_i32_575 : BitVec 32 := 0#32
  let v910 : BitVec 1 := Scalar.cmpi .slt v906 c0_i32_575
  let v911 : BitVec 1 := Scalar.xori v909 v910
  let c0_i32_573 : BitVec 32 := 0#32
  let v908 : BitVec 1 := Scalar.cmpi .ne v907 c0_i32_573
  let v912 : BitVec 1 := Scalar.andi v911 v908
  let v913 : BitVec 32 := Scalar.addi v907 v906
  let v914 : BitVec 32 := Scalar.select v912 v913 v907
  let c16_i32_789 : BitVec 32 := 16#32
  let v1199 : BitVec 32 := Scalar.muli v914 c16_i32_789
  let v1200 : BitVec 32 := Scalar.addi c0_i32_790 v1199
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_576 : BitVec 32 := 3#32
  let v915 : BitVec 32 := Scalar.addi v5 c3_i32_576
  let c4_i32_577 : BitVec 32 := 4#32
  let c0_i32_578 : BitVec 32 := 0#32
  let v916 : BitVec 1 := Scalar.cmpi .eq c4_i32_577 c0_i32_578
  let c1_i32_579 : BitVec 32 := 1#32
  let v917 : BitVec 32 := Scalar.select v916 c1_i32_579 c4_i32_577
  let v918 : BitVec 32 := Scalar.remsi v915 v917
  let c0_i32_581 : BitVec 32 := 0#32
  let v920 : BitVec 1 := Scalar.cmpi .slt v918 c0_i32_581
  let c0_i32_582 : BitVec 32 := 0#32
  let v921 : BitVec 1 := Scalar.cmpi .slt v917 c0_i32_582
  let v922 : BitVec 1 := Scalar.xori v920 v921
  let c0_i32_580 : BitVec 32 := 0#32
  let v919 : BitVec 1 := Scalar.cmpi .ne v918 c0_i32_580
  let v923 : BitVec 1 := Scalar.andi v922 v919
  let v924 : BitVec 32 := Scalar.addi v918 v917
  let v925 : BitVec 32 := Scalar.select v923 v924 v918
  let c4_i32_791 : BitVec 32 := 4#32
  let v1201 : BitVec 32 := Scalar.muli v925 c4_i32_791
  let v1202 : BitVec 32 := Scalar.addi v1200 v1201
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_583 : BitVec 32 := 0#32
  let v926 : BitVec 32 := Scalar.addi v8 c0_i32_583
  let c4_i32_584 : BitVec 32 := 4#32
  let c0_i32_585 : BitVec 32 := 0#32
  let v927 : BitVec 1 := Scalar.cmpi .eq c4_i32_584 c0_i32_585
  let c1_i32_586 : BitVec 32 := 1#32
  let v928 : BitVec 32 := Scalar.select v927 c1_i32_586 c4_i32_584
  let v929 : BitVec 32 := Scalar.remsi v926 v928
  let c0_i32_588 : BitVec 32 := 0#32
  let v931 : BitVec 1 := Scalar.cmpi .slt v929 c0_i32_588
  let c0_i32_589 : BitVec 32 := 0#32
  let v932 : BitVec 1 := Scalar.cmpi .slt v928 c0_i32_589
  let v933 : BitVec 1 := Scalar.xori v931 v932
  let c0_i32_587 : BitVec 32 := 0#32
  let v930 : BitVec 1 := Scalar.cmpi .ne v929 c0_i32_587
  let v934 : BitVec 1 := Scalar.andi v933 v930
  let v935 : BitVec 32 := Scalar.addi v929 v928
  let v936 : BitVec 32 := Scalar.select v934 v935 v929
  let c1_i32_792 : BitVec 32 := 1#32
  let v1203 : BitVec 32 := Scalar.muli v936 c1_i32_792
  let v1204 : BitVec 32 := Scalar.addi v1202 v1203
  v1204.toNat
def k0_dev29 (d0 : Dev nD) : Nat :=
  let c0_i32_795 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_590 : BitVec 32 := 1#32
  let v937 : BitVec 32 := Scalar.addi v2 c1_i32_590
  let c2_i32_591 : BitVec 32 := 2#32
  let c0_i32_592 : BitVec 32 := 0#32
  let v938 : BitVec 1 := Scalar.cmpi .eq c2_i32_591 c0_i32_592
  let c1_i32_593 : BitVec 32 := 1#32
  let v939 : BitVec 32 := Scalar.select v938 c1_i32_593 c2_i32_591
  let v940 : BitVec 32 := Scalar.remsi v937 v939
  let c0_i32_595 : BitVec 32 := 0#32
  let v942 : BitVec 1 := Scalar.cmpi .slt v940 c0_i32_595
  let c0_i32_596 : BitVec 32 := 0#32
  let v943 : BitVec 1 := Scalar.cmpi .slt v939 c0_i32_596
  let v944 : BitVec 1 := Scalar.xori v942 v943
  let c0_i32_594 : BitVec 32 := 0#32
  let v941 : BitVec 1 := Scalar.cmpi .ne v940 c0_i32_594
  let v945 : BitVec 1 := Scalar.andi v944 v941
  let v946 : BitVec 32 := Scalar.addi v940 v939
  let v947 : BitVec 32 := Scalar.select v945 v946 v940
  let c16_i32_794 : BitVec 32 := 16#32
  let v1205 : BitVec 32 := Scalar.muli v947 c16_i32_794
  let v1206 : BitVec 32 := Scalar.addi c0_i32_795 v1205
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_597 : BitVec 32 := 3#32
  let v948 : BitVec 32 := Scalar.addi v5 c3_i32_597
  let c4_i32_598 : BitVec 32 := 4#32
  let c0_i32_599 : BitVec 32 := 0#32
  let v949 : BitVec 1 := Scalar.cmpi .eq c4_i32_598 c0_i32_599
  let c1_i32_600 : BitVec 32 := 1#32
  let v950 : BitVec 32 := Scalar.select v949 c1_i32_600 c4_i32_598
  let v951 : BitVec 32 := Scalar.remsi v948 v950
  let c0_i32_602 : BitVec 32 := 0#32
  let v953 : BitVec 1 := Scalar.cmpi .slt v951 c0_i32_602
  let c0_i32_603 : BitVec 32 := 0#32
  let v954 : BitVec 1 := Scalar.cmpi .slt v950 c0_i32_603
  let v955 : BitVec 1 := Scalar.xori v953 v954
  let c0_i32_601 : BitVec 32 := 0#32
  let v952 : BitVec 1 := Scalar.cmpi .ne v951 c0_i32_601
  let v956 : BitVec 1 := Scalar.andi v955 v952
  let v957 : BitVec 32 := Scalar.addi v951 v950
  let v958 : BitVec 32 := Scalar.select v956 v957 v951
  let c4_i32_796 : BitVec 32 := 4#32
  let v1207 : BitVec 32 := Scalar.muli v958 c4_i32_796
  let v1208 : BitVec 32 := Scalar.addi v1206 v1207
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_604 : BitVec 32 := 1#32
  let v959 : BitVec 32 := Scalar.addi v8 c1_i32_604
  let c4_i32_605 : BitVec 32 := 4#32
  let c0_i32_606 : BitVec 32 := 0#32
  let v960 : BitVec 1 := Scalar.cmpi .eq c4_i32_605 c0_i32_606
  let c1_i32_607 : BitVec 32 := 1#32
  let v961 : BitVec 32 := Scalar.select v960 c1_i32_607 c4_i32_605
  let v962 : BitVec 32 := Scalar.remsi v959 v961
  let c0_i32_609 : BitVec 32 := 0#32
  let v964 : BitVec 1 := Scalar.cmpi .slt v962 c0_i32_609
  let c0_i32_610 : BitVec 32 := 0#32
  let v965 : BitVec 1 := Scalar.cmpi .slt v961 c0_i32_610
  let v966 : BitVec 1 := Scalar.xori v964 v965
  let c0_i32_608 : BitVec 32 := 0#32
  let v963 : BitVec 1 := Scalar.cmpi .ne v962 c0_i32_608
  let v967 : BitVec 1 := Scalar.andi v966 v963
  let v968 : BitVec 32 := Scalar.addi v962 v961
  let v969 : BitVec 32 := Scalar.select v967 v968 v962
  let c1_i32_797 : BitVec 32 := 1#32
  let v1209 : BitVec 32 := Scalar.muli v969 c1_i32_797
  let v1210 : BitVec 32 := Scalar.addi v1208 v1209
  v1210.toNat
def k0_dev30 (d0 : Dev nD) : Nat :=
  let c0_i32_800 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_611 : BitVec 32 := 1#32
  let v970 : BitVec 32 := Scalar.addi v2 c1_i32_611
  let c2_i32_612 : BitVec 32 := 2#32
  let c0_i32_613 : BitVec 32 := 0#32
  let v971 : BitVec 1 := Scalar.cmpi .eq c2_i32_612 c0_i32_613
  let c1_i32_614 : BitVec 32 := 1#32
  let v972 : BitVec 32 := Scalar.select v971 c1_i32_614 c2_i32_612
  let v973 : BitVec 32 := Scalar.remsi v970 v972
  let c0_i32_616 : BitVec 32 := 0#32
  let v975 : BitVec 1 := Scalar.cmpi .slt v973 c0_i32_616
  let c0_i32_617 : BitVec 32 := 0#32
  let v976 : BitVec 1 := Scalar.cmpi .slt v972 c0_i32_617
  let v977 : BitVec 1 := Scalar.xori v975 v976
  let c0_i32_615 : BitVec 32 := 0#32
  let v974 : BitVec 1 := Scalar.cmpi .ne v973 c0_i32_615
  let v978 : BitVec 1 := Scalar.andi v977 v974
  let v979 : BitVec 32 := Scalar.addi v973 v972
  let v980 : BitVec 32 := Scalar.select v978 v979 v973
  let c16_i32_799 : BitVec 32 := 16#32
  let v1211 : BitVec 32 := Scalar.muli v980 c16_i32_799
  let v1212 : BitVec 32 := Scalar.addi c0_i32_800 v1211
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_618 : BitVec 32 := 3#32
  let v981 : BitVec 32 := Scalar.addi v5 c3_i32_618
  let c4_i32_619 : BitVec 32 := 4#32
  let c0_i32_620 : BitVec 32 := 0#32
  let v982 : BitVec 1 := Scalar.cmpi .eq c4_i32_619 c0_i32_620
  let c1_i32_621 : BitVec 32 := 1#32
  let v983 : BitVec 32 := Scalar.select v982 c1_i32_621 c4_i32_619
  let v984 : BitVec 32 := Scalar.remsi v981 v983
  let c0_i32_623 : BitVec 32 := 0#32
  let v986 : BitVec 1 := Scalar.cmpi .slt v984 c0_i32_623
  let c0_i32_624 : BitVec 32 := 0#32
  let v987 : BitVec 1 := Scalar.cmpi .slt v983 c0_i32_624
  let v988 : BitVec 1 := Scalar.xori v986 v987
  let c0_i32_622 : BitVec 32 := 0#32
  let v985 : BitVec 1 := Scalar.cmpi .ne v984 c0_i32_622
  let v989 : BitVec 1 := Scalar.andi v988 v985
  let v990 : BitVec 32 := Scalar.addi v984 v983
  let v991 : BitVec 32 := Scalar.select v989 v990 v984
  let c4_i32_801 : BitVec 32 := 4#32
  let v1213 : BitVec 32 := Scalar.muli v991 c4_i32_801
  let v1214 : BitVec 32 := Scalar.addi v1212 v1213
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_625 : BitVec 32 := 2#32
  let v992 : BitVec 32 := Scalar.addi v8 c2_i32_625
  let c4_i32_626 : BitVec 32 := 4#32
  let c0_i32_627 : BitVec 32 := 0#32
  let v993 : BitVec 1 := Scalar.cmpi .eq c4_i32_626 c0_i32_627
  let c1_i32_628 : BitVec 32 := 1#32
  let v994 : BitVec 32 := Scalar.select v993 c1_i32_628 c4_i32_626
  let v995 : BitVec 32 := Scalar.remsi v992 v994
  let c0_i32_630 : BitVec 32 := 0#32
  let v997 : BitVec 1 := Scalar.cmpi .slt v995 c0_i32_630
  let c0_i32_631 : BitVec 32 := 0#32
  let v998 : BitVec 1 := Scalar.cmpi .slt v994 c0_i32_631
  let v999 : BitVec 1 := Scalar.xori v997 v998
  let c0_i32_629 : BitVec 32 := 0#32
  let v996 : BitVec 1 := Scalar.cmpi .ne v995 c0_i32_629
  let v1000 : BitVec 1 := Scalar.andi v999 v996
  let v1001 : BitVec 32 := Scalar.addi v995 v994
  let v1002 : BitVec 32 := Scalar.select v1000 v1001 v995
  let c1_i32_802 : BitVec 32 := 1#32
  let v1215 : BitVec 32 := Scalar.muli v1002 c1_i32_802
  let v1216 : BitVec 32 := Scalar.addi v1214 v1215
  v1216.toNat
def k0_dev31 (d0 : Dev nD) : Nat :=
  let c0_i32_805 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_632 : BitVec 32 := 1#32
  let v1003 : BitVec 32 := Scalar.addi v2 c1_i32_632
  let c2_i32_633 : BitVec 32 := 2#32
  let c0_i32_634 : BitVec 32 := 0#32
  let v1004 : BitVec 1 := Scalar.cmpi .eq c2_i32_633 c0_i32_634
  let c1_i32_635 : BitVec 32 := 1#32
  let v1005 : BitVec 32 := Scalar.select v1004 c1_i32_635 c2_i32_633
  let v1006 : BitVec 32 := Scalar.remsi v1003 v1005
  let c0_i32_637 : BitVec 32 := 0#32
  let v1008 : BitVec 1 := Scalar.cmpi .slt v1006 c0_i32_637
  let c0_i32_638 : BitVec 32 := 0#32
  let v1009 : BitVec 1 := Scalar.cmpi .slt v1005 c0_i32_638
  let v1010 : BitVec 1 := Scalar.xori v1008 v1009
  let c0_i32_636 : BitVec 32 := 0#32
  let v1007 : BitVec 1 := Scalar.cmpi .ne v1006 c0_i32_636
  let v1011 : BitVec 1 := Scalar.andi v1010 v1007
  let v1012 : BitVec 32 := Scalar.addi v1006 v1005
  let v1013 : BitVec 32 := Scalar.select v1011 v1012 v1006
  let c16_i32_804 : BitVec 32 := 16#32
  let v1217 : BitVec 32 := Scalar.muli v1013 c16_i32_804
  let v1218 : BitVec 32 := Scalar.addi c0_i32_805 v1217
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_639 : BitVec 32 := 3#32
  let v1014 : BitVec 32 := Scalar.addi v5 c3_i32_639
  let c4_i32_640 : BitVec 32 := 4#32
  let c0_i32_641 : BitVec 32 := 0#32
  let v1015 : BitVec 1 := Scalar.cmpi .eq c4_i32_640 c0_i32_641
  let c1_i32_642 : BitVec 32 := 1#32
  let v1016 : BitVec 32 := Scalar.select v1015 c1_i32_642 c4_i32_640
  let v1017 : BitVec 32 := Scalar.remsi v1014 v1016
  let c0_i32_644 : BitVec 32 := 0#32
  let v1019 : BitVec 1 := Scalar.cmpi .slt v1017 c0_i32_644
  let c0_i32_645 : BitVec 32 := 0#32
  let v1020 : BitVec 1 := Scalar.cmpi .slt v1016 c0_i32_645
  let v1021 : BitVec 1 := Scalar.xori v1019 v1020
  let c0_i32_643 : BitVec 32 := 0#32
  let v1018 : BitVec 1 := Scalar.cmpi .ne v1017 c0_i32_643
  let v1022 : BitVec 1 := Scalar.andi v1021 v1018
  let v1023 : BitVec 32 := Scalar.addi v1017 v1016
  let v1024 : BitVec 32 := Scalar.select v1022 v1023 v1017
  let c4_i32_806 : BitVec 32 := 4#32
  let v1219 : BitVec 32 := Scalar.muli v1024 c4_i32_806
  let v1220 : BitVec 32 := Scalar.addi v1218 v1219
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_646 : BitVec 32 := 3#32
  let v1025 : BitVec 32 := Scalar.addi v8 c3_i32_646
  let c4_i32_647 : BitVec 32 := 4#32
  let c0_i32_648 : BitVec 32 := 0#32
  let v1026 : BitVec 1 := Scalar.cmpi .eq c4_i32_647 c0_i32_648
  let c1_i32_649 : BitVec 32 := 1#32
  let v1027 : BitVec 32 := Scalar.select v1026 c1_i32_649 c4_i32_647
  let v1028 : BitVec 32 := Scalar.remsi v1025 v1027
  let c0_i32_651 : BitVec 32 := 0#32
  let v1030 : BitVec 1 := Scalar.cmpi .slt v1028 c0_i32_651
  let c0_i32_652 : BitVec 32 := 0#32
  let v1031 : BitVec 1 := Scalar.cmpi .slt v1027 c0_i32_652
  let v1032 : BitVec 1 := Scalar.xori v1030 v1031
  let c0_i32_650 : BitVec 32 := 0#32
  let v1029 : BitVec 1 := Scalar.cmpi .ne v1028 c0_i32_650
  let v1033 : BitVec 1 := Scalar.andi v1032 v1029
  let v1034 : BitVec 32 := Scalar.addi v1028 v1027
  let v1035 : BitVec 32 := Scalar.select v1033 v1034 v1028
  let c1_i32_807 : BitVec 32 := 1#32
  let v1221 : BitVec 32 := Scalar.muli v1035 c1_i32_807
  let v1222 : BitVec 32 := Scalar.addi v1220 v1221
  v1222.toNat
def k0_off1 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_808 : BitVec 32 := 4#32
  let v1223 : BitVec 32 := Scalar.muli v5 c4_i32_808
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1224 : BitVec 32 := Scalar.addi v1223 v8
  let c256_i32 : BitVec 32 := 256#32
  let v1225 : BitVec 32 := Scalar.muli v1224 c256_i32
  let c0_i32_811 : BitVec 32 := 0#32
  ![v1225.toNat, 0]
def k0_off2 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let v1268 : Index := Scalar.indexCast v12
  let c0_829 : Index := 0#32
  let c0_830 : Index := 0#32
  ![v1268.toNat, 0, 0]
def k0_off3 (d0 : Dev nD) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off4 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_836 : BitVec 32 := 0#32
  let c0_i32_837 : BitVec 32 := 0#32
  ![v12.toNat, 0, 0]
def k0_dev32 (d0 : Dev nD) : Nat :=
  let c0_i32_833 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v13 : BitVec 32 := Scalar.addi v2 c0_i32
  let c2_i32_4 : BitVec 32 := 2#32
  let c0_i32_5 : BitVec 32 := 0#32
  let v14 : BitVec 1 := Scalar.cmpi .eq c2_i32_4 c0_i32_5
  let c1_i32_6 : BitVec 32 := 1#32
  let v15 : BitVec 32 := Scalar.select v14 c1_i32_6 c2_i32_4
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let c16_i32_832 : BitVec 32 := 16#32
  let v1272 : BitVec 32 := Scalar.muli v23 c16_i32_832
  let v1273 : BitVec 32 := Scalar.addi c0_i32_833 v1272
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_10 : BitVec 32 := 0#32
  let v24 : BitVec 32 := Scalar.addi v5 c0_i32_10
  let c4_i32_11 : BitVec 32 := 4#32
  let c0_i32_12 : BitVec 32 := 0#32
  let v25 : BitVec 1 := Scalar.cmpi .eq c4_i32_11 c0_i32_12
  let c1_i32_13 : BitVec 32 := 1#32
  let v26 : BitVec 32 := Scalar.select v25 c1_i32_13 c4_i32_11
  let v27 : BitVec 32 := Scalar.remsi v24 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c4_i32_834 : BitVec 32 := 4#32
  let v1274 : BitVec 32 := Scalar.muli v34 c4_i32_834
  let v1275 : BitVec 32 := Scalar.addi v1273 v1274
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_17 : BitVec 32 := 1#32
  let v35 : BitVec 32 := Scalar.addi v8 c1_i32_17
  let c4_i32_18 : BitVec 32 := 4#32
  let c0_i32_19 : BitVec 32 := 0#32
  let v36 : BitVec 1 := Scalar.cmpi .eq c4_i32_18 c0_i32_19
  let c1_i32_20 : BitVec 32 := 1#32
  let v37 : BitVec 32 := Scalar.select v36 c1_i32_20 c4_i32_18
  let v38 : BitVec 32 := Scalar.remsi v35 v37
  let c0_i32_22 : BitVec 32 := 0#32
  let v40 : BitVec 1 := Scalar.cmpi .slt v38 c0_i32_22
  let c0_i32_23 : BitVec 32 := 0#32
  let v41 : BitVec 1 := Scalar.cmpi .slt v37 c0_i32_23
  let v42 : BitVec 1 := Scalar.xori v40 v41
  let c0_i32_21 : BitVec 32 := 0#32
  let v39 : BitVec 1 := Scalar.cmpi .ne v38 c0_i32_21
  let v43 : BitVec 1 := Scalar.andi v42 v39
  let v44 : BitVec 32 := Scalar.addi v38 v37
  let v45 : BitVec 32 := Scalar.select v43 v44 v38
  let c1_i32_835 : BitVec 32 := 1#32
  let v1276 : BitVec 32 := Scalar.muli v45 c1_i32_835
  let v1277 : BitVec 32 := Scalar.addi v1275 v1276
  v1277.toNat
def k0_dev33 (d0 : Dev nD) : Nat :=
  let c0_i32_840 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_24 : BitVec 32 := 0#32
  let v46 : BitVec 32 := Scalar.addi v2 c0_i32_24
  let c2_i32_25 : BitVec 32 := 2#32
  let c0_i32_26 : BitVec 32 := 0#32
  let v47 : BitVec 1 := Scalar.cmpi .eq c2_i32_25 c0_i32_26
  let c1_i32_27 : BitVec 32 := 1#32
  let v48 : BitVec 32 := Scalar.select v47 c1_i32_27 c2_i32_25
  let v49 : BitVec 32 := Scalar.remsi v46 v48
  let c0_i32_29 : BitVec 32 := 0#32
  let v51 : BitVec 1 := Scalar.cmpi .slt v49 c0_i32_29
  let c0_i32_30 : BitVec 32 := 0#32
  let v52 : BitVec 1 := Scalar.cmpi .slt v48 c0_i32_30
  let v53 : BitVec 1 := Scalar.xori v51 v52
  let c0_i32_28 : BitVec 32 := 0#32
  let v50 : BitVec 1 := Scalar.cmpi .ne v49 c0_i32_28
  let v54 : BitVec 1 := Scalar.andi v53 v50
  let v55 : BitVec 32 := Scalar.addi v49 v48
  let v56 : BitVec 32 := Scalar.select v54 v55 v49
  let c16_i32_839 : BitVec 32 := 16#32
  let v1284 : BitVec 32 := Scalar.muli v56 c16_i32_839
  let v1285 : BitVec 32 := Scalar.addi c0_i32_840 v1284
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v57 : BitVec 32 := Scalar.addi v5 c0_i32_31
  let c4_i32_32 : BitVec 32 := 4#32
  let c0_i32_33 : BitVec 32 := 0#32
  let v58 : BitVec 1 := Scalar.cmpi .eq c4_i32_32 c0_i32_33
  let c1_i32_34 : BitVec 32 := 1#32
  let v59 : BitVec 32 := Scalar.select v58 c1_i32_34 c4_i32_32
  let v60 : BitVec 32 := Scalar.remsi v57 v59
  let c0_i32_36 : BitVec 32 := 0#32
  let v62 : BitVec 1 := Scalar.cmpi .slt v60 c0_i32_36
  let c0_i32_37 : BitVec 32 := 0#32
  let v63 : BitVec 1 := Scalar.cmpi .slt v59 c0_i32_37
  let v64 : BitVec 1 := Scalar.xori v62 v63
  let c0_i32_35 : BitVec 32 := 0#32
  let v61 : BitVec 1 := Scalar.cmpi .ne v60 c0_i32_35
  let v65 : BitVec 1 := Scalar.andi v64 v61
  let v66 : BitVec 32 := Scalar.addi v60 v59
  let v67 : BitVec 32 := Scalar.select v65 v66 v60
  let c4_i32_841 : BitVec 32 := 4#32
  let v1286 : BitVec 32 := Scalar.muli v67 c4_i32_841
  let v1287 : BitVec 32 := Scalar.addi v1285 v1286
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_38 : BitVec 32 := 2#32
  let v68 : BitVec 32 := Scalar.addi v8 c2_i32_38
  let c4_i32_39 : BitVec 32 := 4#32
  let c0_i32_40 : BitVec 32 := 0#32
  let v69 : BitVec 1 := Scalar.cmpi .eq c4_i32_39 c0_i32_40
  let c1_i32_41 : BitVec 32 := 1#32
  let v70 : BitVec 32 := Scalar.select v69 c1_i32_41 c4_i32_39
  let v71 : BitVec 32 := Scalar.remsi v68 v70
  let c0_i32_43 : BitVec 32 := 0#32
  let v73 : BitVec 1 := Scalar.cmpi .slt v71 c0_i32_43
  let c0_i32_44 : BitVec 32 := 0#32
  let v74 : BitVec 1 := Scalar.cmpi .slt v70 c0_i32_44
  let v75 : BitVec 1 := Scalar.xori v73 v74
  let c0_i32_42 : BitVec 32 := 0#32
  let v72 : BitVec 1 := Scalar.cmpi .ne v71 c0_i32_42
  let v76 : BitVec 1 := Scalar.andi v75 v72
  let v77 : BitVec 32 := Scalar.addi v71 v70
  let v78 : BitVec 32 := Scalar.select v76 v77 v71
  let c1_i32_842 : BitVec 32 := 1#32
  let v1288 : BitVec 32 := Scalar.muli v78 c1_i32_842
  let v1289 : BitVec 32 := Scalar.addi v1287 v1288
  v1289.toNat
def k0_dev34 (d0 : Dev nD) : Nat :=
  let c0_i32_847 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_45 : BitVec 32 := 0#32
  let v79 : BitVec 32 := Scalar.addi v2 c0_i32_45
  let c2_i32_46 : BitVec 32 := 2#32
  let c0_i32_47 : BitVec 32 := 0#32
  let v80 : BitVec 1 := Scalar.cmpi .eq c2_i32_46 c0_i32_47
  let c1_i32_48 : BitVec 32 := 1#32
  let v81 : BitVec 32 := Scalar.select v80 c1_i32_48 c2_i32_46
  let v82 : BitVec 32 := Scalar.remsi v79 v81
  let c0_i32_50 : BitVec 32 := 0#32
  let v84 : BitVec 1 := Scalar.cmpi .slt v82 c0_i32_50
  let c0_i32_51 : BitVec 32 := 0#32
  let v85 : BitVec 1 := Scalar.cmpi .slt v81 c0_i32_51
  let v86 : BitVec 1 := Scalar.xori v84 v85
  let c0_i32_49 : BitVec 32 := 0#32
  let v83 : BitVec 1 := Scalar.cmpi .ne v82 c0_i32_49
  let v87 : BitVec 1 := Scalar.andi v86 v83
  let v88 : BitVec 32 := Scalar.addi v82 v81
  let v89 : BitVec 32 := Scalar.select v87 v88 v82
  let c16_i32_846 : BitVec 32 := 16#32
  let v1296 : BitVec 32 := Scalar.muli v89 c16_i32_846
  let v1297 : BitVec 32 := Scalar.addi c0_i32_847 v1296
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_52 : BitVec 32 := 0#32
  let v90 : BitVec 32 := Scalar.addi v5 c0_i32_52
  let c4_i32_53 : BitVec 32 := 4#32
  let c0_i32_54 : BitVec 32 := 0#32
  let v91 : BitVec 1 := Scalar.cmpi .eq c4_i32_53 c0_i32_54
  let c1_i32_55 : BitVec 32 := 1#32
  let v92 : BitVec 32 := Scalar.select v91 c1_i32_55 c4_i32_53
  let v93 : BitVec 32 := Scalar.remsi v90 v92
  let c0_i32_57 : BitVec 32 := 0#32
  let v95 : BitVec 1 := Scalar.cmpi .slt v93 c0_i32_57
  let c0_i32_58 : BitVec 32 := 0#32
  let v96 : BitVec 1 := Scalar.cmpi .slt v92 c0_i32_58
  let v97 : BitVec 1 := Scalar.xori v95 v96
  let c0_i32_56 : BitVec 32 := 0#32
  let v94 : BitVec 1 := Scalar.cmpi .ne v93 c0_i32_56
  let v98 : BitVec 1 := Scalar.andi v97 v94
  let v99 : BitVec 32 := Scalar.addi v93 v92
  let v100 : BitVec 32 := Scalar.select v98 v99 v93
  let c4_i32_848 : BitVec 32 := 4#32
  let v1298 : BitVec 32 := Scalar.muli v100 c4_i32_848
  let v1299 : BitVec 32 := Scalar.addi v1297 v1298
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v101 : BitVec 32 := Scalar.addi v8 c3_i32
  let c4_i32_59 : BitVec 32 := 4#32
  let c0_i32_60 : BitVec 32 := 0#32
  let v102 : BitVec 1 := Scalar.cmpi .eq c4_i32_59 c0_i32_60
  let c1_i32_61 : BitVec 32 := 1#32
  let v103 : BitVec 32 := Scalar.select v102 c1_i32_61 c4_i32_59
  let v104 : BitVec 32 := Scalar.remsi v101 v103
  let c0_i32_63 : BitVec 32 := 0#32
  let v106 : BitVec 1 := Scalar.cmpi .slt v104 c0_i32_63
  let c0_i32_64 : BitVec 32 := 0#32
  let v107 : BitVec 1 := Scalar.cmpi .slt v103 c0_i32_64
  let v108 : BitVec 1 := Scalar.xori v106 v107
  let c0_i32_62 : BitVec 32 := 0#32
  let v105 : BitVec 1 := Scalar.cmpi .ne v104 c0_i32_62
  let v109 : BitVec 1 := Scalar.andi v108 v105
  let v110 : BitVec 32 := Scalar.addi v104 v103
  let v111 : BitVec 32 := Scalar.select v109 v110 v104
  let c1_i32_849 : BitVec 32 := 1#32
  let v1300 : BitVec 32 := Scalar.muli v111 c1_i32_849
  let v1301 : BitVec 32 := Scalar.addi v1299 v1300
  v1301.toNat
def k0_dev35 (d0 : Dev nD) : Nat :=
  let c0_i32_854 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_65 : BitVec 32 := 0#32
  let v112 : BitVec 32 := Scalar.addi v2 c0_i32_65
  let c2_i32_66 : BitVec 32 := 2#32
  let c0_i32_67 : BitVec 32 := 0#32
  let v113 : BitVec 1 := Scalar.cmpi .eq c2_i32_66 c0_i32_67
  let c1_i32_68 : BitVec 32 := 1#32
  let v114 : BitVec 32 := Scalar.select v113 c1_i32_68 c2_i32_66
  let v115 : BitVec 32 := Scalar.remsi v112 v114
  let c0_i32_70 : BitVec 32 := 0#32
  let v117 : BitVec 1 := Scalar.cmpi .slt v115 c0_i32_70
  let c0_i32_71 : BitVec 32 := 0#32
  let v118 : BitVec 1 := Scalar.cmpi .slt v114 c0_i32_71
  let v119 : BitVec 1 := Scalar.xori v117 v118
  let c0_i32_69 : BitVec 32 := 0#32
  let v116 : BitVec 1 := Scalar.cmpi .ne v115 c0_i32_69
  let v120 : BitVec 1 := Scalar.andi v119 v116
  let v121 : BitVec 32 := Scalar.addi v115 v114
  let v122 : BitVec 32 := Scalar.select v120 v121 v115
  let c16_i32_853 : BitVec 32 := 16#32
  let v1308 : BitVec 32 := Scalar.muli v122 c16_i32_853
  let v1309 : BitVec 32 := Scalar.addi c0_i32_854 v1308
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_72 : BitVec 32 := 1#32
  let v123 : BitVec 32 := Scalar.addi v5 c1_i32_72
  let c4_i32_73 : BitVec 32 := 4#32
  let c0_i32_74 : BitVec 32 := 0#32
  let v124 : BitVec 1 := Scalar.cmpi .eq c4_i32_73 c0_i32_74
  let c1_i32_75 : BitVec 32 := 1#32
  let v125 : BitVec 32 := Scalar.select v124 c1_i32_75 c4_i32_73
  let v126 : BitVec 32 := Scalar.remsi v123 v125
  let c0_i32_77 : BitVec 32 := 0#32
  let v128 : BitVec 1 := Scalar.cmpi .slt v126 c0_i32_77
  let c0_i32_78 : BitVec 32 := 0#32
  let v129 : BitVec 1 := Scalar.cmpi .slt v125 c0_i32_78
  let v130 : BitVec 1 := Scalar.xori v128 v129
  let c0_i32_76 : BitVec 32 := 0#32
  let v127 : BitVec 1 := Scalar.cmpi .ne v126 c0_i32_76
  let v131 : BitVec 1 := Scalar.andi v130 v127
  let v132 : BitVec 32 := Scalar.addi v126 v125
  let v133 : BitVec 32 := Scalar.select v131 v132 v126
  let c4_i32_855 : BitVec 32 := 4#32
  let v1310 : BitVec 32 := Scalar.muli v133 c4_i32_855
  let v1311 : BitVec 32 := Scalar.addi v1309 v1310
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_79 : BitVec 32 := 0#32
  let v134 : BitVec 32 := Scalar.addi v8 c0_i32_79
  let c4_i32_80 : BitVec 32 := 4#32
  let c0_i32_81 : BitVec 32 := 0#32
  let v135 : BitVec 1 := Scalar.cmpi .eq c4_i32_80 c0_i32_81
  let c1_i32_82 : BitVec 32 := 1#32
  let v136 : BitVec 32 := Scalar.select v135 c1_i32_82 c4_i32_80
  let v137 : BitVec 32 := Scalar.remsi v134 v136
  let c0_i32_84 : BitVec 32 := 0#32
  let v139 : BitVec 1 := Scalar.cmpi .slt v137 c0_i32_84
  let c0_i32_85 : BitVec 32 := 0#32
  let v140 : BitVec 1 := Scalar.cmpi .slt v136 c0_i32_85
  let v141 : BitVec 1 := Scalar.xori v139 v140
  let c0_i32_83 : BitVec 32 := 0#32
  let v138 : BitVec 1 := Scalar.cmpi .ne v137 c0_i32_83
  let v142 : BitVec 1 := Scalar.andi v141 v138
  let v143 : BitVec 32 := Scalar.addi v137 v136
  let v144 : BitVec 32 := Scalar.select v142 v143 v137
  let c1_i32_856 : BitVec 32 := 1#32
  let v1312 : BitVec 32 := Scalar.muli v144 c1_i32_856
  let v1313 : BitVec 32 := Scalar.addi v1311 v1312
  v1313.toNat
def k0_dev36 (d0 : Dev nD) : Nat :=
  let c0_i32_861 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_86 : BitVec 32 := 0#32
  let v145 : BitVec 32 := Scalar.addi v2 c0_i32_86
  let c2_i32_87 : BitVec 32 := 2#32
  let c0_i32_88 : BitVec 32 := 0#32
  let v146 : BitVec 1 := Scalar.cmpi .eq c2_i32_87 c0_i32_88
  let c1_i32_89 : BitVec 32 := 1#32
  let v147 : BitVec 32 := Scalar.select v146 c1_i32_89 c2_i32_87
  let v148 : BitVec 32 := Scalar.remsi v145 v147
  let c0_i32_91 : BitVec 32 := 0#32
  let v150 : BitVec 1 := Scalar.cmpi .slt v148 c0_i32_91
  let c0_i32_92 : BitVec 32 := 0#32
  let v151 : BitVec 1 := Scalar.cmpi .slt v147 c0_i32_92
  let v152 : BitVec 1 := Scalar.xori v150 v151
  let c0_i32_90 : BitVec 32 := 0#32
  let v149 : BitVec 1 := Scalar.cmpi .ne v148 c0_i32_90
  let v153 : BitVec 1 := Scalar.andi v152 v149
  let v154 : BitVec 32 := Scalar.addi v148 v147
  let v155 : BitVec 32 := Scalar.select v153 v154 v148
  let c16_i32_860 : BitVec 32 := 16#32
  let v1320 : BitVec 32 := Scalar.muli v155 c16_i32_860
  let v1321 : BitVec 32 := Scalar.addi c0_i32_861 v1320
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_93 : BitVec 32 := 1#32
  let v156 : BitVec 32 := Scalar.addi v5 c1_i32_93
  let c4_i32_94 : BitVec 32 := 4#32
  let c0_i32_95 : BitVec 32 := 0#32
  let v157 : BitVec 1 := Scalar.cmpi .eq c4_i32_94 c0_i32_95
  let c1_i32_96 : BitVec 32 := 1#32
  let v158 : BitVec 32 := Scalar.select v157 c1_i32_96 c4_i32_94
  let v159 : BitVec 32 := Scalar.remsi v156 v158
  let c0_i32_98 : BitVec 32 := 0#32
  let v161 : BitVec 1 := Scalar.cmpi .slt v159 c0_i32_98
  let c0_i32_99 : BitVec 32 := 0#32
  let v162 : BitVec 1 := Scalar.cmpi .slt v158 c0_i32_99
  let v163 : BitVec 1 := Scalar.xori v161 v162
  let c0_i32_97 : BitVec 32 := 0#32
  let v160 : BitVec 1 := Scalar.cmpi .ne v159 c0_i32_97
  let v164 : BitVec 1 := Scalar.andi v163 v160
  let v165 : BitVec 32 := Scalar.addi v159 v158
  let v166 : BitVec 32 := Scalar.select v164 v165 v159
  let c4_i32_862 : BitVec 32 := 4#32
  let v1322 : BitVec 32 := Scalar.muli v166 c4_i32_862
  let v1323 : BitVec 32 := Scalar.addi v1321 v1322
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_100 : BitVec 32 := 1#32
  let v167 : BitVec 32 := Scalar.addi v8 c1_i32_100
  let c4_i32_101 : BitVec 32 := 4#32
  let c0_i32_102 : BitVec 32 := 0#32
  let v168 : BitVec 1 := Scalar.cmpi .eq c4_i32_101 c0_i32_102
  let c1_i32_103 : BitVec 32 := 1#32
  let v169 : BitVec 32 := Scalar.select v168 c1_i32_103 c4_i32_101
  let v170 : BitVec 32 := Scalar.remsi v167 v169
  let c0_i32_105 : BitVec 32 := 0#32
  let v172 : BitVec 1 := Scalar.cmpi .slt v170 c0_i32_105
  let c0_i32_106 : BitVec 32 := 0#32
  let v173 : BitVec 1 := Scalar.cmpi .slt v169 c0_i32_106
  let v174 : BitVec 1 := Scalar.xori v172 v173
  let c0_i32_104 : BitVec 32 := 0#32
  let v171 : BitVec 1 := Scalar.cmpi .ne v170 c0_i32_104
  let v175 : BitVec 1 := Scalar.andi v174 v171
  let v176 : BitVec 32 := Scalar.addi v170 v169
  let v177 : BitVec 32 := Scalar.select v175 v176 v170
  let c1_i32_863 : BitVec 32 := 1#32
  let v1324 : BitVec 32 := Scalar.muli v177 c1_i32_863
  let v1325 : BitVec 32 := Scalar.addi v1323 v1324
  v1325.toNat
def k0_dev37 (d0 : Dev nD) : Nat :=
  let c0_i32_867 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_107 : BitVec 32 := 0#32
  let v178 : BitVec 32 := Scalar.addi v2 c0_i32_107
  let c2_i32_108 : BitVec 32 := 2#32
  let c0_i32_109 : BitVec 32 := 0#32
  let v179 : BitVec 1 := Scalar.cmpi .eq c2_i32_108 c0_i32_109
  let c1_i32_110 : BitVec 32 := 1#32
  let v180 : BitVec 32 := Scalar.select v179 c1_i32_110 c2_i32_108
  let v181 : BitVec 32 := Scalar.remsi v178 v180
  let c0_i32_112 : BitVec 32 := 0#32
  let v183 : BitVec 1 := Scalar.cmpi .slt v181 c0_i32_112
  let c0_i32_113 : BitVec 32 := 0#32
  let v184 : BitVec 1 := Scalar.cmpi .slt v180 c0_i32_113
  let v185 : BitVec 1 := Scalar.xori v183 v184
  let c0_i32_111 : BitVec 32 := 0#32
  let v182 : BitVec 1 := Scalar.cmpi .ne v181 c0_i32_111
  let v186 : BitVec 1 := Scalar.andi v185 v182
  let v187 : BitVec 32 := Scalar.addi v181 v180
  let v188 : BitVec 32 := Scalar.select v186 v187 v181
  let c16_i32_866 : BitVec 32 := 16#32
  let v1332 : BitVec 32 := Scalar.muli v188 c16_i32_866
  let v1333 : BitVec 32 := Scalar.addi c0_i32_867 v1332
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_114 : BitVec 32 := 1#32
  let v189 : BitVec 32 := Scalar.addi v5 c1_i32_114
  let c4_i32_115 : BitVec 32 := 4#32
  let c0_i32_116 : BitVec 32 := 0#32
  let v190 : BitVec 1 := Scalar.cmpi .eq c4_i32_115 c0_i32_116
  let c1_i32_117 : BitVec 32 := 1#32
  let v191 : BitVec 32 := Scalar.select v190 c1_i32_117 c4_i32_115
  let v192 : BitVec 32 := Scalar.remsi v189 v191
  let c0_i32_119 : BitVec 32 := 0#32
  let v194 : BitVec 1 := Scalar.cmpi .slt v192 c0_i32_119
  let c0_i32_120 : BitVec 32 := 0#32
  let v195 : BitVec 1 := Scalar.cmpi .slt v191 c0_i32_120
  let v196 : BitVec 1 := Scalar.xori v194 v195
  let c0_i32_118 : BitVec 32 := 0#32
  let v193 : BitVec 1 := Scalar.cmpi .ne v192 c0_i32_118
  let v197 : BitVec 1 := Scalar.andi v196 v193
  let v198 : BitVec 32 := Scalar.addi v192 v191
  let v199 : BitVec 32 := Scalar.select v197 v198 v192
  let c4_i32_868 : BitVec 32 := 4#32
  let v1334 : BitVec 32 := Scalar.muli v199 c4_i32_868
  let v1335 : BitVec 32 := Scalar.addi v1333 v1334
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_121 : BitVec 32 := 2#32
  let v200 : BitVec 32 := Scalar.addi v8 c2_i32_121
  let c4_i32_122 : BitVec 32 := 4#32
  let c0_i32_123 : BitVec 32 := 0#32
  let v201 : BitVec 1 := Scalar.cmpi .eq c4_i32_122 c0_i32_123
  let c1_i32_124 : BitVec 32 := 1#32
  let v202 : BitVec 32 := Scalar.select v201 c1_i32_124 c4_i32_122
  let v203 : BitVec 32 := Scalar.remsi v200 v202
  let c0_i32_126 : BitVec 32 := 0#32
  let v205 : BitVec 1 := Scalar.cmpi .slt v203 c0_i32_126
  let c0_i32_127 : BitVec 32 := 0#32
  let v206 : BitVec 1 := Scalar.cmpi .slt v202 c0_i32_127
  let v207 : BitVec 1 := Scalar.xori v205 v206
  let c0_i32_125 : BitVec 32 := 0#32
  let v204 : BitVec 1 := Scalar.cmpi .ne v203 c0_i32_125
  let v208 : BitVec 1 := Scalar.andi v207 v204
  let v209 : BitVec 32 := Scalar.addi v203 v202
  let v210 : BitVec 32 := Scalar.select v208 v209 v203
  let c1_i32_869 : BitVec 32 := 1#32
  let v1336 : BitVec 32 := Scalar.muli v210 c1_i32_869
  let v1337 : BitVec 32 := Scalar.addi v1335 v1336
  v1337.toNat
def k0_dev38 (d0 : Dev nD) : Nat :=
  let c0_i32_873 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_128 : BitVec 32 := 0#32
  let v211 : BitVec 32 := Scalar.addi v2 c0_i32_128
  let c2_i32_129 : BitVec 32 := 2#32
  let c0_i32_130 : BitVec 32 := 0#32
  let v212 : BitVec 1 := Scalar.cmpi .eq c2_i32_129 c0_i32_130
  let c1_i32_131 : BitVec 32 := 1#32
  let v213 : BitVec 32 := Scalar.select v212 c1_i32_131 c2_i32_129
  let v214 : BitVec 32 := Scalar.remsi v211 v213
  let c0_i32_133 : BitVec 32 := 0#32
  let v216 : BitVec 1 := Scalar.cmpi .slt v214 c0_i32_133
  let c0_i32_134 : BitVec 32 := 0#32
  let v217 : BitVec 1 := Scalar.cmpi .slt v213 c0_i32_134
  let v218 : BitVec 1 := Scalar.xori v216 v217
  let c0_i32_132 : BitVec 32 := 0#32
  let v215 : BitVec 1 := Scalar.cmpi .ne v214 c0_i32_132
  let v219 : BitVec 1 := Scalar.andi v218 v215
  let v220 : BitVec 32 := Scalar.addi v214 v213
  let v221 : BitVec 32 := Scalar.select v219 v220 v214
  let c16_i32_872 : BitVec 32 := 16#32
  let v1344 : BitVec 32 := Scalar.muli v221 c16_i32_872
  let v1345 : BitVec 32 := Scalar.addi c0_i32_873 v1344
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_135 : BitVec 32 := 1#32
  let v222 : BitVec 32 := Scalar.addi v5 c1_i32_135
  let c4_i32_136 : BitVec 32 := 4#32
  let c0_i32_137 : BitVec 32 := 0#32
  let v223 : BitVec 1 := Scalar.cmpi .eq c4_i32_136 c0_i32_137
  let c1_i32_138 : BitVec 32 := 1#32
  let v224 : BitVec 32 := Scalar.select v223 c1_i32_138 c4_i32_136
  let v225 : BitVec 32 := Scalar.remsi v222 v224
  let c0_i32_140 : BitVec 32 := 0#32
  let v227 : BitVec 1 := Scalar.cmpi .slt v225 c0_i32_140
  let c0_i32_141 : BitVec 32 := 0#32
  let v228 : BitVec 1 := Scalar.cmpi .slt v224 c0_i32_141
  let v229 : BitVec 1 := Scalar.xori v227 v228
  let c0_i32_139 : BitVec 32 := 0#32
  let v226 : BitVec 1 := Scalar.cmpi .ne v225 c0_i32_139
  let v230 : BitVec 1 := Scalar.andi v229 v226
  let v231 : BitVec 32 := Scalar.addi v225 v224
  let v232 : BitVec 32 := Scalar.select v230 v231 v225
  let c4_i32_874 : BitVec 32 := 4#32
  let v1346 : BitVec 32 := Scalar.muli v232 c4_i32_874
  let v1347 : BitVec 32 := Scalar.addi v1345 v1346
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_142 : BitVec 32 := 3#32
  let v233 : BitVec 32 := Scalar.addi v8 c3_i32_142
  let c4_i32_143 : BitVec 32 := 4#32
  let c0_i32_144 : BitVec 32 := 0#32
  let v234 : BitVec 1 := Scalar.cmpi .eq c4_i32_143 c0_i32_144
  let c1_i32_145 : BitVec 32 := 1#32
  let v235 : BitVec 32 := Scalar.select v234 c1_i32_145 c4_i32_143
  let v236 : BitVec 32 := Scalar.remsi v233 v235
  let c0_i32_147 : BitVec 32 := 0#32
  let v238 : BitVec 1 := Scalar.cmpi .slt v236 c0_i32_147
  let c0_i32_148 : BitVec 32 := 0#32
  let v239 : BitVec 1 := Scalar.cmpi .slt v235 c0_i32_148
  let v240 : BitVec 1 := Scalar.xori v238 v239
  let c0_i32_146 : BitVec 32 := 0#32
  let v237 : BitVec 1 := Scalar.cmpi .ne v236 c0_i32_146
  let v241 : BitVec 1 := Scalar.andi v240 v237
  let v242 : BitVec 32 := Scalar.addi v236 v235
  let v243 : BitVec 32 := Scalar.select v241 v242 v236
  let c1_i32_875 : BitVec 32 := 1#32
  let v1348 : BitVec 32 := Scalar.muli v243 c1_i32_875
  let v1349 : BitVec 32 := Scalar.addi v1347 v1348
  v1349.toNat
def k0_dev39 (d0 : Dev nD) : Nat :=
  let c0_i32_879 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_149 : BitVec 32 := 0#32
  let v244 : BitVec 32 := Scalar.addi v2 c0_i32_149
  let c2_i32_150 : BitVec 32 := 2#32
  let c0_i32_151 : BitVec 32 := 0#32
  let v245 : BitVec 1 := Scalar.cmpi .eq c2_i32_150 c0_i32_151
  let c1_i32_152 : BitVec 32 := 1#32
  let v246 : BitVec 32 := Scalar.select v245 c1_i32_152 c2_i32_150
  let v247 : BitVec 32 := Scalar.remsi v244 v246
  let c0_i32_154 : BitVec 32 := 0#32
  let v249 : BitVec 1 := Scalar.cmpi .slt v247 c0_i32_154
  let c0_i32_155 : BitVec 32 := 0#32
  let v250 : BitVec 1 := Scalar.cmpi .slt v246 c0_i32_155
  let v251 : BitVec 1 := Scalar.xori v249 v250
  let c0_i32_153 : BitVec 32 := 0#32
  let v248 : BitVec 1 := Scalar.cmpi .ne v247 c0_i32_153
  let v252 : BitVec 1 := Scalar.andi v251 v248
  let v253 : BitVec 32 := Scalar.addi v247 v246
  let v254 : BitVec 32 := Scalar.select v252 v253 v247
  let c16_i32_878 : BitVec 32 := 16#32
  let v1356 : BitVec 32 := Scalar.muli v254 c16_i32_878
  let v1357 : BitVec 32 := Scalar.addi c0_i32_879 v1356
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_156 : BitVec 32 := 2#32
  let v255 : BitVec 32 := Scalar.addi v5 c2_i32_156
  let c4_i32_157 : BitVec 32 := 4#32
  let c0_i32_158 : BitVec 32 := 0#32
  let v256 : BitVec 1 := Scalar.cmpi .eq c4_i32_157 c0_i32_158
  let c1_i32_159 : BitVec 32 := 1#32
  let v257 : BitVec 32 := Scalar.select v256 c1_i32_159 c4_i32_157
  let v258 : BitVec 32 := Scalar.remsi v255 v257
  let c0_i32_161 : BitVec 32 := 0#32
  let v260 : BitVec 1 := Scalar.cmpi .slt v258 c0_i32_161
  let c0_i32_162 : BitVec 32 := 0#32
  let v261 : BitVec 1 := Scalar.cmpi .slt v257 c0_i32_162
  let v262 : BitVec 1 := Scalar.xori v260 v261
  let c0_i32_160 : BitVec 32 := 0#32
  let v259 : BitVec 1 := Scalar.cmpi .ne v258 c0_i32_160
  let v263 : BitVec 1 := Scalar.andi v262 v259
  let v264 : BitVec 32 := Scalar.addi v258 v257
  let v265 : BitVec 32 := Scalar.select v263 v264 v258
  let c4_i32_880 : BitVec 32 := 4#32
  let v1358 : BitVec 32 := Scalar.muli v265 c4_i32_880
  let v1359 : BitVec 32 := Scalar.addi v1357 v1358
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_163 : BitVec 32 := 0#32
  let v266 : BitVec 32 := Scalar.addi v8 c0_i32_163
  let c4_i32_164 : BitVec 32 := 4#32
  let c0_i32_165 : BitVec 32 := 0#32
  let v267 : BitVec 1 := Scalar.cmpi .eq c4_i32_164 c0_i32_165
  let c1_i32_166 : BitVec 32 := 1#32
  let v268 : BitVec 32 := Scalar.select v267 c1_i32_166 c4_i32_164
  let v269 : BitVec 32 := Scalar.remsi v266 v268
  let c0_i32_168 : BitVec 32 := 0#32
  let v271 : BitVec 1 := Scalar.cmpi .slt v269 c0_i32_168
  let c0_i32_169 : BitVec 32 := 0#32
  let v272 : BitVec 1 := Scalar.cmpi .slt v268 c0_i32_169
  let v273 : BitVec 1 := Scalar.xori v271 v272
  let c0_i32_167 : BitVec 32 := 0#32
  let v270 : BitVec 1 := Scalar.cmpi .ne v269 c0_i32_167
  let v274 : BitVec 1 := Scalar.andi v273 v270
  let v275 : BitVec 32 := Scalar.addi v269 v268
  let v276 : BitVec 32 := Scalar.select v274 v275 v269
  let c1_i32_881 : BitVec 32 := 1#32
  let v1360 : BitVec 32 := Scalar.muli v276 c1_i32_881
  let v1361 : BitVec 32 := Scalar.addi v1359 v1360
  v1361.toNat
def k0_dev40 (d0 : Dev nD) : Nat :=
  let c0_i32_885 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_170 : BitVec 32 := 0#32
  let v277 : BitVec 32 := Scalar.addi v2 c0_i32_170
  let c2_i32_171 : BitVec 32 := 2#32
  let c0_i32_172 : BitVec 32 := 0#32
  let v278 : BitVec 1 := Scalar.cmpi .eq c2_i32_171 c0_i32_172
  let c1_i32_173 : BitVec 32 := 1#32
  let v279 : BitVec 32 := Scalar.select v278 c1_i32_173 c2_i32_171
  let v280 : BitVec 32 := Scalar.remsi v277 v279
  let c0_i32_175 : BitVec 32 := 0#32
  let v282 : BitVec 1 := Scalar.cmpi .slt v280 c0_i32_175
  let c0_i32_176 : BitVec 32 := 0#32
  let v283 : BitVec 1 := Scalar.cmpi .slt v279 c0_i32_176
  let v284 : BitVec 1 := Scalar.xori v282 v283
  let c0_i32_174 : BitVec 32 := 0#32
  let v281 : BitVec 1 := Scalar.cmpi .ne v280 c0_i32_174
  let v285 : BitVec 1 := Scalar.andi v284 v281
  let v286 : BitVec 32 := Scalar.addi v280 v279
  let v287 : BitVec 32 := Scalar.select v285 v286 v280
  let c16_i32_884 : BitVec 32 := 16#32
  let v1368 : BitVec 32 := Scalar.muli v287 c16_i32_884
  let v1369 : BitVec 32 := Scalar.addi c0_i32_885 v1368
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_177 : BitVec 32 := 2#32
  let v288 : BitVec 32 := Scalar.addi v5 c2_i32_177
  let c4_i32_178 : BitVec 32 := 4#32
  let c0_i32_179 : BitVec 32 := 0#32
  let v289 : BitVec 1 := Scalar.cmpi .eq c4_i32_178 c0_i32_179
  let c1_i32_180 : BitVec 32 := 1#32
  let v290 : BitVec 32 := Scalar.select v289 c1_i32_180 c4_i32_178
  let v291 : BitVec 32 := Scalar.remsi v288 v290
  let c0_i32_182 : BitVec 32 := 0#32
  let v293 : BitVec 1 := Scalar.cmpi .slt v291 c0_i32_182
  let c0_i32_183 : BitVec 32 := 0#32
  let v294 : BitVec 1 := Scalar.cmpi .slt v290 c0_i32_183
  let v295 : BitVec 1 := Scalar.xori v293 v294
  let c0_i32_181 : BitVec 32 := 0#32
  let v292 : BitVec 1 := Scalar.cmpi .ne v291 c0_i32_181
  let v296 : BitVec 1 := Scalar.andi v295 v292
  let v297 : BitVec 32 := Scalar.addi v291 v290
  let v298 : BitVec 32 := Scalar.select v296 v297 v291
  let c4_i32_886 : BitVec 32 := 4#32
  let v1370 : BitVec 32 := Scalar.muli v298 c4_i32_886
  let v1371 : BitVec 32 := Scalar.addi v1369 v1370
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_184 : BitVec 32 := 1#32
  let v299 : BitVec 32 := Scalar.addi v8 c1_i32_184
  let c4_i32_185 : BitVec 32 := 4#32
  let c0_i32_186 : BitVec 32 := 0#32
  let v300 : BitVec 1 := Scalar.cmpi .eq c4_i32_185 c0_i32_186
  let c1_i32_187 : BitVec 32 := 1#32
  let v301 : BitVec 32 := Scalar.select v300 c1_i32_187 c4_i32_185
  let v302 : BitVec 32 := Scalar.remsi v299 v301
  let c0_i32_189 : BitVec 32 := 0#32
  let v304 : BitVec 1 := Scalar.cmpi .slt v302 c0_i32_189
  let c0_i32_190 : BitVec 32 := 0#32
  let v305 : BitVec 1 := Scalar.cmpi .slt v301 c0_i32_190
  let v306 : BitVec 1 := Scalar.xori v304 v305
  let c0_i32_188 : BitVec 32 := 0#32
  let v303 : BitVec 1 := Scalar.cmpi .ne v302 c0_i32_188
  let v307 : BitVec 1 := Scalar.andi v306 v303
  let v308 : BitVec 32 := Scalar.addi v302 v301
  let v309 : BitVec 32 := Scalar.select v307 v308 v302
  let c1_i32_887 : BitVec 32 := 1#32
  let v1372 : BitVec 32 := Scalar.muli v309 c1_i32_887
  let v1373 : BitVec 32 := Scalar.addi v1371 v1372
  v1373.toNat
def k0_dev41 (d0 : Dev nD) : Nat :=
  let c0_i32_891 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_191 : BitVec 32 := 0#32
  let v310 : BitVec 32 := Scalar.addi v2 c0_i32_191
  let c2_i32_192 : BitVec 32 := 2#32
  let c0_i32_193 : BitVec 32 := 0#32
  let v311 : BitVec 1 := Scalar.cmpi .eq c2_i32_192 c0_i32_193
  let c1_i32_194 : BitVec 32 := 1#32
  let v312 : BitVec 32 := Scalar.select v311 c1_i32_194 c2_i32_192
  let v313 : BitVec 32 := Scalar.remsi v310 v312
  let c0_i32_196 : BitVec 32 := 0#32
  let v315 : BitVec 1 := Scalar.cmpi .slt v313 c0_i32_196
  let c0_i32_197 : BitVec 32 := 0#32
  let v316 : BitVec 1 := Scalar.cmpi .slt v312 c0_i32_197
  let v317 : BitVec 1 := Scalar.xori v315 v316
  let c0_i32_195 : BitVec 32 := 0#32
  let v314 : BitVec 1 := Scalar.cmpi .ne v313 c0_i32_195
  let v318 : BitVec 1 := Scalar.andi v317 v314
  let v319 : BitVec 32 := Scalar.addi v313 v312
  let v320 : BitVec 32 := Scalar.select v318 v319 v313
  let c16_i32_890 : BitVec 32 := 16#32
  let v1380 : BitVec 32 := Scalar.muli v320 c16_i32_890
  let v1381 : BitVec 32 := Scalar.addi c0_i32_891 v1380
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_198 : BitVec 32 := 2#32
  let v321 : BitVec 32 := Scalar.addi v5 c2_i32_198
  let c4_i32_199 : BitVec 32 := 4#32
  let c0_i32_200 : BitVec 32 := 0#32
  let v322 : BitVec 1 := Scalar.cmpi .eq c4_i32_199 c0_i32_200
  let c1_i32_201 : BitVec 32 := 1#32
  let v323 : BitVec 32 := Scalar.select v322 c1_i32_201 c4_i32_199
  let v324 : BitVec 32 := Scalar.remsi v321 v323
  let c0_i32_203 : BitVec 32 := 0#32
  let v326 : BitVec 1 := Scalar.cmpi .slt v324 c0_i32_203
  let c0_i32_204 : BitVec 32 := 0#32
  let v327 : BitVec 1 := Scalar.cmpi .slt v323 c0_i32_204
  let v328 : BitVec 1 := Scalar.xori v326 v327
  let c0_i32_202 : BitVec 32 := 0#32
  let v325 : BitVec 1 := Scalar.cmpi .ne v324 c0_i32_202
  let v329 : BitVec 1 := Scalar.andi v328 v325
  let v330 : BitVec 32 := Scalar.addi v324 v323
  let v331 : BitVec 32 := Scalar.select v329 v330 v324
  let c4_i32_892 : BitVec 32 := 4#32
  let v1382 : BitVec 32 := Scalar.muli v331 c4_i32_892
  let v1383 : BitVec 32 := Scalar.addi v1381 v1382
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_205 : BitVec 32 := 2#32
  let v332 : BitVec 32 := Scalar.addi v8 c2_i32_205
  let c4_i32_206 : BitVec 32 := 4#32
  let c0_i32_207 : BitVec 32 := 0#32
  let v333 : BitVec 1 := Scalar.cmpi .eq c4_i32_206 c0_i32_207
  let c1_i32_208 : BitVec 32 := 1#32
  let v334 : BitVec 32 := Scalar.select v333 c1_i32_208 c4_i32_206
  let v335 : BitVec 32 := Scalar.remsi v332 v334
  let c0_i32_210 : BitVec 32 := 0#32
  let v337 : BitVec 1 := Scalar.cmpi .slt v335 c0_i32_210
  let c0_i32_211 : BitVec 32 := 0#32
  let v338 : BitVec 1 := Scalar.cmpi .slt v334 c0_i32_211
  let v339 : BitVec 1 := Scalar.xori v337 v338
  let c0_i32_209 : BitVec 32 := 0#32
  let v336 : BitVec 1 := Scalar.cmpi .ne v335 c0_i32_209
  let v340 : BitVec 1 := Scalar.andi v339 v336
  let v341 : BitVec 32 := Scalar.addi v335 v334
  let v342 : BitVec 32 := Scalar.select v340 v341 v335
  let c1_i32_893 : BitVec 32 := 1#32
  let v1384 : BitVec 32 := Scalar.muli v342 c1_i32_893
  let v1385 : BitVec 32 := Scalar.addi v1383 v1384
  v1385.toNat
def k0_dev42 (d0 : Dev nD) : Nat :=
  let c0_i32_897 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_212 : BitVec 32 := 0#32
  let v343 : BitVec 32 := Scalar.addi v2 c0_i32_212
  let c2_i32_213 : BitVec 32 := 2#32
  let c0_i32_214 : BitVec 32 := 0#32
  let v344 : BitVec 1 := Scalar.cmpi .eq c2_i32_213 c0_i32_214
  let c1_i32_215 : BitVec 32 := 1#32
  let v345 : BitVec 32 := Scalar.select v344 c1_i32_215 c2_i32_213
  let v346 : BitVec 32 := Scalar.remsi v343 v345
  let c0_i32_217 : BitVec 32 := 0#32
  let v348 : BitVec 1 := Scalar.cmpi .slt v346 c0_i32_217
  let c0_i32_218 : BitVec 32 := 0#32
  let v349 : BitVec 1 := Scalar.cmpi .slt v345 c0_i32_218
  let v350 : BitVec 1 := Scalar.xori v348 v349
  let c0_i32_216 : BitVec 32 := 0#32
  let v347 : BitVec 1 := Scalar.cmpi .ne v346 c0_i32_216
  let v351 : BitVec 1 := Scalar.andi v350 v347
  let v352 : BitVec 32 := Scalar.addi v346 v345
  let v353 : BitVec 32 := Scalar.select v351 v352 v346
  let c16_i32_896 : BitVec 32 := 16#32
  let v1392 : BitVec 32 := Scalar.muli v353 c16_i32_896
  let v1393 : BitVec 32 := Scalar.addi c0_i32_897 v1392
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_219 : BitVec 32 := 2#32
  let v354 : BitVec 32 := Scalar.addi v5 c2_i32_219
  let c4_i32_220 : BitVec 32 := 4#32
  let c0_i32_221 : BitVec 32 := 0#32
  let v355 : BitVec 1 := Scalar.cmpi .eq c4_i32_220 c0_i32_221
  let c1_i32_222 : BitVec 32 := 1#32
  let v356 : BitVec 32 := Scalar.select v355 c1_i32_222 c4_i32_220
  let v357 : BitVec 32 := Scalar.remsi v354 v356
  let c0_i32_224 : BitVec 32 := 0#32
  let v359 : BitVec 1 := Scalar.cmpi .slt v357 c0_i32_224
  let c0_i32_225 : BitVec 32 := 0#32
  let v360 : BitVec 1 := Scalar.cmpi .slt v356 c0_i32_225
  let v361 : BitVec 1 := Scalar.xori v359 v360
  let c0_i32_223 : BitVec 32 := 0#32
  let v358 : BitVec 1 := Scalar.cmpi .ne v357 c0_i32_223
  let v362 : BitVec 1 := Scalar.andi v361 v358
  let v363 : BitVec 32 := Scalar.addi v357 v356
  let v364 : BitVec 32 := Scalar.select v362 v363 v357
  let c4_i32_898 : BitVec 32 := 4#32
  let v1394 : BitVec 32 := Scalar.muli v364 c4_i32_898
  let v1395 : BitVec 32 := Scalar.addi v1393 v1394
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_226 : BitVec 32 := 3#32
  let v365 : BitVec 32 := Scalar.addi v8 c3_i32_226
  let c4_i32_227 : BitVec 32 := 4#32
  let c0_i32_228 : BitVec 32 := 0#32
  let v366 : BitVec 1 := Scalar.cmpi .eq c4_i32_227 c0_i32_228
  let c1_i32_229 : BitVec 32 := 1#32
  let v367 : BitVec 32 := Scalar.select v366 c1_i32_229 c4_i32_227
  let v368 : BitVec 32 := Scalar.remsi v365 v367
  let c0_i32_231 : BitVec 32 := 0#32
  let v370 : BitVec 1 := Scalar.cmpi .slt v368 c0_i32_231
  let c0_i32_232 : BitVec 32 := 0#32
  let v371 : BitVec 1 := Scalar.cmpi .slt v367 c0_i32_232
  let v372 : BitVec 1 := Scalar.xori v370 v371
  let c0_i32_230 : BitVec 32 := 0#32
  let v369 : BitVec 1 := Scalar.cmpi .ne v368 c0_i32_230
  let v373 : BitVec 1 := Scalar.andi v372 v369
  let v374 : BitVec 32 := Scalar.addi v368 v367
  let v375 : BitVec 32 := Scalar.select v373 v374 v368
  let c1_i32_899 : BitVec 32 := 1#32
  let v1396 : BitVec 32 := Scalar.muli v375 c1_i32_899
  let v1397 : BitVec 32 := Scalar.addi v1395 v1396
  v1397.toNat
def k0_dev43 (d0 : Dev nD) : Nat :=
  let c0_i32_903 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_233 : BitVec 32 := 0#32
  let v376 : BitVec 32 := Scalar.addi v2 c0_i32_233
  let c2_i32_234 : BitVec 32 := 2#32
  let c0_i32_235 : BitVec 32 := 0#32
  let v377 : BitVec 1 := Scalar.cmpi .eq c2_i32_234 c0_i32_235
  let c1_i32_236 : BitVec 32 := 1#32
  let v378 : BitVec 32 := Scalar.select v377 c1_i32_236 c2_i32_234
  let v379 : BitVec 32 := Scalar.remsi v376 v378
  let c0_i32_238 : BitVec 32 := 0#32
  let v381 : BitVec 1 := Scalar.cmpi .slt v379 c0_i32_238
  let c0_i32_239 : BitVec 32 := 0#32
  let v382 : BitVec 1 := Scalar.cmpi .slt v378 c0_i32_239
  let v383 : BitVec 1 := Scalar.xori v381 v382
  let c0_i32_237 : BitVec 32 := 0#32
  let v380 : BitVec 1 := Scalar.cmpi .ne v379 c0_i32_237
  let v384 : BitVec 1 := Scalar.andi v383 v380
  let v385 : BitVec 32 := Scalar.addi v379 v378
  let v386 : BitVec 32 := Scalar.select v384 v385 v379
  let c16_i32_902 : BitVec 32 := 16#32
  let v1404 : BitVec 32 := Scalar.muli v386 c16_i32_902
  let v1405 : BitVec 32 := Scalar.addi c0_i32_903 v1404
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_240 : BitVec 32 := 3#32
  let v387 : BitVec 32 := Scalar.addi v5 c3_i32_240
  let c4_i32_241 : BitVec 32 := 4#32
  let c0_i32_242 : BitVec 32 := 0#32
  let v388 : BitVec 1 := Scalar.cmpi .eq c4_i32_241 c0_i32_242
  let c1_i32_243 : BitVec 32 := 1#32
  let v389 : BitVec 32 := Scalar.select v388 c1_i32_243 c4_i32_241
  let v390 : BitVec 32 := Scalar.remsi v387 v389
  let c0_i32_245 : BitVec 32 := 0#32
  let v392 : BitVec 1 := Scalar.cmpi .slt v390 c0_i32_245
  let c0_i32_246 : BitVec 32 := 0#32
  let v393 : BitVec 1 := Scalar.cmpi .slt v389 c0_i32_246
  let v394 : BitVec 1 := Scalar.xori v392 v393
  let c0_i32_244 : BitVec 32 := 0#32
  let v391 : BitVec 1 := Scalar.cmpi .ne v390 c0_i32_244
  let v395 : BitVec 1 := Scalar.andi v394 v391
  let v396 : BitVec 32 := Scalar.addi v390 v389
  let v397 : BitVec 32 := Scalar.select v395 v396 v390
  let c4_i32_904 : BitVec 32 := 4#32
  let v1406 : BitVec 32 := Scalar.muli v397 c4_i32_904
  let v1407 : BitVec 32 := Scalar.addi v1405 v1406
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_247 : BitVec 32 := 0#32
  let v398 : BitVec 32 := Scalar.addi v8 c0_i32_247
  let c4_i32_248 : BitVec 32 := 4#32
  let c0_i32_249 : BitVec 32 := 0#32
  let v399 : BitVec 1 := Scalar.cmpi .eq c4_i32_248 c0_i32_249
  let c1_i32_250 : BitVec 32 := 1#32
  let v400 : BitVec 32 := Scalar.select v399 c1_i32_250 c4_i32_248
  let v401 : BitVec 32 := Scalar.remsi v398 v400
  let c0_i32_252 : BitVec 32 := 0#32
  let v403 : BitVec 1 := Scalar.cmpi .slt v401 c0_i32_252
  let c0_i32_253 : BitVec 32 := 0#32
  let v404 : BitVec 1 := Scalar.cmpi .slt v400 c0_i32_253
  let v405 : BitVec 1 := Scalar.xori v403 v404
  let c0_i32_251 : BitVec 32 := 0#32
  let v402 : BitVec 1 := Scalar.cmpi .ne v401 c0_i32_251
  let v406 : BitVec 1 := Scalar.andi v405 v402
  let v407 : BitVec 32 := Scalar.addi v401 v400
  let v408 : BitVec 32 := Scalar.select v406 v407 v401
  let c1_i32_905 : BitVec 32 := 1#32
  let v1408 : BitVec 32 := Scalar.muli v408 c1_i32_905
  let v1409 : BitVec 32 := Scalar.addi v1407 v1408
  v1409.toNat
def k0_dev44 (d0 : Dev nD) : Nat :=
  let c0_i32_909 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_254 : BitVec 32 := 0#32
  let v409 : BitVec 32 := Scalar.addi v2 c0_i32_254
  let c2_i32_255 : BitVec 32 := 2#32
  let c0_i32_256 : BitVec 32 := 0#32
  let v410 : BitVec 1 := Scalar.cmpi .eq c2_i32_255 c0_i32_256
  let c1_i32_257 : BitVec 32 := 1#32
  let v411 : BitVec 32 := Scalar.select v410 c1_i32_257 c2_i32_255
  let v412 : BitVec 32 := Scalar.remsi v409 v411
  let c0_i32_259 : BitVec 32 := 0#32
  let v414 : BitVec 1 := Scalar.cmpi .slt v412 c0_i32_259
  let c0_i32_260 : BitVec 32 := 0#32
  let v415 : BitVec 1 := Scalar.cmpi .slt v411 c0_i32_260
  let v416 : BitVec 1 := Scalar.xori v414 v415
  let c0_i32_258 : BitVec 32 := 0#32
  let v413 : BitVec 1 := Scalar.cmpi .ne v412 c0_i32_258
  let v417 : BitVec 1 := Scalar.andi v416 v413
  let v418 : BitVec 32 := Scalar.addi v412 v411
  let v419 : BitVec 32 := Scalar.select v417 v418 v412
  let c16_i32_908 : BitVec 32 := 16#32
  let v1416 : BitVec 32 := Scalar.muli v419 c16_i32_908
  let v1417 : BitVec 32 := Scalar.addi c0_i32_909 v1416
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_261 : BitVec 32 := 3#32
  let v420 : BitVec 32 := Scalar.addi v5 c3_i32_261
  let c4_i32_262 : BitVec 32 := 4#32
  let c0_i32_263 : BitVec 32 := 0#32
  let v421 : BitVec 1 := Scalar.cmpi .eq c4_i32_262 c0_i32_263
  let c1_i32_264 : BitVec 32 := 1#32
  let v422 : BitVec 32 := Scalar.select v421 c1_i32_264 c4_i32_262
  let v423 : BitVec 32 := Scalar.remsi v420 v422
  let c0_i32_266 : BitVec 32 := 0#32
  let v425 : BitVec 1 := Scalar.cmpi .slt v423 c0_i32_266
  let c0_i32_267 : BitVec 32 := 0#32
  let v426 : BitVec 1 := Scalar.cmpi .slt v422 c0_i32_267
  let v427 : BitVec 1 := Scalar.xori v425 v426
  let c0_i32_265 : BitVec 32 := 0#32
  let v424 : BitVec 1 := Scalar.cmpi .ne v423 c0_i32_265
  let v428 : BitVec 1 := Scalar.andi v427 v424
  let v429 : BitVec 32 := Scalar.addi v423 v422
  let v430 : BitVec 32 := Scalar.select v428 v429 v423
  let c4_i32_910 : BitVec 32 := 4#32
  let v1418 : BitVec 32 := Scalar.muli v430 c4_i32_910
  let v1419 : BitVec 32 := Scalar.addi v1417 v1418
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_268 : BitVec 32 := 1#32
  let v431 : BitVec 32 := Scalar.addi v8 c1_i32_268
  let c4_i32_269 : BitVec 32 := 4#32
  let c0_i32_270 : BitVec 32 := 0#32
  let v432 : BitVec 1 := Scalar.cmpi .eq c4_i32_269 c0_i32_270
  let c1_i32_271 : BitVec 32 := 1#32
  let v433 : BitVec 32 := Scalar.select v432 c1_i32_271 c4_i32_269
  let v434 : BitVec 32 := Scalar.remsi v431 v433
  let c0_i32_273 : BitVec 32 := 0#32
  let v436 : BitVec 1 := Scalar.cmpi .slt v434 c0_i32_273
  let c0_i32_274 : BitVec 32 := 0#32
  let v437 : BitVec 1 := Scalar.cmpi .slt v433 c0_i32_274
  let v438 : BitVec 1 := Scalar.xori v436 v437
  let c0_i32_272 : BitVec 32 := 0#32
  let v435 : BitVec 1 := Scalar.cmpi .ne v434 c0_i32_272
  let v439 : BitVec 1 := Scalar.andi v438 v435
  let v440 : BitVec 32 := Scalar.addi v434 v433
  let v441 : BitVec 32 := Scalar.select v439 v440 v434
  let c1_i32_911 : BitVec 32 := 1#32
  let v1420 : BitVec 32 := Scalar.muli v441 c1_i32_911
  let v1421 : BitVec 32 := Scalar.addi v1419 v1420
  v1421.toNat
def k0_dev45 (d0 : Dev nD) : Nat :=
  let c0_i32_915 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_275 : BitVec 32 := 0#32
  let v442 : BitVec 32 := Scalar.addi v2 c0_i32_275
  let c2_i32_276 : BitVec 32 := 2#32
  let c0_i32_277 : BitVec 32 := 0#32
  let v443 : BitVec 1 := Scalar.cmpi .eq c2_i32_276 c0_i32_277
  let c1_i32_278 : BitVec 32 := 1#32
  let v444 : BitVec 32 := Scalar.select v443 c1_i32_278 c2_i32_276
  let v445 : BitVec 32 := Scalar.remsi v442 v444
  let c0_i32_280 : BitVec 32 := 0#32
  let v447 : BitVec 1 := Scalar.cmpi .slt v445 c0_i32_280
  let c0_i32_281 : BitVec 32 := 0#32
  let v448 : BitVec 1 := Scalar.cmpi .slt v444 c0_i32_281
  let v449 : BitVec 1 := Scalar.xori v447 v448
  let c0_i32_279 : BitVec 32 := 0#32
  let v446 : BitVec 1 := Scalar.cmpi .ne v445 c0_i32_279
  let v450 : BitVec 1 := Scalar.andi v449 v446
  let v451 : BitVec 32 := Scalar.addi v445 v444
  let v452 : BitVec 32 := Scalar.select v450 v451 v445
  let c16_i32_914 : BitVec 32 := 16#32
  let v1428 : BitVec 32 := Scalar.muli v452 c16_i32_914
  let v1429 : BitVec 32 := Scalar.addi c0_i32_915 v1428
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_282 : BitVec 32 := 3#32
  let v453 : BitVec 32 := Scalar.addi v5 c3_i32_282
  let c4_i32_283 : BitVec 32 := 4#32
  let c0_i32_284 : BitVec 32 := 0#32
  let v454 : BitVec 1 := Scalar.cmpi .eq c4_i32_283 c0_i32_284
  let c1_i32_285 : BitVec 32 := 1#32
  let v455 : BitVec 32 := Scalar.select v454 c1_i32_285 c4_i32_283
  let v456 : BitVec 32 := Scalar.remsi v453 v455
  let c0_i32_287 : BitVec 32 := 0#32
  let v458 : BitVec 1 := Scalar.cmpi .slt v456 c0_i32_287
  let c0_i32_288 : BitVec 32 := 0#32
  let v459 : BitVec 1 := Scalar.cmpi .slt v455 c0_i32_288
  let v460 : BitVec 1 := Scalar.xori v458 v459
  let c0_i32_286 : BitVec 32 := 0#32
  let v457 : BitVec 1 := Scalar.cmpi .ne v456 c0_i32_286
  let v461 : BitVec 1 := Scalar.andi v460 v457
  let v462 : BitVec 32 := Scalar.addi v456 v455
  let v463 : BitVec 32 := Scalar.select v461 v462 v456
  let c4_i32_916 : BitVec 32 := 4#32
  let v1430 : BitVec 32 := Scalar.muli v463 c4_i32_916
  let v1431 : BitVec 32 := Scalar.addi v1429 v1430
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_289 : BitVec 32 := 2#32
  let v464 : BitVec 32 := Scalar.addi v8 c2_i32_289
  let c4_i32_290 : BitVec 32 := 4#32
  let c0_i32_291 : BitVec 32 := 0#32
  let v465 : BitVec 1 := Scalar.cmpi .eq c4_i32_290 c0_i32_291
  let c1_i32_292 : BitVec 32 := 1#32
  let v466 : BitVec 32 := Scalar.select v465 c1_i32_292 c4_i32_290
  let v467 : BitVec 32 := Scalar.remsi v464 v466
  let c0_i32_294 : BitVec 32 := 0#32
  let v469 : BitVec 1 := Scalar.cmpi .slt v467 c0_i32_294
  let c0_i32_295 : BitVec 32 := 0#32
  let v470 : BitVec 1 := Scalar.cmpi .slt v466 c0_i32_295
  let v471 : BitVec 1 := Scalar.xori v469 v470
  let c0_i32_293 : BitVec 32 := 0#32
  let v468 : BitVec 1 := Scalar.cmpi .ne v467 c0_i32_293
  let v472 : BitVec 1 := Scalar.andi v471 v468
  let v473 : BitVec 32 := Scalar.addi v467 v466
  let v474 : BitVec 32 := Scalar.select v472 v473 v467
  let c1_i32_917 : BitVec 32 := 1#32
  let v1432 : BitVec 32 := Scalar.muli v474 c1_i32_917
  let v1433 : BitVec 32 := Scalar.addi v1431 v1432
  v1433.toNat
def k0_dev46 (d0 : Dev nD) : Nat :=
  let c0_i32_921 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_296 : BitVec 32 := 0#32
  let v475 : BitVec 32 := Scalar.addi v2 c0_i32_296
  let c2_i32_297 : BitVec 32 := 2#32
  let c0_i32_298 : BitVec 32 := 0#32
  let v476 : BitVec 1 := Scalar.cmpi .eq c2_i32_297 c0_i32_298
  let c1_i32_299 : BitVec 32 := 1#32
  let v477 : BitVec 32 := Scalar.select v476 c1_i32_299 c2_i32_297
  let v478 : BitVec 32 := Scalar.remsi v475 v477
  let c0_i32_301 : BitVec 32 := 0#32
  let v480 : BitVec 1 := Scalar.cmpi .slt v478 c0_i32_301
  let c0_i32_302 : BitVec 32 := 0#32
  let v481 : BitVec 1 := Scalar.cmpi .slt v477 c0_i32_302
  let v482 : BitVec 1 := Scalar.xori v480 v481
  let c0_i32_300 : BitVec 32 := 0#32
  let v479 : BitVec 1 := Scalar.cmpi .ne v478 c0_i32_300
  let v483 : BitVec 1 := Scalar.andi v482 v479
  let v484 : BitVec 32 := Scalar.addi v478 v477
  let v485 : BitVec 32 := Scalar.select v483 v484 v478
  let c16_i32_920 : BitVec 32 := 16#32
  let v1440 : BitVec 32 := Scalar.muli v485 c16_i32_920
  let v1441 : BitVec 32 := Scalar.addi c0_i32_921 v1440
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_303 : BitVec 32 := 3#32
  let v486 : BitVec 32 := Scalar.addi v5 c3_i32_303
  let c4_i32_304 : BitVec 32 := 4#32
  let c0_i32_305 : BitVec 32 := 0#32
  let v487 : BitVec 1 := Scalar.cmpi .eq c4_i32_304 c0_i32_305
  let c1_i32_306 : BitVec 32 := 1#32
  let v488 : BitVec 32 := Scalar.select v487 c1_i32_306 c4_i32_304
  let v489 : BitVec 32 := Scalar.remsi v486 v488
  let c0_i32_308 : BitVec 32 := 0#32
  let v491 : BitVec 1 := Scalar.cmpi .slt v489 c0_i32_308
  let c0_i32_309 : BitVec 32 := 0#32
  let v492 : BitVec 1 := Scalar.cmpi .slt v488 c0_i32_309
  let v493 : BitVec 1 := Scalar.xori v491 v492
  let c0_i32_307 : BitVec 32 := 0#32
  let v490 : BitVec 1 := Scalar.cmpi .ne v489 c0_i32_307
  let v494 : BitVec 1 := Scalar.andi v493 v490
  let v495 : BitVec 32 := Scalar.addi v489 v488
  let v496 : BitVec 32 := Scalar.select v494 v495 v489
  let c4_i32_922 : BitVec 32 := 4#32
  let v1442 : BitVec 32 := Scalar.muli v496 c4_i32_922
  let v1443 : BitVec 32 := Scalar.addi v1441 v1442
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_310 : BitVec 32 := 3#32
  let v497 : BitVec 32 := Scalar.addi v8 c3_i32_310
  let c4_i32_311 : BitVec 32 := 4#32
  let c0_i32_312 : BitVec 32 := 0#32
  let v498 : BitVec 1 := Scalar.cmpi .eq c4_i32_311 c0_i32_312
  let c1_i32_313 : BitVec 32 := 1#32
  let v499 : BitVec 32 := Scalar.select v498 c1_i32_313 c4_i32_311
  let v500 : BitVec 32 := Scalar.remsi v497 v499
  let c0_i32_315 : BitVec 32 := 0#32
  let v502 : BitVec 1 := Scalar.cmpi .slt v500 c0_i32_315
  let c0_i32_316 : BitVec 32 := 0#32
  let v503 : BitVec 1 := Scalar.cmpi .slt v499 c0_i32_316
  let v504 : BitVec 1 := Scalar.xori v502 v503
  let c0_i32_314 : BitVec 32 := 0#32
  let v501 : BitVec 1 := Scalar.cmpi .ne v500 c0_i32_314
  let v505 : BitVec 1 := Scalar.andi v504 v501
  let v506 : BitVec 32 := Scalar.addi v500 v499
  let v507 : BitVec 32 := Scalar.select v505 v506 v500
  let c1_i32_923 : BitVec 32 := 1#32
  let v1444 : BitVec 32 := Scalar.muli v507 c1_i32_923
  let v1445 : BitVec 32 := Scalar.addi v1443 v1444
  v1445.toNat
def k0_dev47 (d0 : Dev nD) : Nat :=
  let c0_i32_927 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_317 : BitVec 32 := 1#32
  let v508 : BitVec 32 := Scalar.addi v2 c1_i32_317
  let c2_i32_318 : BitVec 32 := 2#32
  let c0_i32_319 : BitVec 32 := 0#32
  let v509 : BitVec 1 := Scalar.cmpi .eq c2_i32_318 c0_i32_319
  let c1_i32_320 : BitVec 32 := 1#32
  let v510 : BitVec 32 := Scalar.select v509 c1_i32_320 c2_i32_318
  let v511 : BitVec 32 := Scalar.remsi v508 v510
  let c0_i32_322 : BitVec 32 := 0#32
  let v513 : BitVec 1 := Scalar.cmpi .slt v511 c0_i32_322
  let c0_i32_323 : BitVec 32 := 0#32
  let v514 : BitVec 1 := Scalar.cmpi .slt v510 c0_i32_323
  let v515 : BitVec 1 := Scalar.xori v513 v514
  let c0_i32_321 : BitVec 32 := 0#32
  let v512 : BitVec 1 := Scalar.cmpi .ne v511 c0_i32_321
  let v516 : BitVec 1 := Scalar.andi v515 v512
  let v517 : BitVec 32 := Scalar.addi v511 v510
  let v518 : BitVec 32 := Scalar.select v516 v517 v511
  let c16_i32_926 : BitVec 32 := 16#32
  let v1452 : BitVec 32 := Scalar.muli v518 c16_i32_926
  let v1453 : BitVec 32 := Scalar.addi c0_i32_927 v1452
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_324 : BitVec 32 := 0#32
  let v519 : BitVec 32 := Scalar.addi v5 c0_i32_324
  let c4_i32_325 : BitVec 32 := 4#32
  let c0_i32_326 : BitVec 32 := 0#32
  let v520 : BitVec 1 := Scalar.cmpi .eq c4_i32_325 c0_i32_326
  let c1_i32_327 : BitVec 32 := 1#32
  let v521 : BitVec 32 := Scalar.select v520 c1_i32_327 c4_i32_325
  let v522 : BitVec 32 := Scalar.remsi v519 v521
  let c0_i32_329 : BitVec 32 := 0#32
  let v524 : BitVec 1 := Scalar.cmpi .slt v522 c0_i32_329
  let c0_i32_330 : BitVec 32 := 0#32
  let v525 : BitVec 1 := Scalar.cmpi .slt v521 c0_i32_330
  let v526 : BitVec 1 := Scalar.xori v524 v525
  let c0_i32_328 : BitVec 32 := 0#32
  let v523 : BitVec 1 := Scalar.cmpi .ne v522 c0_i32_328
  let v527 : BitVec 1 := Scalar.andi v526 v523
  let v528 : BitVec 32 := Scalar.addi v522 v521
  let v529 : BitVec 32 := Scalar.select v527 v528 v522
  let c4_i32_928 : BitVec 32 := 4#32
  let v1454 : BitVec 32 := Scalar.muli v529 c4_i32_928
  let v1455 : BitVec 32 := Scalar.addi v1453 v1454
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_331 : BitVec 32 := 0#32
  let v530 : BitVec 32 := Scalar.addi v8 c0_i32_331
  let c4_i32_332 : BitVec 32 := 4#32
  let c0_i32_333 : BitVec 32 := 0#32
  let v531 : BitVec 1 := Scalar.cmpi .eq c4_i32_332 c0_i32_333
  let c1_i32_334 : BitVec 32 := 1#32
  let v532 : BitVec 32 := Scalar.select v531 c1_i32_334 c4_i32_332
  let v533 : BitVec 32 := Scalar.remsi v530 v532
  let c0_i32_336 : BitVec 32 := 0#32
  let v535 : BitVec 1 := Scalar.cmpi .slt v533 c0_i32_336
  let c0_i32_337 : BitVec 32 := 0#32
  let v536 : BitVec 1 := Scalar.cmpi .slt v532 c0_i32_337
  let v537 : BitVec 1 := Scalar.xori v535 v536
  let c0_i32_335 : BitVec 32 := 0#32
  let v534 : BitVec 1 := Scalar.cmpi .ne v533 c0_i32_335
  let v538 : BitVec 1 := Scalar.andi v537 v534
  let v539 : BitVec 32 := Scalar.addi v533 v532
  let v540 : BitVec 32 := Scalar.select v538 v539 v533
  let c1_i32_929 : BitVec 32 := 1#32
  let v1456 : BitVec 32 := Scalar.muli v540 c1_i32_929
  let v1457 : BitVec 32 := Scalar.addi v1455 v1456
  v1457.toNat
def k0_dev48 (d0 : Dev nD) : Nat :=
  let c0_i32_934 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_338 : BitVec 32 := 1#32
  let v541 : BitVec 32 := Scalar.addi v2 c1_i32_338
  let c2_i32_339 : BitVec 32 := 2#32
  let c0_i32_340 : BitVec 32 := 0#32
  let v542 : BitVec 1 := Scalar.cmpi .eq c2_i32_339 c0_i32_340
  let c1_i32_341 : BitVec 32 := 1#32
  let v543 : BitVec 32 := Scalar.select v542 c1_i32_341 c2_i32_339
  let v544 : BitVec 32 := Scalar.remsi v541 v543
  let c0_i32_343 : BitVec 32 := 0#32
  let v546 : BitVec 1 := Scalar.cmpi .slt v544 c0_i32_343
  let c0_i32_344 : BitVec 32 := 0#32
  let v547 : BitVec 1 := Scalar.cmpi .slt v543 c0_i32_344
  let v548 : BitVec 1 := Scalar.xori v546 v547
  let c0_i32_342 : BitVec 32 := 0#32
  let v545 : BitVec 1 := Scalar.cmpi .ne v544 c0_i32_342
  let v549 : BitVec 1 := Scalar.andi v548 v545
  let v550 : BitVec 32 := Scalar.addi v544 v543
  let v551 : BitVec 32 := Scalar.select v549 v550 v544
  let c16_i32_933 : BitVec 32 := 16#32
  let v1464 : BitVec 32 := Scalar.muli v551 c16_i32_933
  let v1465 : BitVec 32 := Scalar.addi c0_i32_934 v1464
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_345 : BitVec 32 := 0#32
  let v552 : BitVec 32 := Scalar.addi v5 c0_i32_345
  let c4_i32_346 : BitVec 32 := 4#32
  let c0_i32_347 : BitVec 32 := 0#32
  let v553 : BitVec 1 := Scalar.cmpi .eq c4_i32_346 c0_i32_347
  let c1_i32_348 : BitVec 32 := 1#32
  let v554 : BitVec 32 := Scalar.select v553 c1_i32_348 c4_i32_346
  let v555 : BitVec 32 := Scalar.remsi v552 v554
  let c0_i32_350 : BitVec 32 := 0#32
  let v557 : BitVec 1 := Scalar.cmpi .slt v555 c0_i32_350
  let c0_i32_351 : BitVec 32 := 0#32
  let v558 : BitVec 1 := Scalar.cmpi .slt v554 c0_i32_351
  let v559 : BitVec 1 := Scalar.xori v557 v558
  let c0_i32_349 : BitVec 32 := 0#32
  let v556 : BitVec 1 := Scalar.cmpi .ne v555 c0_i32_349
  let v560 : BitVec 1 := Scalar.andi v559 v556
  let v561 : BitVec 32 := Scalar.addi v555 v554
  let v562 : BitVec 32 := Scalar.select v560 v561 v555
  let c4_i32_935 : BitVec 32 := 4#32
  let v1466 : BitVec 32 := Scalar.muli v562 c4_i32_935
  let v1467 : BitVec 32 := Scalar.addi v1465 v1466
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_352 : BitVec 32 := 1#32
  let v563 : BitVec 32 := Scalar.addi v8 c1_i32_352
  let c4_i32_353 : BitVec 32 := 4#32
  let c0_i32_354 : BitVec 32 := 0#32
  let v564 : BitVec 1 := Scalar.cmpi .eq c4_i32_353 c0_i32_354
  let c1_i32_355 : BitVec 32 := 1#32
  let v565 : BitVec 32 := Scalar.select v564 c1_i32_355 c4_i32_353
  let v566 : BitVec 32 := Scalar.remsi v563 v565
  let c0_i32_357 : BitVec 32 := 0#32
  let v568 : BitVec 1 := Scalar.cmpi .slt v566 c0_i32_357
  let c0_i32_358 : BitVec 32 := 0#32
  let v569 : BitVec 1 := Scalar.cmpi .slt v565 c0_i32_358
  let v570 : BitVec 1 := Scalar.xori v568 v569
  let c0_i32_356 : BitVec 32 := 0#32
  let v567 : BitVec 1 := Scalar.cmpi .ne v566 c0_i32_356
  let v571 : BitVec 1 := Scalar.andi v570 v567
  let v572 : BitVec 32 := Scalar.addi v566 v565
  let v573 : BitVec 32 := Scalar.select v571 v572 v566
  let c1_i32_936 : BitVec 32 := 1#32
  let v1468 : BitVec 32 := Scalar.muli v573 c1_i32_936
  let v1469 : BitVec 32 := Scalar.addi v1467 v1468
  v1469.toNat
def k0_dev49 (d0 : Dev nD) : Nat :=
  let c0_i32_940 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_359 : BitVec 32 := 1#32
  let v574 : BitVec 32 := Scalar.addi v2 c1_i32_359
  let c2_i32_360 : BitVec 32 := 2#32
  let c0_i32_361 : BitVec 32 := 0#32
  let v575 : BitVec 1 := Scalar.cmpi .eq c2_i32_360 c0_i32_361
  let c1_i32_362 : BitVec 32 := 1#32
  let v576 : BitVec 32 := Scalar.select v575 c1_i32_362 c2_i32_360
  let v577 : BitVec 32 := Scalar.remsi v574 v576
  let c0_i32_364 : BitVec 32 := 0#32
  let v579 : BitVec 1 := Scalar.cmpi .slt v577 c0_i32_364
  let c0_i32_365 : BitVec 32 := 0#32
  let v580 : BitVec 1 := Scalar.cmpi .slt v576 c0_i32_365
  let v581 : BitVec 1 := Scalar.xori v579 v580
  let c0_i32_363 : BitVec 32 := 0#32
  let v578 : BitVec 1 := Scalar.cmpi .ne v577 c0_i32_363
  let v582 : BitVec 1 := Scalar.andi v581 v578
  let v583 : BitVec 32 := Scalar.addi v577 v576
  let v584 : BitVec 32 := Scalar.select v582 v583 v577
  let c16_i32_939 : BitVec 32 := 16#32
  let v1476 : BitVec 32 := Scalar.muli v584 c16_i32_939
  let v1477 : BitVec 32 := Scalar.addi c0_i32_940 v1476
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_366 : BitVec 32 := 0#32
  let v585 : BitVec 32 := Scalar.addi v5 c0_i32_366
  let c4_i32_367 : BitVec 32 := 4#32
  let c0_i32_368 : BitVec 32 := 0#32
  let v586 : BitVec 1 := Scalar.cmpi .eq c4_i32_367 c0_i32_368
  let c1_i32_369 : BitVec 32 := 1#32
  let v587 : BitVec 32 := Scalar.select v586 c1_i32_369 c4_i32_367
  let v588 : BitVec 32 := Scalar.remsi v585 v587
  let c0_i32_371 : BitVec 32 := 0#32
  let v590 : BitVec 1 := Scalar.cmpi .slt v588 c0_i32_371
  let c0_i32_372 : BitVec 32 := 0#32
  let v591 : BitVec 1 := Scalar.cmpi .slt v587 c0_i32_372
  let v592 : BitVec 1 := Scalar.xori v590 v591
  let c0_i32_370 : BitVec 32 := 0#32
  let v589 : BitVec 1 := Scalar.cmpi .ne v588 c0_i32_370
  let v593 : BitVec 1 := Scalar.andi v592 v589
  let v594 : BitVec 32 := Scalar.addi v588 v587
  let v595 : BitVec 32 := Scalar.select v593 v594 v588
  let c4_i32_941 : BitVec 32 := 4#32
  let v1478 : BitVec 32 := Scalar.muli v595 c4_i32_941
  let v1479 : BitVec 32 := Scalar.addi v1477 v1478
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_373 : BitVec 32 := 2#32
  let v596 : BitVec 32 := Scalar.addi v8 c2_i32_373
  let c4_i32_374 : BitVec 32 := 4#32
  let c0_i32_375 : BitVec 32 := 0#32
  let v597 : BitVec 1 := Scalar.cmpi .eq c4_i32_374 c0_i32_375
  let c1_i32_376 : BitVec 32 := 1#32
  let v598 : BitVec 32 := Scalar.select v597 c1_i32_376 c4_i32_374
  let v599 : BitVec 32 := Scalar.remsi v596 v598
  let c0_i32_378 : BitVec 32 := 0#32
  let v601 : BitVec 1 := Scalar.cmpi .slt v599 c0_i32_378
  let c0_i32_379 : BitVec 32 := 0#32
  let v602 : BitVec 1 := Scalar.cmpi .slt v598 c0_i32_379
  let v603 : BitVec 1 := Scalar.xori v601 v602
  let c0_i32_377 : BitVec 32 := 0#32
  let v600 : BitVec 1 := Scalar.cmpi .ne v599 c0_i32_377
  let v604 : BitVec 1 := Scalar.andi v603 v600
  let v605 : BitVec 32 := Scalar.addi v599 v598
  let v606 : BitVec 32 := Scalar.select v604 v605 v599
  let c1_i32_942 : BitVec 32 := 1#32
  let v1480 : BitVec 32 := Scalar.muli v606 c1_i32_942
  let v1481 : BitVec 32 := Scalar.addi v1479 v1480
  v1481.toNat
def k0_dev50 (d0 : Dev nD) : Nat :=
  let c0_i32_946 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_380 : BitVec 32 := 1#32
  let v607 : BitVec 32 := Scalar.addi v2 c1_i32_380
  let c2_i32_381 : BitVec 32 := 2#32
  let c0_i32_382 : BitVec 32 := 0#32
  let v608 : BitVec 1 := Scalar.cmpi .eq c2_i32_381 c0_i32_382
  let c1_i32_383 : BitVec 32 := 1#32
  let v609 : BitVec 32 := Scalar.select v608 c1_i32_383 c2_i32_381
  let v610 : BitVec 32 := Scalar.remsi v607 v609
  let c0_i32_385 : BitVec 32 := 0#32
  let v612 : BitVec 1 := Scalar.cmpi .slt v610 c0_i32_385
  let c0_i32_386 : BitVec 32 := 0#32
  let v613 : BitVec 1 := Scalar.cmpi .slt v609 c0_i32_386
  let v614 : BitVec 1 := Scalar.xori v612 v613
  let c0_i32_384 : BitVec 32 := 0#32
  let v611 : BitVec 1 := Scalar.cmpi .ne v610 c0_i32_384
  let v615 : BitVec 1 := Scalar.andi v614 v611
  let v616 : BitVec 32 := Scalar.addi v610 v609
  let v617 : BitVec 32 := Scalar.select v615 v616 v610
  let c16_i32_945 : BitVec 32 := 16#32
  let v1488 : BitVec 32 := Scalar.muli v617 c16_i32_945
  let v1489 : BitVec 32 := Scalar.addi c0_i32_946 v1488
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_387 : BitVec 32 := 0#32
  let v618 : BitVec 32 := Scalar.addi v5 c0_i32_387
  let c4_i32_388 : BitVec 32 := 4#32
  let c0_i32_389 : BitVec 32 := 0#32
  let v619 : BitVec 1 := Scalar.cmpi .eq c4_i32_388 c0_i32_389
  let c1_i32_390 : BitVec 32 := 1#32
  let v620 : BitVec 32 := Scalar.select v619 c1_i32_390 c4_i32_388
  let v621 : BitVec 32 := Scalar.remsi v618 v620
  let c0_i32_392 : BitVec 32 := 0#32
  let v623 : BitVec 1 := Scalar.cmpi .slt v621 c0_i32_392
  let c0_i32_393 : BitVec 32 := 0#32
  let v624 : BitVec 1 := Scalar.cmpi .slt v620 c0_i32_393
  let v625 : BitVec 1 := Scalar.xori v623 v624
  let c0_i32_391 : BitVec 32 := 0#32
  let v622 : BitVec 1 := Scalar.cmpi .ne v621 c0_i32_391
  let v626 : BitVec 1 := Scalar.andi v625 v622
  let v627 : BitVec 32 := Scalar.addi v621 v620
  let v628 : BitVec 32 := Scalar.select v626 v627 v621
  let c4_i32_947 : BitVec 32 := 4#32
  let v1490 : BitVec 32 := Scalar.muli v628 c4_i32_947
  let v1491 : BitVec 32 := Scalar.addi v1489 v1490
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_394 : BitVec 32 := 3#32
  let v629 : BitVec 32 := Scalar.addi v8 c3_i32_394
  let c4_i32_395 : BitVec 32 := 4#32
  let c0_i32_396 : BitVec 32 := 0#32
  let v630 : BitVec 1 := Scalar.cmpi .eq c4_i32_395 c0_i32_396
  let c1_i32_397 : BitVec 32 := 1#32
  let v631 : BitVec 32 := Scalar.select v630 c1_i32_397 c4_i32_395
  let v632 : BitVec 32 := Scalar.remsi v629 v631
  let c0_i32_399 : BitVec 32 := 0#32
  let v634 : BitVec 1 := Scalar.cmpi .slt v632 c0_i32_399
  let c0_i32_400 : BitVec 32 := 0#32
  let v635 : BitVec 1 := Scalar.cmpi .slt v631 c0_i32_400
  let v636 : BitVec 1 := Scalar.xori v634 v635
  let c0_i32_398 : BitVec 32 := 0#32
  let v633 : BitVec 1 := Scalar.cmpi .ne v632 c0_i32_398
  let v637 : BitVec 1 := Scalar.andi v636 v633
  let v638 : BitVec 32 := Scalar.addi v632 v631
  let v639 : BitVec 32 := Scalar.select v637 v638 v632
  let c1_i32_948 : BitVec 32 := 1#32
  let v1492 : BitVec 32 := Scalar.muli v639 c1_i32_948
  let v1493 : BitVec 32 := Scalar.addi v1491 v1492
  v1493.toNat
def k0_dev51 (d0 : Dev nD) : Nat :=
  let c0_i32_952 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_401 : BitVec 32 := 1#32
  let v640 : BitVec 32 := Scalar.addi v2 c1_i32_401
  let c2_i32_402 : BitVec 32 := 2#32
  let c0_i32_403 : BitVec 32 := 0#32
  let v641 : BitVec 1 := Scalar.cmpi .eq c2_i32_402 c0_i32_403
  let c1_i32_404 : BitVec 32 := 1#32
  let v642 : BitVec 32 := Scalar.select v641 c1_i32_404 c2_i32_402
  let v643 : BitVec 32 := Scalar.remsi v640 v642
  let c0_i32_406 : BitVec 32 := 0#32
  let v645 : BitVec 1 := Scalar.cmpi .slt v643 c0_i32_406
  let c0_i32_407 : BitVec 32 := 0#32
  let v646 : BitVec 1 := Scalar.cmpi .slt v642 c0_i32_407
  let v647 : BitVec 1 := Scalar.xori v645 v646
  let c0_i32_405 : BitVec 32 := 0#32
  let v644 : BitVec 1 := Scalar.cmpi .ne v643 c0_i32_405
  let v648 : BitVec 1 := Scalar.andi v647 v644
  let v649 : BitVec 32 := Scalar.addi v643 v642
  let v650 : BitVec 32 := Scalar.select v648 v649 v643
  let c16_i32_951 : BitVec 32 := 16#32
  let v1500 : BitVec 32 := Scalar.muli v650 c16_i32_951
  let v1501 : BitVec 32 := Scalar.addi c0_i32_952 v1500
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_408 : BitVec 32 := 1#32
  let v651 : BitVec 32 := Scalar.addi v5 c1_i32_408
  let c4_i32_409 : BitVec 32 := 4#32
  let c0_i32_410 : BitVec 32 := 0#32
  let v652 : BitVec 1 := Scalar.cmpi .eq c4_i32_409 c0_i32_410
  let c1_i32_411 : BitVec 32 := 1#32
  let v653 : BitVec 32 := Scalar.select v652 c1_i32_411 c4_i32_409
  let v654 : BitVec 32 := Scalar.remsi v651 v653
  let c0_i32_413 : BitVec 32 := 0#32
  let v656 : BitVec 1 := Scalar.cmpi .slt v654 c0_i32_413
  let c0_i32_414 : BitVec 32 := 0#32
  let v657 : BitVec 1 := Scalar.cmpi .slt v653 c0_i32_414
  let v658 : BitVec 1 := Scalar.xori v656 v657
  let c0_i32_412 : BitVec 32 := 0#32
  let v655 : BitVec 1 := Scalar.cmpi .ne v654 c0_i32_412
  let v659 : BitVec 1 := Scalar.andi v658 v655
  let v660 : BitVec 32 := Scalar.addi v654 v653
  let v661 : BitVec 32 := Scalar.select v659 v660 v654
  let c4_i32_953 : BitVec 32 := 4#32
  let v1502 : BitVec 32 := Scalar.muli v661 c4_i32_953
  let v1503 : BitVec 32 := Scalar.addi v1501 v1502
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_415 : BitVec 32 := 0#32
  let v662 : BitVec 32 := Scalar.addi v8 c0_i32_415
  let c4_i32_416 : BitVec 32 := 4#32
  let c0_i32_417 : BitVec 32 := 0#32
  let v663 : BitVec 1 := Scalar.cmpi .eq c4_i32_416 c0_i32_417
  let c1_i32_418 : BitVec 32 := 1#32
  let v664 : BitVec 32 := Scalar.select v663 c1_i32_418 c4_i32_416
  let v665 : BitVec 32 := Scalar.remsi v662 v664
  let c0_i32_420 : BitVec 32 := 0#32
  let v667 : BitVec 1 := Scalar.cmpi .slt v665 c0_i32_420
  let c0_i32_421 : BitVec 32 := 0#32
  let v668 : BitVec 1 := Scalar.cmpi .slt v664 c0_i32_421
  let v669 : BitVec 1 := Scalar.xori v667 v668
  let c0_i32_419 : BitVec 32 := 0#32
  let v666 : BitVec 1 := Scalar.cmpi .ne v665 c0_i32_419
  let v670 : BitVec 1 := Scalar.andi v669 v666
  let v671 : BitVec 32 := Scalar.addi v665 v664
  let v672 : BitVec 32 := Scalar.select v670 v671 v665
  let c1_i32_954 : BitVec 32 := 1#32
  let v1504 : BitVec 32 := Scalar.muli v672 c1_i32_954
  let v1505 : BitVec 32 := Scalar.addi v1503 v1504
  v1505.toNat
def k0_dev52 (d0 : Dev nD) : Nat :=
  let c0_i32_958 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_422 : BitVec 32 := 1#32
  let v673 : BitVec 32 := Scalar.addi v2 c1_i32_422
  let c2_i32_423 : BitVec 32 := 2#32
  let c0_i32_424 : BitVec 32 := 0#32
  let v674 : BitVec 1 := Scalar.cmpi .eq c2_i32_423 c0_i32_424
  let c1_i32_425 : BitVec 32 := 1#32
  let v675 : BitVec 32 := Scalar.select v674 c1_i32_425 c2_i32_423
  let v676 : BitVec 32 := Scalar.remsi v673 v675
  let c0_i32_427 : BitVec 32 := 0#32
  let v678 : BitVec 1 := Scalar.cmpi .slt v676 c0_i32_427
  let c0_i32_428 : BitVec 32 := 0#32
  let v679 : BitVec 1 := Scalar.cmpi .slt v675 c0_i32_428
  let v680 : BitVec 1 := Scalar.xori v678 v679
  let c0_i32_426 : BitVec 32 := 0#32
  let v677 : BitVec 1 := Scalar.cmpi .ne v676 c0_i32_426
  let v681 : BitVec 1 := Scalar.andi v680 v677
  let v682 : BitVec 32 := Scalar.addi v676 v675
  let v683 : BitVec 32 := Scalar.select v681 v682 v676
  let c16_i32_957 : BitVec 32 := 16#32
  let v1512 : BitVec 32 := Scalar.muli v683 c16_i32_957
  let v1513 : BitVec 32 := Scalar.addi c0_i32_958 v1512
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_429 : BitVec 32 := 1#32
  let v684 : BitVec 32 := Scalar.addi v5 c1_i32_429
  let c4_i32_430 : BitVec 32 := 4#32
  let c0_i32_431 : BitVec 32 := 0#32
  let v685 : BitVec 1 := Scalar.cmpi .eq c4_i32_430 c0_i32_431
  let c1_i32_432 : BitVec 32 := 1#32
  let v686 : BitVec 32 := Scalar.select v685 c1_i32_432 c4_i32_430
  let v687 : BitVec 32 := Scalar.remsi v684 v686
  let c0_i32_434 : BitVec 32 := 0#32
  let v689 : BitVec 1 := Scalar.cmpi .slt v687 c0_i32_434
  let c0_i32_435 : BitVec 32 := 0#32
  let v690 : BitVec 1 := Scalar.cmpi .slt v686 c0_i32_435
  let v691 : BitVec 1 := Scalar.xori v689 v690
  let c0_i32_433 : BitVec 32 := 0#32
  let v688 : BitVec 1 := Scalar.cmpi .ne v687 c0_i32_433
  let v692 : BitVec 1 := Scalar.andi v691 v688
  let v693 : BitVec 32 := Scalar.addi v687 v686
  let v694 : BitVec 32 := Scalar.select v692 v693 v687
  let c4_i32_959 : BitVec 32 := 4#32
  let v1514 : BitVec 32 := Scalar.muli v694 c4_i32_959
  let v1515 : BitVec 32 := Scalar.addi v1513 v1514
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_436 : BitVec 32 := 1#32
  let v695 : BitVec 32 := Scalar.addi v8 c1_i32_436
  let c4_i32_437 : BitVec 32 := 4#32
  let c0_i32_438 : BitVec 32 := 0#32
  let v696 : BitVec 1 := Scalar.cmpi .eq c4_i32_437 c0_i32_438
  let c1_i32_439 : BitVec 32 := 1#32
  let v697 : BitVec 32 := Scalar.select v696 c1_i32_439 c4_i32_437
  let v698 : BitVec 32 := Scalar.remsi v695 v697
  let c0_i32_441 : BitVec 32 := 0#32
  let v700 : BitVec 1 := Scalar.cmpi .slt v698 c0_i32_441
  let c0_i32_442 : BitVec 32 := 0#32
  let v701 : BitVec 1 := Scalar.cmpi .slt v697 c0_i32_442
  let v702 : BitVec 1 := Scalar.xori v700 v701
  let c0_i32_440 : BitVec 32 := 0#32
  let v699 : BitVec 1 := Scalar.cmpi .ne v698 c0_i32_440
  let v703 : BitVec 1 := Scalar.andi v702 v699
  let v704 : BitVec 32 := Scalar.addi v698 v697
  let v705 : BitVec 32 := Scalar.select v703 v704 v698
  let c1_i32_960 : BitVec 32 := 1#32
  let v1516 : BitVec 32 := Scalar.muli v705 c1_i32_960
  let v1517 : BitVec 32 := Scalar.addi v1515 v1516
  v1517.toNat
def k0_dev53 (d0 : Dev nD) : Nat :=
  let c0_i32_964 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_443 : BitVec 32 := 1#32
  let v706 : BitVec 32 := Scalar.addi v2 c1_i32_443
  let c2_i32_444 : BitVec 32 := 2#32
  let c0_i32_445 : BitVec 32 := 0#32
  let v707 : BitVec 1 := Scalar.cmpi .eq c2_i32_444 c0_i32_445
  let c1_i32_446 : BitVec 32 := 1#32
  let v708 : BitVec 32 := Scalar.select v707 c1_i32_446 c2_i32_444
  let v709 : BitVec 32 := Scalar.remsi v706 v708
  let c0_i32_448 : BitVec 32 := 0#32
  let v711 : BitVec 1 := Scalar.cmpi .slt v709 c0_i32_448
  let c0_i32_449 : BitVec 32 := 0#32
  let v712 : BitVec 1 := Scalar.cmpi .slt v708 c0_i32_449
  let v713 : BitVec 1 := Scalar.xori v711 v712
  let c0_i32_447 : BitVec 32 := 0#32
  let v710 : BitVec 1 := Scalar.cmpi .ne v709 c0_i32_447
  let v714 : BitVec 1 := Scalar.andi v713 v710
  let v715 : BitVec 32 := Scalar.addi v709 v708
  let v716 : BitVec 32 := Scalar.select v714 v715 v709
  let c16_i32_963 : BitVec 32 := 16#32
  let v1524 : BitVec 32 := Scalar.muli v716 c16_i32_963
  let v1525 : BitVec 32 := Scalar.addi c0_i32_964 v1524
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_450 : BitVec 32 := 1#32
  let v717 : BitVec 32 := Scalar.addi v5 c1_i32_450
  let c4_i32_451 : BitVec 32 := 4#32
  let c0_i32_452 : BitVec 32 := 0#32
  let v718 : BitVec 1 := Scalar.cmpi .eq c4_i32_451 c0_i32_452
  let c1_i32_453 : BitVec 32 := 1#32
  let v719 : BitVec 32 := Scalar.select v718 c1_i32_453 c4_i32_451
  let v720 : BitVec 32 := Scalar.remsi v717 v719
  let c0_i32_455 : BitVec 32 := 0#32
  let v722 : BitVec 1 := Scalar.cmpi .slt v720 c0_i32_455
  let c0_i32_456 : BitVec 32 := 0#32
  let v723 : BitVec 1 := Scalar.cmpi .slt v719 c0_i32_456
  let v724 : BitVec 1 := Scalar.xori v722 v723
  let c0_i32_454 : BitVec 32 := 0#32
  let v721 : BitVec 1 := Scalar.cmpi .ne v720 c0_i32_454
  let v725 : BitVec 1 := Scalar.andi v724 v721
  let v726 : BitVec 32 := Scalar.addi v720 v719
  let v727 : BitVec 32 := Scalar.select v725 v726 v720
  let c4_i32_965 : BitVec 32 := 4#32
  let v1526 : BitVec 32 := Scalar.muli v727 c4_i32_965
  let v1527 : BitVec 32 := Scalar.addi v1525 v1526
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_457 : BitVec 32 := 2#32
  let v728 : BitVec 32 := Scalar.addi v8 c2_i32_457
  let c4_i32_458 : BitVec 32 := 4#32
  let c0_i32_459 : BitVec 32 := 0#32
  let v729 : BitVec 1 := Scalar.cmpi .eq c4_i32_458 c0_i32_459
  let c1_i32_460 : BitVec 32 := 1#32
  let v730 : BitVec 32 := Scalar.select v729 c1_i32_460 c4_i32_458
  let v731 : BitVec 32 := Scalar.remsi v728 v730
  let c0_i32_462 : BitVec 32 := 0#32
  let v733 : BitVec 1 := Scalar.cmpi .slt v731 c0_i32_462
  let c0_i32_463 : BitVec 32 := 0#32
  let v734 : BitVec 1 := Scalar.cmpi .slt v730 c0_i32_463
  let v735 : BitVec 1 := Scalar.xori v733 v734
  let c0_i32_461 : BitVec 32 := 0#32
  let v732 : BitVec 1 := Scalar.cmpi .ne v731 c0_i32_461
  let v736 : BitVec 1 := Scalar.andi v735 v732
  let v737 : BitVec 32 := Scalar.addi v731 v730
  let v738 : BitVec 32 := Scalar.select v736 v737 v731
  let c1_i32_966 : BitVec 32 := 1#32
  let v1528 : BitVec 32 := Scalar.muli v738 c1_i32_966
  let v1529 : BitVec 32 := Scalar.addi v1527 v1528
  v1529.toNat
def k0_dev54 (d0 : Dev nD) : Nat :=
  let c0_i32_970 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_464 : BitVec 32 := 1#32
  let v739 : BitVec 32 := Scalar.addi v2 c1_i32_464
  let c2_i32_465 : BitVec 32 := 2#32
  let c0_i32_466 : BitVec 32 := 0#32
  let v740 : BitVec 1 := Scalar.cmpi .eq c2_i32_465 c0_i32_466
  let c1_i32_467 : BitVec 32 := 1#32
  let v741 : BitVec 32 := Scalar.select v740 c1_i32_467 c2_i32_465
  let v742 : BitVec 32 := Scalar.remsi v739 v741
  let c0_i32_469 : BitVec 32 := 0#32
  let v744 : BitVec 1 := Scalar.cmpi .slt v742 c0_i32_469
  let c0_i32_470 : BitVec 32 := 0#32
  let v745 : BitVec 1 := Scalar.cmpi .slt v741 c0_i32_470
  let v746 : BitVec 1 := Scalar.xori v744 v745
  let c0_i32_468 : BitVec 32 := 0#32
  let v743 : BitVec 1 := Scalar.cmpi .ne v742 c0_i32_468
  let v747 : BitVec 1 := Scalar.andi v746 v743
  let v748 : BitVec 32 := Scalar.addi v742 v741
  let v749 : BitVec 32 := Scalar.select v747 v748 v742
  let c16_i32_969 : BitVec 32 := 16#32
  let v1536 : BitVec 32 := Scalar.muli v749 c16_i32_969
  let v1537 : BitVec 32 := Scalar.addi c0_i32_970 v1536
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_471 : BitVec 32 := 1#32
  let v750 : BitVec 32 := Scalar.addi v5 c1_i32_471
  let c4_i32_472 : BitVec 32 := 4#32
  let c0_i32_473 : BitVec 32 := 0#32
  let v751 : BitVec 1 := Scalar.cmpi .eq c4_i32_472 c0_i32_473
  let c1_i32_474 : BitVec 32 := 1#32
  let v752 : BitVec 32 := Scalar.select v751 c1_i32_474 c4_i32_472
  let v753 : BitVec 32 := Scalar.remsi v750 v752
  let c0_i32_476 : BitVec 32 := 0#32
  let v755 : BitVec 1 := Scalar.cmpi .slt v753 c0_i32_476
  let c0_i32_477 : BitVec 32 := 0#32
  let v756 : BitVec 1 := Scalar.cmpi .slt v752 c0_i32_477
  let v757 : BitVec 1 := Scalar.xori v755 v756
  let c0_i32_475 : BitVec 32 := 0#32
  let v754 : BitVec 1 := Scalar.cmpi .ne v753 c0_i32_475
  let v758 : BitVec 1 := Scalar.andi v757 v754
  let v759 : BitVec 32 := Scalar.addi v753 v752
  let v760 : BitVec 32 := Scalar.select v758 v759 v753
  let c4_i32_971 : BitVec 32 := 4#32
  let v1538 : BitVec 32 := Scalar.muli v760 c4_i32_971
  let v1539 : BitVec 32 := Scalar.addi v1537 v1538
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_478 : BitVec 32 := 3#32
  let v761 : BitVec 32 := Scalar.addi v8 c3_i32_478
  let c4_i32_479 : BitVec 32 := 4#32
  let c0_i32_480 : BitVec 32 := 0#32
  let v762 : BitVec 1 := Scalar.cmpi .eq c4_i32_479 c0_i32_480
  let c1_i32_481 : BitVec 32 := 1#32
  let v763 : BitVec 32 := Scalar.select v762 c1_i32_481 c4_i32_479
  let v764 : BitVec 32 := Scalar.remsi v761 v763
  let c0_i32_483 : BitVec 32 := 0#32
  let v766 : BitVec 1 := Scalar.cmpi .slt v764 c0_i32_483
  let c0_i32_484 : BitVec 32 := 0#32
  let v767 : BitVec 1 := Scalar.cmpi .slt v763 c0_i32_484
  let v768 : BitVec 1 := Scalar.xori v766 v767
  let c0_i32_482 : BitVec 32 := 0#32
  let v765 : BitVec 1 := Scalar.cmpi .ne v764 c0_i32_482
  let v769 : BitVec 1 := Scalar.andi v768 v765
  let v770 : BitVec 32 := Scalar.addi v764 v763
  let v771 : BitVec 32 := Scalar.select v769 v770 v764
  let c1_i32_972 : BitVec 32 := 1#32
  let v1540 : BitVec 32 := Scalar.muli v771 c1_i32_972
  let v1541 : BitVec 32 := Scalar.addi v1539 v1540
  v1541.toNat
def k0_dev55 (d0 : Dev nD) : Nat :=
  let c0_i32_976 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_485 : BitVec 32 := 1#32
  let v772 : BitVec 32 := Scalar.addi v2 c1_i32_485
  let c2_i32_486 : BitVec 32 := 2#32
  let c0_i32_487 : BitVec 32 := 0#32
  let v773 : BitVec 1 := Scalar.cmpi .eq c2_i32_486 c0_i32_487
  let c1_i32_488 : BitVec 32 := 1#32
  let v774 : BitVec 32 := Scalar.select v773 c1_i32_488 c2_i32_486
  let v775 : BitVec 32 := Scalar.remsi v772 v774
  let c0_i32_490 : BitVec 32 := 0#32
  let v777 : BitVec 1 := Scalar.cmpi .slt v775 c0_i32_490
  let c0_i32_491 : BitVec 32 := 0#32
  let v778 : BitVec 1 := Scalar.cmpi .slt v774 c0_i32_491
  let v779 : BitVec 1 := Scalar.xori v777 v778
  let c0_i32_489 : BitVec 32 := 0#32
  let v776 : BitVec 1 := Scalar.cmpi .ne v775 c0_i32_489
  let v780 : BitVec 1 := Scalar.andi v779 v776
  let v781 : BitVec 32 := Scalar.addi v775 v774
  let v782 : BitVec 32 := Scalar.select v780 v781 v775
  let c16_i32_975 : BitVec 32 := 16#32
  let v1548 : BitVec 32 := Scalar.muli v782 c16_i32_975
  let v1549 : BitVec 32 := Scalar.addi c0_i32_976 v1548
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_492 : BitVec 32 := 2#32
  let v783 : BitVec 32 := Scalar.addi v5 c2_i32_492
  let c4_i32_493 : BitVec 32 := 4#32
  let c0_i32_494 : BitVec 32 := 0#32
  let v784 : BitVec 1 := Scalar.cmpi .eq c4_i32_493 c0_i32_494
  let c1_i32_495 : BitVec 32 := 1#32
  let v785 : BitVec 32 := Scalar.select v784 c1_i32_495 c4_i32_493
  let v786 : BitVec 32 := Scalar.remsi v783 v785
  let c0_i32_497 : BitVec 32 := 0#32
  let v788 : BitVec 1 := Scalar.cmpi .slt v786 c0_i32_497
  let c0_i32_498 : BitVec 32 := 0#32
  let v789 : BitVec 1 := Scalar.cmpi .slt v785 c0_i32_498
  let v790 : BitVec 1 := Scalar.xori v788 v789
  let c0_i32_496 : BitVec 32 := 0#32
  let v787 : BitVec 1 := Scalar.cmpi .ne v786 c0_i32_496
  let v791 : BitVec 1 := Scalar.andi v790 v787
  let v792 : BitVec 32 := Scalar.addi v786 v785
  let v793 : BitVec 32 := Scalar.select v791 v792 v786
  let c4_i32_977 : BitVec 32 := 4#32
  let v1550 : BitVec 32 := Scalar.muli v793 c4_i32_977
  let v1551 : BitVec 32 := Scalar.addi v1549 v1550
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_499 : BitVec 32 := 0#32
  let v794 : BitVec 32 := Scalar.addi v8 c0_i32_499
  let c4_i32_500 : BitVec 32 := 4#32
  let c0_i32_501 : BitVec 32 := 0#32
  let v795 : BitVec 1 := Scalar.cmpi .eq c4_i32_500 c0_i32_501
  let c1_i32_502 : BitVec 32 := 1#32
  let v796 : BitVec 32 := Scalar.select v795 c1_i32_502 c4_i32_500
  let v797 : BitVec 32 := Scalar.remsi v794 v796
  let c0_i32_504 : BitVec 32 := 0#32
  let v799 : BitVec 1 := Scalar.cmpi .slt v797 c0_i32_504
  let c0_i32_505 : BitVec 32 := 0#32
  let v800 : BitVec 1 := Scalar.cmpi .slt v796 c0_i32_505
  let v801 : BitVec 1 := Scalar.xori v799 v800
  let c0_i32_503 : BitVec 32 := 0#32
  let v798 : BitVec 1 := Scalar.cmpi .ne v797 c0_i32_503
  let v802 : BitVec 1 := Scalar.andi v801 v798
  let v803 : BitVec 32 := Scalar.addi v797 v796
  let v804 : BitVec 32 := Scalar.select v802 v803 v797
  let c1_i32_978 : BitVec 32 := 1#32
  let v1552 : BitVec 32 := Scalar.muli v804 c1_i32_978
  let v1553 : BitVec 32 := Scalar.addi v1551 v1552
  v1553.toNat
def k0_dev56 (d0 : Dev nD) : Nat :=
  let c0_i32_982 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_506 : BitVec 32 := 1#32
  let v805 : BitVec 32 := Scalar.addi v2 c1_i32_506
  let c2_i32_507 : BitVec 32 := 2#32
  let c0_i32_508 : BitVec 32 := 0#32
  let v806 : BitVec 1 := Scalar.cmpi .eq c2_i32_507 c0_i32_508
  let c1_i32_509 : BitVec 32 := 1#32
  let v807 : BitVec 32 := Scalar.select v806 c1_i32_509 c2_i32_507
  let v808 : BitVec 32 := Scalar.remsi v805 v807
  let c0_i32_511 : BitVec 32 := 0#32
  let v810 : BitVec 1 := Scalar.cmpi .slt v808 c0_i32_511
  let c0_i32_512 : BitVec 32 := 0#32
  let v811 : BitVec 1 := Scalar.cmpi .slt v807 c0_i32_512
  let v812 : BitVec 1 := Scalar.xori v810 v811
  let c0_i32_510 : BitVec 32 := 0#32
  let v809 : BitVec 1 := Scalar.cmpi .ne v808 c0_i32_510
  let v813 : BitVec 1 := Scalar.andi v812 v809
  let v814 : BitVec 32 := Scalar.addi v808 v807
  let v815 : BitVec 32 := Scalar.select v813 v814 v808
  let c16_i32_981 : BitVec 32 := 16#32
  let v1560 : BitVec 32 := Scalar.muli v815 c16_i32_981
  let v1561 : BitVec 32 := Scalar.addi c0_i32_982 v1560
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_513 : BitVec 32 := 2#32
  let v816 : BitVec 32 := Scalar.addi v5 c2_i32_513
  let c4_i32_514 : BitVec 32 := 4#32
  let c0_i32_515 : BitVec 32 := 0#32
  let v817 : BitVec 1 := Scalar.cmpi .eq c4_i32_514 c0_i32_515
  let c1_i32_516 : BitVec 32 := 1#32
  let v818 : BitVec 32 := Scalar.select v817 c1_i32_516 c4_i32_514
  let v819 : BitVec 32 := Scalar.remsi v816 v818
  let c0_i32_518 : BitVec 32 := 0#32
  let v821 : BitVec 1 := Scalar.cmpi .slt v819 c0_i32_518
  let c0_i32_519 : BitVec 32 := 0#32
  let v822 : BitVec 1 := Scalar.cmpi .slt v818 c0_i32_519
  let v823 : BitVec 1 := Scalar.xori v821 v822
  let c0_i32_517 : BitVec 32 := 0#32
  let v820 : BitVec 1 := Scalar.cmpi .ne v819 c0_i32_517
  let v824 : BitVec 1 := Scalar.andi v823 v820
  let v825 : BitVec 32 := Scalar.addi v819 v818
  let v826 : BitVec 32 := Scalar.select v824 v825 v819
  let c4_i32_983 : BitVec 32 := 4#32
  let v1562 : BitVec 32 := Scalar.muli v826 c4_i32_983
  let v1563 : BitVec 32 := Scalar.addi v1561 v1562
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_520 : BitVec 32 := 1#32
  let v827 : BitVec 32 := Scalar.addi v8 c1_i32_520
  let c4_i32_521 : BitVec 32 := 4#32
  let c0_i32_522 : BitVec 32 := 0#32
  let v828 : BitVec 1 := Scalar.cmpi .eq c4_i32_521 c0_i32_522
  let c1_i32_523 : BitVec 32 := 1#32
  let v829 : BitVec 32 := Scalar.select v828 c1_i32_523 c4_i32_521
  let v830 : BitVec 32 := Scalar.remsi v827 v829
  let c0_i32_525 : BitVec 32 := 0#32
  let v832 : BitVec 1 := Scalar.cmpi .slt v830 c0_i32_525
  let c0_i32_526 : BitVec 32 := 0#32
  let v833 : BitVec 1 := Scalar.cmpi .slt v829 c0_i32_526
  let v834 : BitVec 1 := Scalar.xori v832 v833
  let c0_i32_524 : BitVec 32 := 0#32
  let v831 : BitVec 1 := Scalar.cmpi .ne v830 c0_i32_524
  let v835 : BitVec 1 := Scalar.andi v834 v831
  let v836 : BitVec 32 := Scalar.addi v830 v829
  let v837 : BitVec 32 := Scalar.select v835 v836 v830
  let c1_i32_984 : BitVec 32 := 1#32
  let v1564 : BitVec 32 := Scalar.muli v837 c1_i32_984
  let v1565 : BitVec 32 := Scalar.addi v1563 v1564
  v1565.toNat
def k0_dev57 (d0 : Dev nD) : Nat :=
  let c0_i32_988 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_527 : BitVec 32 := 1#32
  let v838 : BitVec 32 := Scalar.addi v2 c1_i32_527
  let c2_i32_528 : BitVec 32 := 2#32
  let c0_i32_529 : BitVec 32 := 0#32
  let v839 : BitVec 1 := Scalar.cmpi .eq c2_i32_528 c0_i32_529
  let c1_i32_530 : BitVec 32 := 1#32
  let v840 : BitVec 32 := Scalar.select v839 c1_i32_530 c2_i32_528
  let v841 : BitVec 32 := Scalar.remsi v838 v840
  let c0_i32_532 : BitVec 32 := 0#32
  let v843 : BitVec 1 := Scalar.cmpi .slt v841 c0_i32_532
  let c0_i32_533 : BitVec 32 := 0#32
  let v844 : BitVec 1 := Scalar.cmpi .slt v840 c0_i32_533
  let v845 : BitVec 1 := Scalar.xori v843 v844
  let c0_i32_531 : BitVec 32 := 0#32
  let v842 : BitVec 1 := Scalar.cmpi .ne v841 c0_i32_531
  let v846 : BitVec 1 := Scalar.andi v845 v842
  let v847 : BitVec 32 := Scalar.addi v841 v840
  let v848 : BitVec 32 := Scalar.select v846 v847 v841
  let c16_i32_987 : BitVec 32 := 16#32
  let v1572 : BitVec 32 := Scalar.muli v848 c16_i32_987
  let v1573 : BitVec 32 := Scalar.addi c0_i32_988 v1572
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_534 : BitVec 32 := 2#32
  let v849 : BitVec 32 := Scalar.addi v5 c2_i32_534
  let c4_i32_535 : BitVec 32 := 4#32
  let c0_i32_536 : BitVec 32 := 0#32
  let v850 : BitVec 1 := Scalar.cmpi .eq c4_i32_535 c0_i32_536
  let c1_i32_537 : BitVec 32 := 1#32
  let v851 : BitVec 32 := Scalar.select v850 c1_i32_537 c4_i32_535
  let v852 : BitVec 32 := Scalar.remsi v849 v851
  let c0_i32_539 : BitVec 32 := 0#32
  let v854 : BitVec 1 := Scalar.cmpi .slt v852 c0_i32_539
  let c0_i32_540 : BitVec 32 := 0#32
  let v855 : BitVec 1 := Scalar.cmpi .slt v851 c0_i32_540
  let v856 : BitVec 1 := Scalar.xori v854 v855
  let c0_i32_538 : BitVec 32 := 0#32
  let v853 : BitVec 1 := Scalar.cmpi .ne v852 c0_i32_538
  let v857 : BitVec 1 := Scalar.andi v856 v853
  let v858 : BitVec 32 := Scalar.addi v852 v851
  let v859 : BitVec 32 := Scalar.select v857 v858 v852
  let c4_i32_989 : BitVec 32 := 4#32
  let v1574 : BitVec 32 := Scalar.muli v859 c4_i32_989
  let v1575 : BitVec 32 := Scalar.addi v1573 v1574
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_541 : BitVec 32 := 2#32
  let v860 : BitVec 32 := Scalar.addi v8 c2_i32_541
  let c4_i32_542 : BitVec 32 := 4#32
  let c0_i32_543 : BitVec 32 := 0#32
  let v861 : BitVec 1 := Scalar.cmpi .eq c4_i32_542 c0_i32_543
  let c1_i32_544 : BitVec 32 := 1#32
  let v862 : BitVec 32 := Scalar.select v861 c1_i32_544 c4_i32_542
  let v863 : BitVec 32 := Scalar.remsi v860 v862
  let c0_i32_546 : BitVec 32 := 0#32
  let v865 : BitVec 1 := Scalar.cmpi .slt v863 c0_i32_546
  let c0_i32_547 : BitVec 32 := 0#32
  let v866 : BitVec 1 := Scalar.cmpi .slt v862 c0_i32_547
  let v867 : BitVec 1 := Scalar.xori v865 v866
  let c0_i32_545 : BitVec 32 := 0#32
  let v864 : BitVec 1 := Scalar.cmpi .ne v863 c0_i32_545
  let v868 : BitVec 1 := Scalar.andi v867 v864
  let v869 : BitVec 32 := Scalar.addi v863 v862
  let v870 : BitVec 32 := Scalar.select v868 v869 v863
  let c1_i32_990 : BitVec 32 := 1#32
  let v1576 : BitVec 32 := Scalar.muli v870 c1_i32_990
  let v1577 : BitVec 32 := Scalar.addi v1575 v1576
  v1577.toNat
def k0_dev58 (d0 : Dev nD) : Nat :=
  let c0_i32_994 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_548 : BitVec 32 := 1#32
  let v871 : BitVec 32 := Scalar.addi v2 c1_i32_548
  let c2_i32_549 : BitVec 32 := 2#32
  let c0_i32_550 : BitVec 32 := 0#32
  let v872 : BitVec 1 := Scalar.cmpi .eq c2_i32_549 c0_i32_550
  let c1_i32_551 : BitVec 32 := 1#32
  let v873 : BitVec 32 := Scalar.select v872 c1_i32_551 c2_i32_549
  let v874 : BitVec 32 := Scalar.remsi v871 v873
  let c0_i32_553 : BitVec 32 := 0#32
  let v876 : BitVec 1 := Scalar.cmpi .slt v874 c0_i32_553
  let c0_i32_554 : BitVec 32 := 0#32
  let v877 : BitVec 1 := Scalar.cmpi .slt v873 c0_i32_554
  let v878 : BitVec 1 := Scalar.xori v876 v877
  let c0_i32_552 : BitVec 32 := 0#32
  let v875 : BitVec 1 := Scalar.cmpi .ne v874 c0_i32_552
  let v879 : BitVec 1 := Scalar.andi v878 v875
  let v880 : BitVec 32 := Scalar.addi v874 v873
  let v881 : BitVec 32 := Scalar.select v879 v880 v874
  let c16_i32_993 : BitVec 32 := 16#32
  let v1584 : BitVec 32 := Scalar.muli v881 c16_i32_993
  let v1585 : BitVec 32 := Scalar.addi c0_i32_994 v1584
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_555 : BitVec 32 := 2#32
  let v882 : BitVec 32 := Scalar.addi v5 c2_i32_555
  let c4_i32_556 : BitVec 32 := 4#32
  let c0_i32_557 : BitVec 32 := 0#32
  let v883 : BitVec 1 := Scalar.cmpi .eq c4_i32_556 c0_i32_557
  let c1_i32_558 : BitVec 32 := 1#32
  let v884 : BitVec 32 := Scalar.select v883 c1_i32_558 c4_i32_556
  let v885 : BitVec 32 := Scalar.remsi v882 v884
  let c0_i32_560 : BitVec 32 := 0#32
  let v887 : BitVec 1 := Scalar.cmpi .slt v885 c0_i32_560
  let c0_i32_561 : BitVec 32 := 0#32
  let v888 : BitVec 1 := Scalar.cmpi .slt v884 c0_i32_561
  let v889 : BitVec 1 := Scalar.xori v887 v888
  let c0_i32_559 : BitVec 32 := 0#32
  let v886 : BitVec 1 := Scalar.cmpi .ne v885 c0_i32_559
  let v890 : BitVec 1 := Scalar.andi v889 v886
  let v891 : BitVec 32 := Scalar.addi v885 v884
  let v892 : BitVec 32 := Scalar.select v890 v891 v885
  let c4_i32_995 : BitVec 32 := 4#32
  let v1586 : BitVec 32 := Scalar.muli v892 c4_i32_995
  let v1587 : BitVec 32 := Scalar.addi v1585 v1586
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_562 : BitVec 32 := 3#32
  let v893 : BitVec 32 := Scalar.addi v8 c3_i32_562
  let c4_i32_563 : BitVec 32 := 4#32
  let c0_i32_564 : BitVec 32 := 0#32
  let v894 : BitVec 1 := Scalar.cmpi .eq c4_i32_563 c0_i32_564
  let c1_i32_565 : BitVec 32 := 1#32
  let v895 : BitVec 32 := Scalar.select v894 c1_i32_565 c4_i32_563
  let v896 : BitVec 32 := Scalar.remsi v893 v895
  let c0_i32_567 : BitVec 32 := 0#32
  let v898 : BitVec 1 := Scalar.cmpi .slt v896 c0_i32_567
  let c0_i32_568 : BitVec 32 := 0#32
  let v899 : BitVec 1 := Scalar.cmpi .slt v895 c0_i32_568
  let v900 : BitVec 1 := Scalar.xori v898 v899
  let c0_i32_566 : BitVec 32 := 0#32
  let v897 : BitVec 1 := Scalar.cmpi .ne v896 c0_i32_566
  let v901 : BitVec 1 := Scalar.andi v900 v897
  let v902 : BitVec 32 := Scalar.addi v896 v895
  let v903 : BitVec 32 := Scalar.select v901 v902 v896
  let c1_i32_996 : BitVec 32 := 1#32
  let v1588 : BitVec 32 := Scalar.muli v903 c1_i32_996
  let v1589 : BitVec 32 := Scalar.addi v1587 v1588
  v1589.toNat
def k0_dev59 (d0 : Dev nD) : Nat :=
  let c0_i32_1000 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_569 : BitVec 32 := 1#32
  let v904 : BitVec 32 := Scalar.addi v2 c1_i32_569
  let c2_i32_570 : BitVec 32 := 2#32
  let c0_i32_571 : BitVec 32 := 0#32
  let v905 : BitVec 1 := Scalar.cmpi .eq c2_i32_570 c0_i32_571
  let c1_i32_572 : BitVec 32 := 1#32
  let v906 : BitVec 32 := Scalar.select v905 c1_i32_572 c2_i32_570
  let v907 : BitVec 32 := Scalar.remsi v904 v906
  let c0_i32_574 : BitVec 32 := 0#32
  let v909 : BitVec 1 := Scalar.cmpi .slt v907 c0_i32_574
  let c0_i32_575 : BitVec 32 := 0#32
  let v910 : BitVec 1 := Scalar.cmpi .slt v906 c0_i32_575
  let v911 : BitVec 1 := Scalar.xori v909 v910
  let c0_i32_573 : BitVec 32 := 0#32
  let v908 : BitVec 1 := Scalar.cmpi .ne v907 c0_i32_573
  let v912 : BitVec 1 := Scalar.andi v911 v908
  let v913 : BitVec 32 := Scalar.addi v907 v906
  let v914 : BitVec 32 := Scalar.select v912 v913 v907
  let c16_i32_999 : BitVec 32 := 16#32
  let v1596 : BitVec 32 := Scalar.muli v914 c16_i32_999
  let v1597 : BitVec 32 := Scalar.addi c0_i32_1000 v1596
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_576 : BitVec 32 := 3#32
  let v915 : BitVec 32 := Scalar.addi v5 c3_i32_576
  let c4_i32_577 : BitVec 32 := 4#32
  let c0_i32_578 : BitVec 32 := 0#32
  let v916 : BitVec 1 := Scalar.cmpi .eq c4_i32_577 c0_i32_578
  let c1_i32_579 : BitVec 32 := 1#32
  let v917 : BitVec 32 := Scalar.select v916 c1_i32_579 c4_i32_577
  let v918 : BitVec 32 := Scalar.remsi v915 v917
  let c0_i32_581 : BitVec 32 := 0#32
  let v920 : BitVec 1 := Scalar.cmpi .slt v918 c0_i32_581
  let c0_i32_582 : BitVec 32 := 0#32
  let v921 : BitVec 1 := Scalar.cmpi .slt v917 c0_i32_582
  let v922 : BitVec 1 := Scalar.xori v920 v921
  let c0_i32_580 : BitVec 32 := 0#32
  let v919 : BitVec 1 := Scalar.cmpi .ne v918 c0_i32_580
  let v923 : BitVec 1 := Scalar.andi v922 v919
  let v924 : BitVec 32 := Scalar.addi v918 v917
  let v925 : BitVec 32 := Scalar.select v923 v924 v918
  let c4_i32_1001 : BitVec 32 := 4#32
  let v1598 : BitVec 32 := Scalar.muli v925 c4_i32_1001
  let v1599 : BitVec 32 := Scalar.addi v1597 v1598
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_583 : BitVec 32 := 0#32
  let v926 : BitVec 32 := Scalar.addi v8 c0_i32_583
  let c4_i32_584 : BitVec 32 := 4#32
  let c0_i32_585 : BitVec 32 := 0#32
  let v927 : BitVec 1 := Scalar.cmpi .eq c4_i32_584 c0_i32_585
  let c1_i32_586 : BitVec 32 := 1#32
  let v928 : BitVec 32 := Scalar.select v927 c1_i32_586 c4_i32_584
  let v929 : BitVec 32 := Scalar.remsi v926 v928
  let c0_i32_588 : BitVec 32 := 0#32
  let v931 : BitVec 1 := Scalar.cmpi .slt v929 c0_i32_588
  let c0_i32_589 : BitVec 32 := 0#32
  let v932 : BitVec 1 := Scalar.cmpi .slt v928 c0_i32_589
  let v933 : BitVec 1 := Scalar.xori v931 v932
  let c0_i32_587 : BitVec 32 := 0#32
  let v930 : BitVec 1 := Scalar.cmpi .ne v929 c0_i32_587
  let v934 : BitVec 1 := Scalar.andi v933 v930
  let v935 : BitVec 32 := Scalar.addi v929 v928
  let v936 : BitVec 32 := Scalar.select v934 v935 v929
  let c1_i32_1002 : BitVec 32 := 1#32
  let v1600 : BitVec 32 := Scalar.muli v936 c1_i32_1002
  let v1601 : BitVec 32 := Scalar.addi v1599 v1600
  v1601.toNat
def k0_dev60 (d0 : Dev nD) : Nat :=
  let c0_i32_1006 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_590 : BitVec 32 := 1#32
  let v937 : BitVec 32 := Scalar.addi v2 c1_i32_590
  let c2_i32_591 : BitVec 32 := 2#32
  let c0_i32_592 : BitVec 32 := 0#32
  let v938 : BitVec 1 := Scalar.cmpi .eq c2_i32_591 c0_i32_592
  let c1_i32_593 : BitVec 32 := 1#32
  let v939 : BitVec 32 := Scalar.select v938 c1_i32_593 c2_i32_591
  let v940 : BitVec 32 := Scalar.remsi v937 v939
  let c0_i32_595 : BitVec 32 := 0#32
  let v942 : BitVec 1 := Scalar.cmpi .slt v940 c0_i32_595
  let c0_i32_596 : BitVec 32 := 0#32
  let v943 : BitVec 1 := Scalar.cmpi .slt v939 c0_i32_596
  let v944 : BitVec 1 := Scalar.xori v942 v943
  let c0_i32_594 : BitVec 32 := 0#32
  let v941 : BitVec 1 := Scalar.cmpi .ne v940 c0_i32_594
  let v945 : BitVec 1 := Scalar.andi v944 v941
  let v946 : BitVec 32 := Scalar.addi v940 v939
  let v947 : BitVec 32 := Scalar.select v945 v946 v940
  let c16_i32_1005 : BitVec 32 := 16#32
  let v1608 : BitVec 32 := Scalar.muli v947 c16_i32_1005
  let v1609 : BitVec 32 := Scalar.addi c0_i32_1006 v1608
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_597 : BitVec 32 := 3#32
  let v948 : BitVec 32 := Scalar.addi v5 c3_i32_597
  let c4_i32_598 : BitVec 32 := 4#32
  let c0_i32_599 : BitVec 32 := 0#32
  let v949 : BitVec 1 := Scalar.cmpi .eq c4_i32_598 c0_i32_599
  let c1_i32_600 : BitVec 32 := 1#32
  let v950 : BitVec 32 := Scalar.select v949 c1_i32_600 c4_i32_598
  let v951 : BitVec 32 := Scalar.remsi v948 v950
  let c0_i32_602 : BitVec 32 := 0#32
  let v953 : BitVec 1 := Scalar.cmpi .slt v951 c0_i32_602
  let c0_i32_603 : BitVec 32 := 0#32
  let v954 : BitVec 1 := Scalar.cmpi .slt v950 c0_i32_603
  let v955 : BitVec 1 := Scalar.xori v953 v954
  let c0_i32_601 : BitVec 32 := 0#32
  let v952 : BitVec 1 := Scalar.cmpi .ne v951 c0_i32_601
  let v956 : BitVec 1 := Scalar.andi v955 v952
  let v957 : BitVec 32 := Scalar.addi v951 v950
  let v958 : BitVec 32 := Scalar.select v956 v957 v951
  let c4_i32_1007 : BitVec 32 := 4#32
  let v1610 : BitVec 32 := Scalar.muli v958 c4_i32_1007
  let v1611 : BitVec 32 := Scalar.addi v1609 v1610
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_604 : BitVec 32 := 1#32
  let v959 : BitVec 32 := Scalar.addi v8 c1_i32_604
  let c4_i32_605 : BitVec 32 := 4#32
  let c0_i32_606 : BitVec 32 := 0#32
  let v960 : BitVec 1 := Scalar.cmpi .eq c4_i32_605 c0_i32_606
  let c1_i32_607 : BitVec 32 := 1#32
  let v961 : BitVec 32 := Scalar.select v960 c1_i32_607 c4_i32_605
  let v962 : BitVec 32 := Scalar.remsi v959 v961
  let c0_i32_609 : BitVec 32 := 0#32
  let v964 : BitVec 1 := Scalar.cmpi .slt v962 c0_i32_609
  let c0_i32_610 : BitVec 32 := 0#32
  let v965 : BitVec 1 := Scalar.cmpi .slt v961 c0_i32_610
  let v966 : BitVec 1 := Scalar.xori v964 v965
  let c0_i32_608 : BitVec 32 := 0#32
  let v963 : BitVec 1 := Scalar.cmpi .ne v962 c0_i32_608
  let v967 : BitVec 1 := Scalar.andi v966 v963
  let v968 : BitVec 32 := Scalar.addi v962 v961
  let v969 : BitVec 32 := Scalar.select v967 v968 v962
  let c1_i32_1008 : BitVec 32 := 1#32
  let v1612 : BitVec 32 := Scalar.muli v969 c1_i32_1008
  let v1613 : BitVec 32 := Scalar.addi v1611 v1612
  v1613.toNat
def k0_dev61 (d0 : Dev nD) : Nat :=
  let c0_i32_1012 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_611 : BitVec 32 := 1#32
  let v970 : BitVec 32 := Scalar.addi v2 c1_i32_611
  let c2_i32_612 : BitVec 32 := 2#32
  let c0_i32_613 : BitVec 32 := 0#32
  let v971 : BitVec 1 := Scalar.cmpi .eq c2_i32_612 c0_i32_613
  let c1_i32_614 : BitVec 32 := 1#32
  let v972 : BitVec 32 := Scalar.select v971 c1_i32_614 c2_i32_612
  let v973 : BitVec 32 := Scalar.remsi v970 v972
  let c0_i32_616 : BitVec 32 := 0#32
  let v975 : BitVec 1 := Scalar.cmpi .slt v973 c0_i32_616
  let c0_i32_617 : BitVec 32 := 0#32
  let v976 : BitVec 1 := Scalar.cmpi .slt v972 c0_i32_617
  let v977 : BitVec 1 := Scalar.xori v975 v976
  let c0_i32_615 : BitVec 32 := 0#32
  let v974 : BitVec 1 := Scalar.cmpi .ne v973 c0_i32_615
  let v978 : BitVec 1 := Scalar.andi v977 v974
  let v979 : BitVec 32 := Scalar.addi v973 v972
  let v980 : BitVec 32 := Scalar.select v978 v979 v973
  let c16_i32_1011 : BitVec 32 := 16#32
  let v1620 : BitVec 32 := Scalar.muli v980 c16_i32_1011
  let v1621 : BitVec 32 := Scalar.addi c0_i32_1012 v1620
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_618 : BitVec 32 := 3#32
  let v981 : BitVec 32 := Scalar.addi v5 c3_i32_618
  let c4_i32_619 : BitVec 32 := 4#32
  let c0_i32_620 : BitVec 32 := 0#32
  let v982 : BitVec 1 := Scalar.cmpi .eq c4_i32_619 c0_i32_620
  let c1_i32_621 : BitVec 32 := 1#32
  let v983 : BitVec 32 := Scalar.select v982 c1_i32_621 c4_i32_619
  let v984 : BitVec 32 := Scalar.remsi v981 v983
  let c0_i32_623 : BitVec 32 := 0#32
  let v986 : BitVec 1 := Scalar.cmpi .slt v984 c0_i32_623
  let c0_i32_624 : BitVec 32 := 0#32
  let v987 : BitVec 1 := Scalar.cmpi .slt v983 c0_i32_624
  let v988 : BitVec 1 := Scalar.xori v986 v987
  let c0_i32_622 : BitVec 32 := 0#32
  let v985 : BitVec 1 := Scalar.cmpi .ne v984 c0_i32_622
  let v989 : BitVec 1 := Scalar.andi v988 v985
  let v990 : BitVec 32 := Scalar.addi v984 v983
  let v991 : BitVec 32 := Scalar.select v989 v990 v984
  let c4_i32_1013 : BitVec 32 := 4#32
  let v1622 : BitVec 32 := Scalar.muli v991 c4_i32_1013
  let v1623 : BitVec 32 := Scalar.addi v1621 v1622
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_625 : BitVec 32 := 2#32
  let v992 : BitVec 32 := Scalar.addi v8 c2_i32_625
  let c4_i32_626 : BitVec 32 := 4#32
  let c0_i32_627 : BitVec 32 := 0#32
  let v993 : BitVec 1 := Scalar.cmpi .eq c4_i32_626 c0_i32_627
  let c1_i32_628 : BitVec 32 := 1#32
  let v994 : BitVec 32 := Scalar.select v993 c1_i32_628 c4_i32_626
  let v995 : BitVec 32 := Scalar.remsi v992 v994
  let c0_i32_630 : BitVec 32 := 0#32
  let v997 : BitVec 1 := Scalar.cmpi .slt v995 c0_i32_630
  let c0_i32_631 : BitVec 32 := 0#32
  let v998 : BitVec 1 := Scalar.cmpi .slt v994 c0_i32_631
  let v999 : BitVec 1 := Scalar.xori v997 v998
  let c0_i32_629 : BitVec 32 := 0#32
  let v996 : BitVec 1 := Scalar.cmpi .ne v995 c0_i32_629
  let v1000 : BitVec 1 := Scalar.andi v999 v996
  let v1001 : BitVec 32 := Scalar.addi v995 v994
  let v1002 : BitVec 32 := Scalar.select v1000 v1001 v995
  let c1_i32_1014 : BitVec 32 := 1#32
  let v1624 : BitVec 32 := Scalar.muli v1002 c1_i32_1014
  let v1625 : BitVec 32 := Scalar.addi v1623 v1624
  v1625.toNat
def k0_dev62 (d0 : Dev nD) : Nat :=
  let c0_i32_1018 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_632 : BitVec 32 := 1#32
  let v1003 : BitVec 32 := Scalar.addi v2 c1_i32_632
  let c2_i32_633 : BitVec 32 := 2#32
  let c0_i32_634 : BitVec 32 := 0#32
  let v1004 : BitVec 1 := Scalar.cmpi .eq c2_i32_633 c0_i32_634
  let c1_i32_635 : BitVec 32 := 1#32
  let v1005 : BitVec 32 := Scalar.select v1004 c1_i32_635 c2_i32_633
  let v1006 : BitVec 32 := Scalar.remsi v1003 v1005
  let c0_i32_637 : BitVec 32 := 0#32
  let v1008 : BitVec 1 := Scalar.cmpi .slt v1006 c0_i32_637
  let c0_i32_638 : BitVec 32 := 0#32
  let v1009 : BitVec 1 := Scalar.cmpi .slt v1005 c0_i32_638
  let v1010 : BitVec 1 := Scalar.xori v1008 v1009
  let c0_i32_636 : BitVec 32 := 0#32
  let v1007 : BitVec 1 := Scalar.cmpi .ne v1006 c0_i32_636
  let v1011 : BitVec 1 := Scalar.andi v1010 v1007
  let v1012 : BitVec 32 := Scalar.addi v1006 v1005
  let v1013 : BitVec 32 := Scalar.select v1011 v1012 v1006
  let c16_i32_1017 : BitVec 32 := 16#32
  let v1632 : BitVec 32 := Scalar.muli v1013 c16_i32_1017
  let v1633 : BitVec 32 := Scalar.addi c0_i32_1018 v1632
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_639 : BitVec 32 := 3#32
  let v1014 : BitVec 32 := Scalar.addi v5 c3_i32_639
  let c4_i32_640 : BitVec 32 := 4#32
  let c0_i32_641 : BitVec 32 := 0#32
  let v1015 : BitVec 1 := Scalar.cmpi .eq c4_i32_640 c0_i32_641
  let c1_i32_642 : BitVec 32 := 1#32
  let v1016 : BitVec 32 := Scalar.select v1015 c1_i32_642 c4_i32_640
  let v1017 : BitVec 32 := Scalar.remsi v1014 v1016
  let c0_i32_644 : BitVec 32 := 0#32
  let v1019 : BitVec 1 := Scalar.cmpi .slt v1017 c0_i32_644
  let c0_i32_645 : BitVec 32 := 0#32
  let v1020 : BitVec 1 := Scalar.cmpi .slt v1016 c0_i32_645
  let v1021 : BitVec 1 := Scalar.xori v1019 v1020
  let c0_i32_643 : BitVec 32 := 0#32
  let v1018 : BitVec 1 := Scalar.cmpi .ne v1017 c0_i32_643
  let v1022 : BitVec 1 := Scalar.andi v1021 v1018
  let v1023 : BitVec 32 := Scalar.addi v1017 v1016
  let v1024 : BitVec 32 := Scalar.select v1022 v1023 v1017
  let c4_i32_1019 : BitVec 32 := 4#32
  let v1634 : BitVec 32 := Scalar.muli v1024 c4_i32_1019
  let v1635 : BitVec 32 := Scalar.addi v1633 v1634
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_646 : BitVec 32 := 3#32
  let v1025 : BitVec 32 := Scalar.addi v8 c3_i32_646
  let c4_i32_647 : BitVec 32 := 4#32
  let c0_i32_648 : BitVec 32 := 0#32
  let v1026 : BitVec 1 := Scalar.cmpi .eq c4_i32_647 c0_i32_648
  let c1_i32_649 : BitVec 32 := 1#32
  let v1027 : BitVec 32 := Scalar.select v1026 c1_i32_649 c4_i32_647
  let v1028 : BitVec 32 := Scalar.remsi v1025 v1027
  let c0_i32_651 : BitVec 32 := 0#32
  let v1030 : BitVec 1 := Scalar.cmpi .slt v1028 c0_i32_651
  let c0_i32_652 : BitVec 32 := 0#32
  let v1031 : BitVec 1 := Scalar.cmpi .slt v1027 c0_i32_652
  let v1032 : BitVec 1 := Scalar.xori v1030 v1031
  let c0_i32_650 : BitVec 32 := 0#32
  let v1029 : BitVec 1 := Scalar.cmpi .ne v1028 c0_i32_650
  let v1033 : BitVec 1 := Scalar.andi v1032 v1029
  let v1034 : BitVec 32 := Scalar.addi v1028 v1027
  let v1035 : BitVec 32 := Scalar.select v1033 v1034 v1028
  let c1_i32_1020 : BitVec 32 := 1#32
  let v1636 : BitVec 32 := Scalar.muli v1035 c1_i32_1020
  let v1637 : BitVec 32 := Scalar.addi v1635 v1636
  v1637.toNat
abbrev stage0_0 : Fin 1 → Memref sig .tc .vmem S2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2x2048 : Shape := ⟨2, ![2, 2048]⟩

abbrev nBuf : Space → Nat
  | .hbm => 52
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .i32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S_, .f32⟩
  | .hbm, ⟨46, _⟩ => ⟨S2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S1x2048, .f32⟩
  | .hbm, ⟨51, _⟩ => ⟨S2x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_cst_1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst_2 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_3 : Ref sig .tc := ⟨.hbm, 45, rfl⟩
abbrev main_v15 : Ref sig .tc := ⟨.hbm, 46, rfl⟩
abbrev main_cst_4 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩

abbrev nD : Nat := 1
abbrev τ : Topo := Topo.v7x

variable {F : FTy → Type} [FloatOps F]
-- ==== Proof.Protocol.lean ====
/-
# The all-to-all exchange of the thirty-two partial results: cells, contents, schedule, levels

Every device reduces its own 256 rows to a 2×2048 partial (`part`), tells its thirty-one peers through the barrier
semaphore that their slots of its landing buffer are free, copies the partial into its own slot of every peer's
landing buffer, and adds the thirty-two slots of its own landing buffer up. This module names the cells of that
protocol, what each slot ends up holding, the schedule of duties on the cells, and the levels that order the waits.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.ValueLayout
public import Idealize.ShloMosaic.Lib.Tactic

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources -/

/-- The rounds library's copy for this exchange: duties are named by devices. -/
abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The peers of a device -/

set_option backward.proofsInPublic true in
/-- Device `c`'s peer number `i`: `i + 1` written as three mesh coordinates and added to `c`'s, each modulo its extent. -/
def peer (i : Fin 31) (c : Dev nD) : Dev nD :=
  ⟨((c.val / 16 + (i.val + 1) / 16) % 2) * 16 + ((c.val / 4 % 4 + (i.val + 1) / 4 % 4) % 4) * 4 + (c.val % 4 + (i.val + 1) % 4) % 4,
    by show _ < 32; omega⟩

set_option backward.proofsInPublic true in
/-- The number `d` has among `c`'s peers (meaningful for `d ≠ c`). -/
def idxOf (c d : Dev nD) : Fin 31 :=
  ⟨((d.val / 16 + 2 - c.val / 16) % 2) * 16 + ((d.val / 4 % 4 + 4 - c.val / 4 % 4) % 4) * 4 + (d.val % 4 + 4 - c.val % 4) % 4 - 1, by omega⟩

theorem idxOf_peer : ∀ (c : Dev nD) (i : Fin 31), idxOf c (peer i c) = i := by decide +kernel
theorem peer_idxOf : ∀ c d : Dev nD, d ≠ c → peer (idxOf c d) c = d := by decide +kernel
theorem peer_ne : ∀ (c : Dev nD) (i : Fin 31), peer i c ≠ c := by decide +kernel

theorem peer_injective (c : Dev nD) : Function.Injective fun i => peer i c := fun i j h => by
  have := congrArg (idxOf c) h
  simpa only [idxOf_peer] using this

/-- The devices other than `c` are its peers. -/
theorem others_eq (c : Dev nD) : (Finset.univ.erase c : Finset (Dev nD)) = Finset.univ.map ⟨fun i => peer i c, peer_injective c⟩ := by
  ext d
  simp only [Finset.mem_erase, Finset.mem_univ, and_true, Finset.mem_map, true_and, Function.Embedding.coeFn_mk]
  exact ⟨fun h => ⟨idxOf c d, peer_idxOf c d h⟩, fun ⟨i, h⟩ => h ▸ peer_ne c i⟩

/-- A conjunction over the other devices is one over the peers' numbers. -/
theorem bigSep_others {M : Type} [URA M] (c : Dev nD) (Φ : Dev nD → sProp M) :
    bigSep (Finset.univ.erase c) Φ = bigSep Finset.univ (fun i : Fin 31 => Φ (peer i c)) := by
  rw [others_eq, bigSep_map]; rfl

/-- A conjunction over all devices is `c`'s own member and one over the peers' numbers. -/
theorem bigSep_around {M : Type} [URA M] (c : Dev nD) (Φ : Dev nD → sProp M) :
    bigSep Finset.univ Φ = iprop(Φ c ∗ bigSep Finset.univ (fun i : Fin 31 => Φ (peer i c))) := by
  rw [bigSep_univ_split c, bigSep_others]; rfl

/-! ## A family whose first `k` members have moved on -/

section Mix
variable {M : Type} [URA M] {n : ℕ}

/-- `A` below `k`, `B` from `k` on. -/
def mix (A B : Fin n → sProp M) (k : ℕ) (i : Fin n) : sProp M := if i.val < k then A i else B i

theorem mix_zero (A B : Fin n → sProp M) : bigSep Finset.univ (mix A B 0) = bigSep Finset.univ B :=
  bigSep_congr fun i _ => if_neg (Nat.not_lt_zero _)
theorem mix_full (A B : Fin n → sProp M) : bigSep Finset.univ (mix A B n) = bigSep Finset.univ A :=
  bigSep_congr fun i _ => if_pos i.isLt
theorem mix_take (A B : Fin n → sProp M) {k : ℕ} (hk : k < n) :
    bigSep Finset.univ (mix A B k) = iprop(B ⟨k, hk⟩ ∗ bigSep (Finset.univ.erase ⟨k, hk⟩) (mix A B k)) := by
  rw [bigSep_univ_split ⟨k, hk⟩, show mix A B k ⟨k, hk⟩ = B ⟨k, hk⟩ from if_neg (Nat.lt_irrefl k)]; rfl
theorem mix_put (A B : Fin n → sProp M) {k : ℕ} (hk : k < n) :
    iprop(A ⟨k, hk⟩ ∗ bigSep (Finset.univ.erase ⟨k, hk⟩) (mix A B k)) = bigSep Finset.univ (mix A B (k + 1)) := by
  rw [bigSep_univ_split (Φ := mix A B (k + 1)) ⟨k, hk⟩, show mix A B (k + 1) ⟨k, hk⟩ = A ⟨k, hk⟩ from if_pos (Nat.lt_succ_self k)]
  congr 1
  refine bigSep_congr fun i hi => ?_
  have hne : i.val ≠ k := fun h => Finset.ne_of_mem_erase hi (Fin.ext h)
  unfold mix
  by_cases h : i.val < k
  · rw [if_pos h, if_pos (Nat.lt_succ_of_lt h)]
  · rw [if_neg h, if_neg (by omega)]
end Mix

/-- A conjunction over `a + b` places is the one over the first `a` and the one over the rest. -/
theorem bigSep_fin_add {M : Type} [URA M] (a b : ℕ) (Φ : Fin (a + b) → sProp M) :
    bigSep Finset.univ Φ = iprop(bigSep Finset.univ (fun i : Fin a => Φ (Fin.castAdd b i)) ∗ bigSep Finset.univ (fun i : Fin b => Φ (Fin.natAdd a i))) := by
  rw [bigSep_univ_equiv (finSumFinEquiv (m := a) (n := b)) Φ, bigSep_univ_sum]
  simp only [finSumFinEquiv_apply_left, finSumFinEquiv_apply_right]
  rfl

/-! ## The memrefs, slots and cells -/

abbrev aX : Memref sig .tc .hbm S4096x2048 .f32 := Memref.whole main_arg0
abbrev aD : Memref sig .tc .hbm S4096x2048 .f32 := Memref.whole main_arg1
abbrev aO : Memref sig .tc .vmem S2x2048 .f32 := Memref.whole cc0_stg0_0
abbrev bX : Memref sig .tc .vmem S256x2048 .f32 := Memref.whole cc0_scratch0
abbrev bD : Memref sig .tc .vmem S256x2048 .f32 := Memref.whole cc0_scratch1
abbrev bA : Memref sig .tc .vmem S2x2048 .f32 := Memref.whole cc0_scratch2
abbrev bR : Memref sig .tc .vmem S32x2x2048 .f32 := Memref.whole cc0_scratch3

/-- The 256 rows of its block of `x` (of `dy`) device `c` reduces. -/
abbrev rowsX (c : Dev nD) : Memref sig .tc .hbm S256x2048 .f32 :=
  aX.slice (Rect.unit (s := S4096x2048) (k0_off1 c) S256x2048.size (k0_off1_inb c)) (fun _ => rfl)
abbrev rowsD (c : Dev nD) : Memref sig .tc .hbm S256x2048 .f32 :=
  aD.slice (Rect.unit (s := S4096x2048) (k0_off1 c) S256x2048.size (k0_off1_inb c)) (fun _ => rfl)

theorem slot_inb (s : Dev nD) : ∀ a, (![s.val, 0, 0] : Fin 3 → ℕ) a + S1x2x2048.size a ≤ S32x2x2048.size a := by
  have hs : s.val < 32 := s.isLt
  intro a
  match a with
  | ⟨0, _⟩ => show s.val + 1 ≤ 32; omega
  | ⟨1, _⟩ => exact Nat.le_refl 2
  | ⟨2, _⟩ => exact Nat.le_refl 2048

abbrev slotRect (s : Dev nD) : Rect S32x2x2048 := Rect.unit (s := S32x2x2048) ![s.val, 0, 0] S1x2x2048.size (slot_inb s)
/-- Slot `s` of the landing buffer: where device `s`'s partial lands. -/
abbrev slotM (s : Dev nD) : Memref sig .tc .vmem S2x2048 .f32 :=
  (bR.slice (slotRect s) (fun _ => rfl)).squeeze S2x2048 squeezes_S1x2x2048_S2x2048

/-- A slot named by any offset with the right entries is the slot. -/
theorem slot_of_off {s : Dev nD} {off : Fin 3 → ℕ} (h : off = ![s.val, 0, 0]) (inb : ∀ a, off a + S1x2x2048.size a ≤ S32x2x2048.size a) :
    (bR.slice (Rect.unit (s := S32x2x2048) off S1x2x2048.size inb) (fun _ => rfl)).squeeze S2x2048 squeezes_S1x2x2048_S2x2048 = slotM s := by
  subst h; rfl

theorem off4_eq (c : Dev nD) : k0_off4 c = ![c.val, 0, 0] := by
  rw [k0_off4_eq]
  have : 16 * (c.val / 16) + 4 * ((c.val / 4) % 4) + c.val % 4 = c.val := by omega
  rw [this]
theorem off2_eq (c : Dev nD) : k0_off2 c = ![c.val, 0, 0] := by
  rw [k0_off2_eq]
  have : 16 * (c.val / 16) + 4 * ((c.val / 4) % 4) + c.val % 4 = c.val := by omega
  rw [this]

/-- The barrier semaphore, the two semaphores of the row copies, the thirty-one of the sends, the thirty-two of the landings. -/
abbrev barS : Sem sig := (SemArray.scalar (sig.barrier 0 rfl) : Sems sig S_).sem
set_option backward.proofsInPublic true in
abbrev inS (b : Fin 2) : DmaSem sig := ⟨1 + b.val, by show _ < 66; omega⟩
set_option backward.proofsInPublic true in
abbrev sendS (i : Fin 31) : DmaSem sig := ⟨3 + i.val, by show _ < 66; omega⟩
set_option backward.proofsInPublic true in
abbrev recvS (s : Dev nD) : DmaSem sig := ⟨34 + s.val, by have : s.val < 32 := s.isLt; show _ < 66; omega⟩

abbrev barCell (c : Dev nD) : GSem nD τ sig := ((c : Thread nD τ), .reg barS)
abbrev inCell (c : Dev nD) (b : Fin 2) : GSem nD τ sig := ((c : Thread nD τ), .dma (inS b))
abbrev sendCell (c : Dev nD) (i : Fin 31) : GSem nD τ sig := ((c : Thread nD τ), .dma (sendS i))
abbrev recvCell (c s : Dev nD) : GSem nD τ sig := ((c : Thread nD τ), .dma (recvS s))

theorem recvSem_eq : ∀ c : Dev nD,
    ((cc0_scratch6.slice (Rect.unit (s := S32) (k0_off3 c) S1.size (k0_off3_inb c))).squeeze S_ squeezes_S1_S_).sem = recvS c := by
  decide +kernel

set_option backward.proofsInPublic true in
/-- The kernel's own scoped semaphores, as the launch indexes them. -/
abbrev osem : Fin 65 → SemLoc sig := fun k => .dma ⟨k.val + 1, by show _ < 66; omega⟩
set_option backward.proofsInPublic true in
/-- All the cells of a device: the barrier first, then the scoped ones. -/
abbrev csem : Fin 66 → SemLoc sig := fun j => if j.val = 0 then .reg barS else .dma ⟨j.val, j.isLt⟩
abbrev kcell (cj : Dev nD × Fin 66) : GSem nD τ sig := ((cj.1 : Thread nD τ), csem cj.2)

/-- The credit of one partial's transfer and of one block of rows. -/
abbrev N : ℕ := bA.view.dmaCredit
abbrev N₂ : ℕ := bX.view.dmaCredit
theorem N_pos : 0 < N := View.dmaCredit_pos _ (by decide)
theorem N₂_pos : 0 < N₂ := View.dmaCredit_pos _ (by decide)

/-! ## Contents -/

/-- Device `c`'s rows of `x` and of `dy`, as launched. -/
def xRows (c : Dev nD) : Vec F S256x2048 .f32 := (rowsX c).view.read (Elt F) (m ((c : Thread nD τ).loc main_arg0))
def dRows (c : Dev nD) : Vec F S256x2048 .f32 := (rowsD c).view.read (Elt F) (m ((c : Thread nD τ).loc main_arg1))
/-- Device `c`'s partial result. -/
def part (c : Dev nD) : FVec F S2x2048 .f32 := k0_pay1 (xRows m c) (dRows m c)
/-- The landing buffer with every slot filled: slot `s` holds device `s`'s partial. The same on every device. -/
def gathered : (cc0_scratch3 : Ref sig .tc).ty.Contents (Elt F) :=
  fun i : S32x2x2048.Idx => part m (i 0 : Fin 32) (ValueIdx.ix2 (i 1 : Fin 2) (i 2 : Fin 2048))
/-- The kernel's result, the same on every device: the slots added up. -/
def total : (cc0_stg0_0 : Ref sig .tc).ty.Contents (Elt F) := k0_pay4 (gathered m)

/-- Slot `s` of device `c`'s landing buffer at contents `f`. -/
def slotPts (c s : Dev nD) (f : (cc0_scratch3 : Ref sig .tc).ty.Contents (Elt F)) : sProp 𝕄 :=
  (slotM s).view.loc (c : Thread nD τ) ↦[(slotM s).view.set]{fullShare} f
/-- A share of device `c`'s accumulator at its partial. -/
def accPts (c : Dev nD) (q : PosShare TreeShare) : sProp 𝕄 :=
  bA.view.loc (c : Thread nD τ) ↦[bA.view.set]{q} (part m c : (cc0_scratch2 : Ref sig .tc).ty.Contents (Elt F))
/-- What a row copy leaves: the block's rows in the scratch buffer, and the rows of the argument back. -/
def inPts (c : Dev nD) (b : Fin 2) : sProp 𝕄 :=
  if b = 0 then
    iprop((bX.view.loc (c : Thread nD τ) ↦[bX.view.set]{fullShare} (xRows m c : (cc0_scratch0 : Ref sig .tc).ty.Contents (Elt F)))
      ∗ ((rowsX c).view.loc (c : Thread nD τ) ↦[(rowsX c).view.set]{fullShare} m ((c : Thread nD τ).loc main_arg0)))
  else
    iprop((bD.view.loc (c : Thread nD τ) ↦[bD.view.set]{fullShare} (dRows m c : (cc0_scratch1 : Ref sig .tc).ty.Contents (Elt F)))
      ∗ ((rowsD c).view.loc (c : Thread nD τ) ↦[(rowsD c).view.set]{fullShare} m ((c : Thread nD τ).loc main_arg1)))

omit [FloatOps F] in
instance slotPts_storable (c s : Dev nD) (f) : BI.Storable (upEmb : UEmb _ 𝕄) (slotPts (F := F) c s f) := by unfold slotPts; infer_instance
instance accPts_storable (c : Dev nD) (q) : BI.Storable (upEmb : UEmb _ 𝕄) (accPts (F := F) m c q) := by unfold accPts; infer_instance
instance inPts_storable (c : Dev nD) (b) : BI.Storable (upEmb : UEmb _ 𝕄) (inPts (F := F) m c b) := by
  unfold inPts; split <;> infer_instance

omit [FloatOps F] in
/-- The elements of slot `s` are those with leading coordinate `s`. -/
theorem mem_slot (s : Dev nD) (i : S32x2x2048.Idx) : i ∈ (slotM s).view.set ↔ (i 0).val = s.val := by
  have h1 : (slotM s).view.set = (slotRect s).set := (View.set_reshape _ _).trans (View.set_slice_whole _ _)
  rw [h1, Rect.mem_set_unit]
  constructor
  · intro h
    have h0 := h 0
    have e1 : (![s.val, 0, 0] : Fin 3 → ℕ) 0 = s.val := rfl
    have e2 : S1x2x2048.size 0 = 1 := rfl
    rw [e1, e2] at h0; omega
  · intro h a
    match a with
    | ⟨0, _⟩ => exact ⟨Nat.le_of_eq h.symm, by show (i 0).val < s.val + 1; omega⟩
    | ⟨1, _⟩ => exact ⟨Nat.zero_le _, by show (i 1).val < 0 + 2; have := (i 1).isLt; exact this.trans_eq (Nat.zero_add 2).symm⟩
    | ⟨2, _⟩ => exact ⟨Nat.zero_le _, by show (i 2).val < 0 + 2048; have := (i 2).isLt; exact this.trans_eq (Nat.zero_add 2048).symm⟩

omit [FloatOps F] in
/-- The landing buffer is its thirty-two slots. -/
theorem slots_eq (c : Dev nD) (f : (cc0_scratch3 : Ref sig .tc).ty.Contents (Elt F)) :
    (((c : Thread nD τ).loc cc0_scratch3) ↦{fullShare} f : sProp 𝕄) = bigSep Finset.univ fun s : Dev nD => slotPts c s f := by
  have h := pointsTo_biUnion (ℓ := (c : Thread nD τ).loc cc0_scratch3) (q := fullShare) (f := f) (Val := Elt F) (Ix := Unit) (Name := ℕ) (U := UU) (Lvl := ℕ)
    (Finset.univ : Finset (Dev nD)) (fun s => (slotM s).view.set) (by
      intro s _ s' _ hne
      refine Finset.disjoint_left.mpr fun i hi hi' => hne (Fin.ext ?_)
      exact ((mem_slot s i).mp hi).symm.trans ((mem_slot s' i).mp hi'))
  have hu : (Finset.univ : Finset (Dev nD)).biUnion (fun s => (slotM s).view.set) = (Finset.univ : Finset (Idx ((c : Thread nD τ).loc cc0_scratch3))) := by
    ext i
    simp only [Finset.mem_biUnion, Finset.mem_univ, true_and, iff_true]
    exact ⟨((i : S32x2x2048.Idx) 0 : Fin 32), (mem_slot _ i).mpr rfl⟩
  rw [hu] at h
  exact h

/-- Slots held at contents of any kind agreeing on the slot are the same. -/
theorem slotPts_congr (c s : Dev nD) {f g : (cc0_scratch3 : Ref sig .tc).ty.Contents (Elt F)}
    (h : ∀ i ∈ (slotM s).view.set, f i = g i) : slotPts (F := F) c s f = slotPts c s g := by
  unfold slotPts; exact pointsTo_congr h

/-- Where an element of slot `s` lies in the landing buffer. -/
theorem slot_emb (s : Dev nD) (p : Fin 2) (q : Fin 2048) :
    (slotM s).view.emb (ValueIdx.ix2 p q) = (slotRect s).emb (ValueIdx.ix3 (⟨0, Nat.one_pos⟩ : Fin 1) p q) :=
  congrArg (slotRect s).emb (ValueIdx.reshapeEquiv_ix2_1ab _ p q)

/-- The elements of slot `s`, by row and column. -/
theorem exists_of_mem_slot {s : Dev nD} {i} (hi : i ∈ (slotM s).view.set) :
    ∃ (p : Fin 2) (q : Fin 2048), (slotM s).view.emb (ValueIdx.ix2 p q) = i := by
  obtain ⟨x, rfl⟩ : ∃ x, (slotM s).view.emb x = i := by
    simpa only [View.set, Finset.mem_map, Finset.mem_univ, true_and] using hi
  exact ⟨x 0, x 1, congrArg _ (ValueIdx.eq_ix2 (n0 := 2) (n1 := 2048) x).symm⟩

/-- What `gathered` holds in slot `s`. -/
theorem gathered_slot (s : Dev nD) (p : Fin 2) (q : Fin 2048) :
    gathered m ((slotRect s).emb (ValueIdx.ix3 (⟨0, Nat.one_pos⟩ : Fin 1) p q)) = part m s (ValueIdx.ix2 p q) := by
  have e0 : ((slotRect s).emb (ValueIdx.ix3 (⟨0, Nat.one_pos⟩ : Fin 1) p q) 0 : Fin 32) = s :=
    Fin.ext (by rw [Rect.emb_apply]; show s.val + 1 * 0 = s.val; omega)
  have e1 : ((slotRect s).emb (ValueIdx.ix3 (⟨0, Nat.one_pos⟩ : Fin 1) p q) 1 : Fin 2) = p :=
    Fin.ext (by rw [Rect.emb_apply]; show 0 + 1 * p.val = p.val; omega)
  have e2 : ((slotRect s).emb (ValueIdx.ix3 (⟨0, Nat.one_pos⟩ : Fin 1) p q) 2 : Fin 2048) = q :=
    Fin.ext (by rw [Rect.emb_apply]; show 0 + 1 * q.val = q.val; omega)
  exact (congrArg₂ (fun a b => part m a b) e0 (congrArg₂ ValueIdx.ix2 e1 e2) : _)

/-- Device `s`'s partial written through slot `s` is what `gathered` holds there. -/
theorem landed_eq (s : Dev nD) (f : (cc0_scratch3 : Ref sig .tc).ty.Contents (Elt F)) :
    ∀ i ∈ (slotM s).view.set, (slotM s).view.write (Elt F) f (bA.view.read (Elt F) (part m s : (cc0_scratch2 : Ref sig .tc).ty.Contents (Elt F))) Finset.univ i = gathered m i := by
  intro i hi
  obtain ⟨p, q, rfl⟩ := exists_of_mem_slot hi
  rw [View.write_emb_of_mem _ _ (Finset.mem_univ _), slot_emb, gathered_slot]
  rfl

/-- The partial stored, as a 1×2×2048 vector, into slot `s` of the landing buffer is what `gathered` holds there. -/
theorem stored_eq (s : Dev nD) (f : (cc0_scratch3 : Ref sig .tc).ty.Contents (Elt F)) :
    ∀ i ∈ (slotM s).view.set, (bR.access (slotRect s)).write (Elt F) f (k0_pay3 (xRows m s) (dRows m s)) Finset.univ i = gathered m i := by
  intro i hi
  obtain ⟨p, q, rfl⟩ := exists_of_mem_slot hi
  rw [slot_emb, gathered_slot]
  refine (View.write_emb_of_mem (v := bR.access (slotRect s)) f (k0_pay3 (xRows m s) (dRows m s))
    (x := ValueIdx.ix3 (⟨0, Nat.one_pos⟩ : Fin 1) p q) (Finset.mem_univ _)).trans ?_
  exact ValueIdx.shapeCast_ab_1ab_apply (part m s) shapeCasts_S2x2048_S1x2x2048 _ p q

omit [FloatOps F] in
theorem access_set (s : Dev nD) : (bR.access (slotRect s)).set = (slotM s).view.set :=
  (View.set_reshape _ _).symm

/-! ## The schedule -/

set_option backward.proofsInPublic true in
/-- One round, round 0. The barrier cell of `c` has one unit due from every other device, `d`'s handing over `c`'s slot of
    `d`'s landing buffer. A row copy's cell hands back the rows and the filled scratch buffer, a send's cell its share of
    the accumulator, the landing cell of slot `s ≠ c` the filled slot. -/
def sched : Rounds.Schedule (GSem nD τ sig) (Dev nD) 𝕄 where
  duties g r := if r = 0 ∧ g.1.2 = .tc then
      (match g.2 with
        | .reg _ => Finset.univ.erase g.1.1
        | .dma q => if q.val = 0 ∨ q.val = 34 + g.1.1.val then ∅ else {0})
    else ∅
  unitless _ := False
  amount g _ _ := match g.2 with
    | .reg _ => 1
    | .dma q => if q.val < 3 then N₂ else N
  payload g _ d := match g.2 with
    | .reg _ => iprop(∃ f, slotPts d g.1.1 f)
    | .dma q =>
      if q.val < 3 then (if q.val = 1 then inPts m g.1.1 0 else inPts m g.1.1 1)
      else if h : 34 ≤ q.val then slotPts g.1.1 ⟨q.val - 34, by have : q.val < 66 := q.isLt; show _ < 32; omega⟩ (gathered m)
      else accPts m g.1.1 (Transfers.shareTokN fullShare (q.val - 3))
  amount_pos g _ _ _ := by
    obtain ⟨t, sm⟩ := g
    cases sm with
    | reg _ => exact Nat.one_pos
    | dma q => show 0 < if q.val < 3 then N₂ else N; split; exacts [N₂_pos, N_pos]

instance sched_payload_storable (g : GSem nD τ sig) (r : ℕ) (d : Dev nD) :
    BI.Storable (upEmb : UEmb _ 𝕄) ((sched (F := F) m).payload g r d) := by
  obtain ⟨t, sm⟩ := g
  cases sm with
  | reg _ => show BI.Storable upEmb (iprop(∃ f, slotPts d t.1 f)); infer_instance
  | dma q =>
    show BI.Storable upEmb (if q.val < 3 then (if q.val = 1 then inPts m t.1 0 else inPts m t.1 1)
      else if h : 34 ≤ q.val then slotPts t.1 ⟨q.val - 34, _⟩ (gathered m) else accPts m t.1 (Transfers.shareTokN fullShare (q.val - 3)))
    (repeat' split) <;> infer_instance

section Sched
variable (c s : Dev nD) (b : Fin 2) (i : Fin 31)

theorem duties_reg (t : Thread nD τ) (k) (r : ℕ) : (sched (F := F) m).duties (t, .reg k) r = if r = 0 ∧ t.2 = .tc then Finset.univ.erase t.1 else ∅ := rfl
theorem duties_dma (t : Thread nD τ) (q : DmaSem sig) (r : ℕ) : (sched (F := F) m).duties (t, .dma q) r
    = if r = 0 ∧ t.2 = .tc then (if q.val = 0 ∨ q.val = 34 + t.1.val then ∅ else {0}) else ∅ := rfl
theorem amount_dma (t : Thread nD τ) (q : DmaSem sig) (r : ℕ) (d : Dev nD) : (sched (F := F) m).amount (t, .dma q) r d = if q.val < 3 then N₂ else N := rfl
theorem payload_dma (t : Thread nD τ) (q : DmaSem sig) (r : ℕ) (d : Dev nD) : (sched (F := F) m).payload (t, .dma q) r d
    = if q.val < 3 then (if q.val = 1 then inPts m t.1 0 else inPts m t.1 1)
      else if h : 34 ≤ q.val then slotPts t.1 ⟨q.val - 34, by have : q.val < 66 := q.isLt; show _ < 32; omega⟩ (gathered m)
      else accPts m t.1 (Transfers.shareTokN fullShare (q.val - 3)) := rfl

theorem duties_bar : (sched (F := F) m).duties (barCell c) 0 = Finset.univ.erase c := by rw [duties_reg]; exact if_pos ⟨rfl, rfl⟩
theorem duties_in : (sched (F := F) m).duties (inCell c b) 0 = {0} := by
  have hb := b.isLt
  rw [duties_dma, if_pos ⟨rfl, rfl⟩, if_neg]
  show ¬ (1 + b.val = 0 ∨ 1 + b.val = 34 + c.val); omega
theorem duties_send : (sched (F := F) m).duties (sendCell c i) 0 = {0} := by
  have hi := i.isLt
  rw [duties_dma, if_pos ⟨rfl, rfl⟩, if_neg]
  show ¬ (3 + i.val = 0 ∨ 3 + i.val = 34 + c.val); omega
theorem duties_recv (h : s ≠ c) : (sched (F := F) m).duties (recvCell c s) 0 = {0} := by
  have hs : s.val ≠ c.val := fun e => h (Fin.ext e)
  rw [duties_dma, if_pos ⟨rfl, rfl⟩, if_neg]
  show ¬ (34 + s.val = 0 ∨ 34 + s.val = 34 + c.val); omega
theorem duties_later (g : GSem nD τ sig) : ∀ r, 1 ≤ r → (sched (F := F) m).duties g r = ∅ := fun r hr => by
  dsimp only [sched]; exact if_neg fun h => by omega
theorem duties_own : ∀ r, 0 ≤ r → (sched (F := F) m).duties (recvCell c c) r = ∅ := fun r _ => by
  rw [duties_dma]
  by_cases hr : r = 0
  · exact (if_pos ⟨hr, rfl⟩).trans (if_pos (.inr rfl))
  · exact if_neg fun h => hr h.1

theorem amount_bar (d : Dev nD) : (sched (F := F) m).amount (barCell c) 0 d = 1 := rfl
theorem amount_in (d : Dev nD) : (sched (F := F) m).amount (inCell c b) 0 d = N₂ := by
  rw [amount_dma]; exact if_pos (by have hb := b.isLt; show 1 + b.val < 3; omega)
theorem amount_send (d : Dev nD) : (sched (F := F) m).amount (sendCell c i) 0 d = N := by
  rw [amount_dma]; exact if_neg (by show ¬ 3 + i.val < 3; omega)
theorem amount_recv (d : Dev nD) : (sched (F := F) m).amount (recvCell c s) 0 d = N := by
  rw [amount_dma]; exact if_neg (by show ¬ 34 + s.val < 3; omega)

theorem expect_bar : (sched (F := F) m).expect (barCell c) 0 = 31 := by
  unfold Schedule.expect Schedule.amountOf
  rw [duties_bar, Finset.sum_congr rfl fun d _ => amount_bar m c d, Finset.sum_const, Finset.card_erase_of_mem (Finset.mem_univ c), Finset.card_univ]
  rfl
theorem expect_in : (sched (F := F) m).expect (inCell c b) 0 = N₂ := by
  unfold Schedule.expect Schedule.amountOf; rw [duties_in, Finset.sum_singleton, amount_in]
theorem expect_send : (sched (F := F) m).expect (sendCell c i) 0 = N := by
  unfold Schedule.expect Schedule.amountOf; rw [duties_send, Finset.sum_singleton, amount_send]
theorem expect_recv (h : s ≠ c) : (sched (F := F) m).expect (recvCell c s) 0 = N := by
  unfold Schedule.expect Schedule.amountOf; rw [duties_recv m c s h, Finset.sum_singleton, amount_recv]

theorem payload_bar (d : Dev nD) : (sched (F := F) m).payload (barCell c) 0 d = iprop(∃ f, slotPts d c f) := rfl
theorem payload_in (d : Dev nD) : (sched (F := F) m).payload (inCell c b) 0 d = inPts m c b := by
  rw [payload_dma, if_pos (by have hb := b.isLt; show 1 + b.val < 3; omega)]
  match b with
  | 0 => exact if_pos rfl
  | 1 => exact if_neg (by decide)
theorem payload_send (d : Dev nD) : (sched (F := F) m).payload (sendCell c i) 0 d = accPts m c (Transfers.shareTokN fullShare i.val) := by
  have hi := i.isLt
  rw [payload_dma, if_neg (by show ¬ 3 + i.val < 3; omega), dif_neg (by show ¬ 34 ≤ 3 + i.val; omega)]
  show accPts m c (Transfers.shareTokN fullShare (3 + i.val - 3)) = _
  rw [Nat.add_sub_cancel_left]
theorem payload_recv (d : Dev nD) : (sched (F := F) m).payload (recvCell c s) 0 d = slotPts c s (gathered m) := by
  rw [payload_dma, if_neg (by show ¬ 34 + s.val < 3; omega), dif_pos (by show 34 ≤ 34 + s.val; omega)]
  exact congrArg (fun s' : Dev nD => slotPts c s' (gathered m)) (Fin.ext (Nat.add_sub_cancel_left _ _))

/-- What is left of each cell's round before any duty is taken. -/
theorem rest_bar : bigSep ((sched (F := F) m).duties (barCell c) 0 \ ∅) (fun d => (sched (F := F) m).payload (barCell c) 0 d)
    = bigSep Finset.univ fun i : Fin 31 => iprop(∃ f, slotPts (peer i c) c f) := by
  rw [Finset.sdiff_empty, duties_bar, bigSep_others]; rfl
theorem rest_in : bigSep ((sched (F := F) m).duties (inCell c b) 0 \ ∅) (fun d => (sched (F := F) m).payload (inCell c b) 0 d) = inPts m c b := by
  rw [Finset.sdiff_empty, duties_in, bigSep_singleton, payload_in]
theorem rest_send : bigSep ((sched (F := F) m).duties (sendCell c i) 0 \ ∅) (fun d => (sched (F := F) m).payload (sendCell c i) 0 d)
    = accPts m c (Transfers.shareTokN fullShare i.val) := by
  rw [Finset.sdiff_empty, duties_send, bigSep_singleton, payload_send]
theorem rest_recv (h : s ≠ c) : bigSep ((sched (F := F) m).duties (recvCell c s) 0 \ ∅) (fun d => (sched (F := F) m).payload (recvCell c s) 0 d)
    = slotPts c s (gathered m) := by
  rw [Finset.sdiff_empty, duties_recv m c s h, bigSep_singleton, payload_recv]
end Sched

/-! ## What each core owes; the levels -/

/-- The members of `Φ` from number `k` on, summed. -/
def dueFrom (Φ : Fin 31 → CellTallies nD τ sig Unit) (k : ℕ) : CellTallies nD τ sig Unit := ∑ i with k ≤ i.val, Φ i

theorem dueFrom_take (Φ : Fin 31 → CellTallies nD τ sig Unit) {k : ℕ} (hk : k < 31) :
    dueFrom Φ k = dueFrom Φ (k + 1) + Φ ⟨k, hk⟩ := by
  unfold dueFrom
  have e : (Finset.univ.filter fun i : Fin 31 => k ≤ i.val) = insert ⟨k, hk⟩ (Finset.univ.filter fun i : Fin 31 => k + 1 ≤ i.val) := by
    ext i
    simp only [Finset.mem_filter, Finset.mem_univ, true_and, Finset.mem_insert, Fin.ext_iff]
    omega
  rw [e, Finset.sum_insert (by simp only [Finset.mem_filter, Finset.mem_univ, true_and]; omega), add_comm]
theorem dueFrom_end (Φ : Fin 31 → CellTallies nD τ sig Unit) : dueFrom Φ 31 = 0 := by
  unfold dueFrom
  rw [Finset.filter_false_of_mem fun i _ => by have := i.isLt; omega, Finset.sum_empty]
theorem dueFrom_zero (Φ : Fin 31 → CellTallies nD τ sig Unit) : dueFrom Φ 0 = ∑ i, Φ i := by
  unfold dueFrom
  rw [Finset.filter_true_of_mem fun i _ => Nat.zero_le _]
theorem dueFrom_pos {Φ : Fin 31 → CellTallies nD τ sig Unit} {k : ℕ} {g : GSem nD τ sig} {u : Unit} (h : 0 < dueFrom Φ k g u) :
    ∃ i, 0 < Φ i g u := by
  unfold dueFrom at h
  rw [Finset.sum_apply, Finsupp.finsetSum_apply] at h
  by_contra hn
  refine absurd h (Nat.not_lt.mpr (Nat.le_of_eq (Finset.sum_eq_zero fun i _ => ?_)))
  exact Nat.eq_zero_of_not_pos fun hp => hn ⟨i, hp⟩

/-- The landings device `c` still owes its peers from number `k` on, and the barrier units. -/
def dueS (c : Dev nD) (k : ℕ) : CellTallies nD τ sig Unit := dueFrom (fun i => tallyAt (recvCell (peer i c) c) () N) k
def dueB (c : Dev nD) (k : ℕ) : CellTallies nD τ sig Unit := dueFrom (fun i => tallyAt (barCell (peer i c)) () 1) k
/-- What device `c` owes at launch. -/
def O₀ (c : Dev nD) : CellTallies nD τ sig Unit := dueS c 0 + dueB c 0

def L (g : GSem nD τ sig) : Finset Unit := if g.1.2 = .tc then {()} else ∅
/-- The barrier at 1, the landings at 2, everything else at 0. -/
def lv (g : GSem nD τ sig) (_ : Unit) : ℕ := match g.2 with
  | .reg _ => 1
  | .dma q => if 34 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem dueS_pos {c : Dev nD} {k : ℕ} {g : GSem nD τ sig} {u : Unit} (h : 0 < dueS c k g u) : g.1.2 = .tc ∧ lv g () = 2 := by
  obtain ⟨i, hi⟩ := dueFrom_pos h
  obtain ⟨rfl, -⟩ := Pipeline.tallyAt_pos hi
  exact ⟨rfl, if_pos (Nat.le_add_right _ _)⟩
theorem O₀_pos {c : Dev nD} {g : GSem nD τ sig} {u : Unit} (h : 0 < O₀ c g u) : g.1.2 = .tc ∧ 0 < lv g () := by
  unfold O₀ at h
  rw [Pi.add_apply, Finsupp.add_apply] at h
  rcases Nat.add_pos_iff_pos_or_pos.mp h with h | h
  · have := dueS_pos h; exact ⟨this.1, by rw [this.2]; decide⟩
  · obtain ⟨i, hi⟩ := dueFrom_pos h
    obtain ⟨rfl, -⟩ := Pipeline.tallyAt_pos hi
    exact ⟨rfl, Nat.one_pos⟩

omit [FloatOps F] in
/-- A wait is in order when everything still owed lies above the awaited cell. -/
theorem mayWait_lt (c : Dev nD) (sm : SemLoc sig) (O : CellTallies nD τ sig Unit) (l : ℕ) (hl : lv ((c : Thread nD τ), sm) () = l)
    (hO : ∀ g u, 0 < O g u → g.1.2 = .tc ∧ l < lv g ()) : (levAts L lv : sProp 𝕄) ⊢ MayWait (c : Thread nD τ) sm () O :=
  MayOwe.of_cut (L := L) (lev := lv) l (fun p hp => by rw [Finset.mem_singleton.mp hp, L_tc]; exact Finset.mem_singleton_self _)
    (fun g u hg => by rw [L, if_pos (hO g u hg).1]; exact Finset.mem_singleton_self _)
    (fun p hp => by rw [Finset.mem_singleton.mp hp]; exact le_of_eq hl)
    (fun g u hg => (hO g u hg).2)

/-! ## The records of all cells -/

/-- Every cell's invariant and the mark that its round 0 is reached. -/
def records (K : Dev nD × Fin 66 → ℕ) : sProp 𝕄 :=
  bigSep Finset.univ fun cj => iprop(cellInv ER (sched m) (K cj) (kcell cj) ∗ reached ER (kcell cj) 0)

instance records_persistent (K : Dev nD × Fin 66 → ℕ) : BI.Persistent (records (F := F) m K) := by unfold records; infer_instance

theorem records_get (K : Dev nD × Fin 66 → ℕ) (cj : Dev nD × Fin 66) :
    records m K ⊢ iprop(cellInv ER (sched (F := F) m) (K cj) (kcell cj) ∗ reached ER (kcell cj) 0) :=
  bigSep_elim (Finset.mem_univ cj)

set_option backward.proofsInPublic true in
abbrev jIn (b : Fin 2) : Fin 66 := ⟨1 + b.val, by omega⟩
set_option backward.proofsInPublic true in
abbrev jSend (i : Fin 31) : Fin 66 := ⟨3 + i.val, by omega⟩
set_option backward.proofsInPublic true in
abbrev jRecv (s : Dev nD) : Fin 66 := ⟨34 + s.val, by have : s.val < 32 := s.isLt; omega⟩

theorem kcell_bar (c : Dev nD) : kcell (c, 0) = barCell c := rfl
theorem kcell_in (c : Dev nD) (b : Fin 2) : kcell (c, jIn b) = inCell c b := by
  have : csem (jIn b) = .dma (inS b) := if_neg (by show ¬ 1 + b.val = 0; omega)
  show ((c : Thread nD τ), csem (jIn b)) = _; rw [this]
theorem kcell_send (c : Dev nD) (i : Fin 31) : kcell (c, jSend i) = sendCell c i := by
  have : csem (jSend i) = .dma (sendS i) := if_neg (by show ¬ 3 + i.val = 0; omega)
  show ((c : Thread nD τ), csem (jSend i)) = _; rw [this]
theorem kcell_recv (c s : Dev nD) : kcell (c, jRecv s) = recvCell c s := by
  have : csem (jRecv s) = .dma (recvS s) := if_neg (by show ¬ 34 + s.val = 0; omega)
  show ((c : Thread nD τ), csem (jRecv s)) = _; rw [this]

theorem rec_bar (K : Dev nD × Fin 66 → ℕ) (c : Dev nD) :
    records m K ⊢ iprop(cellInv ER (sched (F := F) m) (K (c, 0)) (barCell c) ∗ reached ER (barCell c) 0) := records_get m K (c, 0)
theorem rec_in (K : Dev nD × Fin 66 → ℕ) (c : Dev nD) (b : Fin 2) :
    records m K ⊢ iprop(cellInv ER (sched (F := F) m) (K (c, jIn b)) (inCell c b) ∗ reached ER (inCell c b) 0) := by
  have h := records_get m K (c, jIn b); rw [kcell_in] at h; exact h
theorem rec_send (K : Dev nD × Fin 66 → ℕ) (c : Dev nD) (i : Fin 31) :
    records m K ⊢ iprop(cellInv ER (sched (F := F) m) (K (c, jSend i)) (sendCell c i) ∗ reached ER (sendCell c i) 0) := by
  have h := records_get m K (c, jSend i); rw [kcell_send] at h; exact h
theorem rec_recv (K : Dev nD × Fin 66 → ℕ) (c s : Dev nD) :
    records m K ⊢ iprop(cellInv ER (sched (F := F) m) (K (c, jRecv s)) (recvCell c s) ∗ reached ER (recvCell c s) 0) := by
  have h := records_get m K (c, jRecv s); rw [kcell_recv] at h; exact h

/-- A family over a device's scoped cells, cut into the row copies', the sends' and the landings' members. -/
theorem scoped_split {M : Type} [URA M] (c : Dev nD) (Φ : GSem nD τ sig → sProp M) :
    bigSep Finset.univ (fun k : Fin 65 => Φ ((c : Thread nD τ), osem k))
      = iprop((Φ (inCell c 0) ∗ Φ (inCell c 1)) ∗ bigSep Finset.univ (fun i : Fin 31 => Φ (sendCell c i)) ∗ bigSep Finset.univ (fun s : Dev nD => Φ (recvCell c s))) := by
  have e : ∀ (k : Fin 65) (q : DmaSem sig), k.val + 1 = q.val → Φ ((c : Thread nD τ), osem k) = Φ ((c : Thread nD τ), .dma q) := fun k q h => by
    rw [show osem k = .dma q from congrArg SemLoc.dma (Fin.ext h)]
  refine (bigSep_fin_add 2 (31 + 32) _).trans (congrArg₂ BI.sep ?_ ((bigSep_fin_add 31 32 _).trans (congrArg₂ BI.sep ?_ ?_)))
  · exact BI.bigSep_fin_two _
  · exact bigSep_congr fun i _ => e _ _ (by show 2 + i.val + 1 = 3 + i.val; omega)
  · exact bigSep_congr fun s _ => e _ _ (by show 2 + (31 + s.val) + 1 = 34 + s.val; omega)

/-- A family over all of a device's cells: the barrier's member and the scoped ones. -/
theorem cells_split {M : Type} [URA M] (c : Dev nD) (Φ : GSem nD τ sig → sProp M) :
    bigSep Finset.univ (fun j : Fin 66 => Φ (kcell (c, j)))
      = iprop(Φ (barCell c) ∗ (Φ (inCell c 0) ∗ Φ (inCell c 1)) ∗ bigSep Finset.univ (fun i : Fin 31 => Φ (sendCell c i)) ∗ bigSep Finset.univ (fun s : Dev nD => Φ (recvCell c s))) := by
  refine (bigSep_fin_add 1 65 _).trans (congrArg₂ BI.sep ?_ ((bigSep_congr fun k _ => ?_).trans (scoped_split c Φ)))
  · rw [show (Finset.univ : Finset (Fin 1)) = {0} from rfl, bigSep_singleton]; rfl
  · have h : csem (Fin.natAdd 1 k) = osem k :=
      (if_neg (by show ¬ 1 + k.val = 0; omega)).trans (congrArg SemLoc.dma (Fin.ext (Nat.add_comm 1 k.val)))
    show Φ ((c : Thread nD τ), csem (Fin.natAdd 1 k)) = _
    rw [h]

end Cert.Exchange

end
-- ==== Proof.Steps.lean ====
/-
# One step of the kernel at a time

Each lemma takes one operation of the kernel off the front of a program: what is held before it, with any frame `R`
alongside, becomes what is held after it. A phase that repeats an operation over the peers or the slots holds a family
whose first members have moved on (`mix`), so one lemma serves every repetition.
-/
module

public import proofs.«01_k».proof.Proof.Protocol

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a program of device `c`'s core. -/
abbrev Runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What every step may use: the cells' records and the levels. -/
def ctx (K : Dev nD × Fin 66 → ℕ) : sProp 𝕄 := iprop(records m K ∗ levAts L lv)
instance ctx_persistent (K : Dev nD × Fin 66 → ℕ) : BI.Persistent (ctx (F := F) m K) := by unfold ctx; infer_instance

/-- Device `c` owes `O`, whatever it has waited on. -/
def owing (c : Dev nD) (O : CellTallies nD τ sig Unit) : sProp 𝕄 := iprop(∃ W, owes (c : Thread nD τ) O W)

variable (K : Dev nD × Fin 66 → ℕ) (c : Dev nD)

/-! ## Programs in sequence -/

/-- A part that ends without an effect hands its results on. -/
theorem runs_pure_bind {α β : Type} {P : sProp 𝕄} {p : Prog (TpuEff nD τ sig (Elt F) Λ₀ .tc) α} {k : α → Prog (TpuEff nD τ sig (Elt F) Λ₀ .tc) β} {Q : β → sProp 𝕄}
    (h : ∃ r, p = .ret r) (H : ∀ r, P ⊢ Runs c (k r) Q) : P ⊢ Runs c (p >>= k) Q := by
  obtain ⟨r, rfl⟩ := h
  exact H r
/-- A part in sequence with the rest. -/
theorem runs_bind {α β : Type} {P : sProp 𝕄} {p : Prog (TpuEff nD τ sig (Elt F) Λ₀ .tc) α} {k : α → Prog (TpuEff nD τ sig (Elt F) Λ₀ .tc) β} {Q : β → sProp 𝕄}
    (h : P ⊢ Runs c p fun r => Runs c (k r) Q) : P ⊢ Runs c (p >>= k) Q := by
  unfold Runs; rw [wp_bind]; exact h
/-- The end of a part. -/
theorem runs_pure {α : Type} {P : sProp 𝕄} {r : α} {Q : α → sProp 𝕄} (h : P ⊢ Q r) : P ⊢ Runs c (pure r) Q := by
  show P ⊢ wp frame (wpE (defs₀ (F := F)) 𝒱₀ (c : Thread nD τ) none) Set.univ (.ret r) Q
  rw [wp_ret]
  iintro H
  imodintro
  iapply h; iexact H

/-! ## The barrier signals -/

/-- What the signal to peer `i` spends: its duty, and the peer's slot of the own landing buffer. -/
def sigNeed (i : Fin 31) : sProp 𝕄 := iprop(dutyTok ER (barCell (peer i c)) 0 c ∗ ∃ f, slotPts c (peer i c) f)
/-- `k` signals sent. -/
def SigSt (k : ℕ) : sProp 𝕄 := iprop(owing c (dueS c 0 + dueB c k) ∗ bigSep Finset.univ (mix (fun _ => iprop(emp)) (sigNeed c) k))

theorem sig_step {R : sProp 𝕄} {α : Type} {Q : α → sProp 𝕄} (k : ℕ) (hk : k < 31) {n : Dev nD} (hn : n = peer ⟨k, hk⟩ c)
    {kk : PUnit → Prog (TpuEff nD τ sig (Elt F) Λ₀ .tc) α} (H : iprop(ctx m K ∗ SigSt c (k + 1) ∗ R) ⊢ Runs c (kk ⟨⟩) Q) :
    iprop(ctx m K ∗ SigSt c k ∗ R) ⊢ Runs c (semSignalWord n barS 1#32 >>= kk) Q := by
  subst hn
  have hO : dueS c 0 + dueB c k = (dueS c 0 + dueB c (k + 1)) + tallyAt (barCell (peer ⟨k, hk⟩ c)) () 1 := by
    rw [add_assoc]; exact congrArg (dueS c 0 + ·) (dueFrom_take _ hk)
  unfold SigSt owing at H ⊢
  rw [mix_take _ _ hk, hO]
  rw [← mix_put _ _ hk] at H
  unfold sigNeed ctx at H ⊢
  unfold Runs at H ⊢
  simp only [semSignalWord, Prog.bind_op, Prog.bind_ret]
  iintro ⟨⟨#Hrec, #Hlev⟩, ⟨⟨%W, HO⟩, ⟨Htok, Hslot⟩, Hrest⟩, HR⟩
  ihave ⟨#Hinv, #Hre⟩ := (rec_bar m K (peer ⟨k, hk⟩ c)) $$ Hrec
  iapply (Rounds.wp_signal 𝒱₀ ER (sched m) (c : Thread nD τ) none (dst := (peer ⟨k, hk⟩ c : Thread nD τ)) (κ := K (peer ⟨k, hk⟩ c, 0))
      (d := c) (by rw [duties_bar]; exact Finset.mem_erase.mpr ⟨(peer_ne c _).symm, Finset.mem_univ _⟩) ((amount_bar m _ c).trans (by decide)) ()
      (dueS c 0 + dueB c (k + 1)) rfl) $$ [HO Htok Hslot]
  · isplitr; · iexact Hinv
    isplitl [HO]; · iexact HO
    isplitl [Htok]; · iexact Htok
    isplitl [Hslot]; · rw [payload_bar]; iexact Hslot
    iexact Hre
  iintro HO
  iapply H
  isplitr
  · isplitr; · iexact Hrec
    iexact Hlev
  isplitr [HR]
  · isplitl [HO]; · iexists W; iexact HO
    isplitr; · iempintro
    iexact Hrest
  iexact HR

theorem ctx_lev : ctx (F := F) m K ⊢ (levAts L lv : sProp 𝕄) := by unfold ctx; iintro ⟨-, H⟩; iexact H

/-! ## Waiting out a cell's one round -/

/-- A wait for all of a cell's round: its payloads come back, and so does the cell's counter, at zero. -/
theorem wait_step {R : sProp 𝕄} {α : Type} {Q : α → sProp 𝕄} {w : TpuEff nD τ sig (Elt F) Λ₀ .tc PUnit} {sm : SemLoc sig} {k' : ℕ} {κ : ℕ}
    (hw : ∀ Kf : PUnit → sProp 𝕄, wpE (defs₀ (F := F)) 𝒱₀ (c : Thread nD τ) none Set.univ w Kf = waitSpec (c : Thread nD τ) Set.univ sm k' Kf)
    (hinv : ctx m K ⊢ cellInv ER (sched m) κ ((c : Thread nD τ), sm))
    (hk : k' = (sched (F := F) m).expect ((c : Thread nD τ), sm) 0)
    (hlate : ∀ r, 1 ≤ r → (sched (F := F) m).duties ((c : Thread nD τ), sm) r = ∅)
    (O : CellTallies nD τ sig Unit) (hO : (levAts L lv : sProp 𝕄) ⊢ MayWait (c : Thread nD τ) sm () O)
    {P : sProp 𝕄} (hP : bigSep ((sched (F := F) m).duties ((c : Thread nD τ), sm) 0 \ ∅) (fun d => (sched (F := F) m).payload ((c : Thread nD τ), sm) 0 d) = P)
    {kk : PUnit → Prog (TpuEff nD τ sig (Elt F) Λ₀ .tc) α}
    (H : iprop(ctx m K ∗ (owing c O ∗ P ∗ semVal ((c : Thread nD τ), sm) 0) ∗ R) ⊢ Runs c (kk ⟨⟩) Q) :
    iprop(ctx m K ∗ (owing c O ∗ cred (tallyAt ((c : Thread nD τ), sm) () k') ∗ atPos ER ((c : Thread nD τ), sm) 0 ∅ 0) ∗ R) ⊢ Runs c (.op w kk) Q := by
  have hlev : ctx m K ⊢ MayWait (c : Thread nD τ) sm () O := BIBase.Entails.trans (@ctx_lev F _ m K) hO
  unfold owing at H ⊢
  iintro ⟨#Hctx, ⟨⟨%W, HO⟩, Hcred, Hat⟩, HR⟩
  ihave #Hinv := hinv $$ Hctx
  iapply (Rounds.wp_wait_rest_token 𝒱₀ ER (sched m) (c : Thread nD τ) none (κ := κ) hw (Set.mem_univ _) () (O := O) (W := W) (R := 0) (m := 0) (T := ∅)
      (by rw [Nat.zero_add]; exact hk)) $$ [Hcred HO Hat]
  · isplitr; · iexact Hinv
    isplitl [Hcred]; · iexact Hcred
    isplitl [HO]; · iexact HO
    isplitr; · iapply hlev; iexact Hctx
    iexact Hat
  iintro ⟨HO, Hat, -, Hpay⟩
  imod (Rounds.cell_close ER (sched m) (Set.mem_univ κ) (fun h => h) (R := 0 + 1) hlate) $$ [Hat] with Hz
  · isplitr; · iexact Hinv
    iexact Hat
  iapply H
  isplitr; · iexact Hctx
  isplitr [HR]
  · isplitl [HO]; · iexists _; iexact HO
    isplitl [Hpay]; · iapply (Entails.of_eq hP); iexact Hpay
    iexact Hz
  iexact HR

theorem ctx_bar : ctx m K ⊢ cellInv ER (sched (F := F) m) (K (c, 0)) (barCell c) := sep_elim_left.trans ((rec_bar m K c).trans sep_elim_left)
theorem ctx_in (b : Fin 2) : ctx m K ⊢ cellInv ER (sched (F := F) m) (K (c, jIn b)) (inCell c b) := sep_elim_left.trans ((rec_in m K c b).trans sep_elim_left)
theorem ctx_send (i : Fin 31) : ctx m K ⊢ cellInv ER (sched (F := F) m) (K (c, jSend i)) (sendCell c i) := sep_elim_left.trans ((rec_send m K c i).trans sep_elim_left)
theorem ctx_recv (s : Dev nD) : ctx m K ⊢ cellInv ER (sched (F := F) m) (K (c, jRecv s)) (recvCell c s) := sep_elim_left.trans ((rec_recv m K c s).trans sep_elim_left)

theorem creditD (q : DmaSem sig) : bD.view.amount (.dma q) = N₂ := rfl
theorem creditSlot (s : Dev nD) (q : DmaSem sig) : (slotM s).view.amount (.dma q) = N := rfl

/-! ## The row copies -/

/-- What row copy `b` starts from: the rows of the argument, the scratch buffer, its duty and its position. -/
def inNeed (b : Fin 2) : sProp 𝕄 :=
  if b = 0 then
    iprop(((rowsX c).view.loc (c : Thread nD τ) ↦[(rowsX c).view.set]{fullShare} m ((c : Thread nD τ).loc main_arg0))
      ∗ (∃ f, bX.view.loc (c : Thread nD τ) ↦[bX.view.set]{fullShare} f) ∗ dutyTok ER (inCell c 0) 0 0)
  else
    iprop(((rowsD c).view.loc (c : Thread nD τ) ↦[(rowsD c).view.set]{fullShare} m ((c : Thread nD τ).loc main_arg1))
      ∗ (∃ f, bD.view.loc (c : Thread nD τ) ↦[bD.view.set]{fullShare} f) ∗ dutyTok ER (inCell c 1) 0 0)

theorem copyX_step {R : sProp 𝕄} {α : Type} {Q : α → sProp 𝕄} {q : DmaSem sig} (hq : q = inS 0)
    {h1 h2 h3}
    {kk : PUnit → Prog (TpuEff nD τ sig (Elt F) Λ₀ .tc) α} (H : iprop(ctx m K ∗ cred (tallyAt (inCell c 0) () N₂) ∗ R) ⊢ Runs c (kk ⟨⟩) Q) :
    iprop(ctx m K ∗ inNeed m c 0 ∗ R) ⊢ Runs c (Prog.lift (.enqueueDma (rowsX c) (.here bX) (.dma q) h1 h2 h3) >>= kk) Q := by
  subst hq
  unfold inNeed Runs at *
  rw [if_pos rfl]
  simp only [Prog.lift, Prog.bind_op, Prog.bind_ret]
  iintro ⟨#Hctx, ⟨Hsrc, ⟨%f, Hdst⟩, Htok⟩, HR⟩
  ihave ⟨#Hrec, #Hlev⟩ := (show ctx m K ⊢ iprop(records m K ∗ levAts L lv) from Entails.refl _) $$ Hctx
  ihave ⟨#Hinv, #Hre⟩ := (rec_in m K c 0) $$ Hrec
  iapply (Rounds.wp_copy_pointsTo 𝒱₀ ER (sched m) (c : Thread nD τ) none (κ := K (c, jIn 0)) (r := 0) (d := 0) (fd := f)
      (by rw [duties_in]; exact Finset.mem_singleton_self _) () N₂ rfl (amount_in m c 0 0)
      (by
        rw [payload_in]; unfold inPts; rw [if_pos rfl]
        refine sep_mono_left (Entails.of_eq ?_)
        exact pointsTo_congr fun i _ => congrFun (View.write_whole_univ (Val := Elt F) cc0_scratch0 f (xRows m c)) i)) $$ [Hsrc Hdst Htok]
  · isplitr; · iexact Hinv
    isplitl [Hsrc]; · iexact Hsrc
    isplitl [Hdst]; · iexact Hdst
    isplitl [Htok]; · iexact Htok
    iexact Hre
  iintro Hc
  iapply H
  isplitr; · iexact Hctx
  isplitl [Hc]; · iexact Hc
  iexact HR

theorem copyD_step {R : sProp 𝕄} {α : Type} {Q : α → sProp 𝕄} {q : DmaSem sig} (hq : q = inS 1)
    {h1 h2 h3}
    {kk : PUnit → Prog (TpuEff nD τ sig (Elt F) Λ₀ .tc) α} (H : iprop(ctx m K ∗ cred (tallyAt (inCell c 1) () N₂) ∗ R) ⊢ Runs c (kk ⟨⟩) Q) :
    iprop(ctx m K ∗ inNeed m c 1 ∗ R) ⊢ Runs c (Prog.lift (.enqueueDma (rowsD c) (.here bD) (.dma q) h1 h2 h3) >>= kk) Q := by
  subst hq
  unfold inNeed Runs at *
  rw [if_neg (by decide)]
  simp only [Prog.lift, Prog.bind_op, Prog.bind_ret]
  iintro ⟨#Hctx, ⟨Hsrc, ⟨%f, Hdst⟩, Htok⟩, HR⟩
  ihave ⟨#Hrec, #Hlev⟩ := (show ctx m K ⊢ iprop(records m K ∗ levAts L lv) from Entails.refl _) $$ Hctx
  ihave ⟨#Hinv, #Hre⟩ := (rec_in m K c 1) $$ Hrec
  iapply (Rounds.wp_copy_pointsTo 𝒱₀ ER (sched m) (c : Thread nD τ) none (κ := K (c, jIn 1)) (r := 0) (d := 0) (fd := f)
      (by rw [duties_in]; exact Finset.mem_singleton_self _) () N₂ (creditD _) (amount_in m c 1 0)
      (by
        rw [payload_in]; unfold inPts; rw [if_neg (by decide)]
        refine sep_mono_left (Entails.of_eq ?_)
        exact pointsTo_congr fun i _ => congrFun (View.write_whole_univ (Val := Elt F) cc0_scratch1 f (dRows m c)) i)) $$ [Hsrc Hdst Htok]
  · isplitr; · iexact Hinv
    isplitl [Hsrc]; · iexact Hsrc
    isplitl [Hdst]; · iexact Hdst
    isplitl [Htok]; · iexact Htok
    iexact Hre
  iintro Hc
  iapply H
  isplitr; · iexact Hctx
  isplitl [Hc]; · iexact Hc
  iexact HR

/-- The wait for row copy `b`. -/
theorem inWait_step {R : sProp 𝕄} {α : Type} {Q : α → sProp 𝕄} (b : Fin 2) {q : DmaSem sig} (hq : q = inS b) {sp sp' : Space} {s s' : Shape} {e e' : EltTy}
    {src : Memref sig .tc sp' s' e'} {dst : Memref sig .tc sp s e} {h1 : src.view.WordExact} {h2 : dst.view.WordExact} (hN : dst.view.dmaCredit = N₂)
    {kk : PUnit → Prog (TpuEff nD τ sig (Elt F) Λ₀ .tc) α}
    (H : iprop(ctx m K ∗ (owing c (dueS c 0) ∗ inPts m c b ∗ semVal (inCell c b) 0) ∗ R) ⊢ Runs c (kk ⟨⟩) Q) :
    iprop(ctx m K ∗ (owing c (dueS c 0) ∗ cred (tallyAt (inCell c b) () N₂) ∗ atPos ER (inCell c b) 0 ∅ 0) ∗ R)
      ⊢ Runs c (Prog.lift (.waitDma2 q src dst h1 h2) >>= kk) Q := by
  subst hq
  rw [← hN]
  exact wait_step m K c (wpE_waitDma2_eq 𝒱₀ (c : Thread nD τ) none Set.univ) (ctx_in m K c b) (hN.trans (expect_in m c b).symm)
    (duties_later m _) (dueS c 0)
    (mayWait_lt c _ _ 0 (if_neg (by have := b.isLt; show ¬ 34 ≤ 1 + b.val; omega)) fun g u h => ⟨(dueS_pos h).1, by rw [(dueS_pos h).2]; decide⟩)
    (rest_in m c b) H

/-- The wait for the peers' thirty-one signals: every peer hands over the own slot of its landing buffer. -/
theorem barWait_step {R : sProp 𝕄} {α : Type} {Q : α → sProp 𝕄} {kk : PUnit → Prog (TpuEff nD τ sig (Elt F) Λ₀ .tc) α}
    (H : iprop(ctx m K ∗ (owing c (dueS c 0) ∗ bigSep Finset.univ (fun i : Fin 31 => iprop(∃ f, slotPts (peer i c) c f)) ∗ semVal (barCell c) 0) ∗ R) ⊢ Runs c (kk ⟨⟩) Q) :
    iprop(ctx m K ∗ (owing c (dueS c 0) ∗ cred (tallyAt (barCell c) () 31) ∗ atPos ER (barCell c) 0 ∅ 0) ∗ R)
      ⊢ Runs c (semWaitWord barS 31#32 >>= kk) Q :=
  wait_step m K c (wpE_semWait_eq 𝒱₀ (c : Thread nD τ) none Set.univ) (ctx_bar m K c) (expect_bar m c).symm
    (duties_later m _) (dueS c 0) (mayWait_lt c _ _ 1 rfl fun g u h => ⟨(dueS_pos h).1, by rw [(dueS_pos h).2]; decide⟩)
    (rest_bar m c) H

/-! ## The sends -/

/-- What the send to peer `i` spends, and what it leaves. -/
def sndNeed (i : Fin 31) : sProp 𝕄 :=
  iprop(accPts m c (Transfers.shareTokN fullShare i.val) ∗ (∃ f, slotPts (peer i c) c f) ∗ dutyTok ER (sendCell c i) 0 0 ∗ dutyTok ER (recvCell (peer i c) c) 0 0)
def sndDone (i : Fin 31) : sProp 𝕄 := cred (tallyAt (sendCell c i) () N)
/-- `k` sends under way. -/
def SndSt (k : ℕ) : sProp 𝕄 := iprop(owing c (dueS c k) ∗ bigSep Finset.univ (mix (sndDone c) (sndNeed m c) k))

theorem snd_step {R : sProp 𝕄} {α : Type} {Q : α → sProp 𝕄} (k : ℕ) (hk : k < 31) {n : Dev nD} (hn : n = peer ⟨k, hk⟩ c)
    {M : Memref sig .tc .vmem S2x2048 .f32} (hM : M = slotM c) {qS qR : DmaSem sig} (hqS : qS = sendS ⟨k, hk⟩) (hqR : qR = recvS c)
    {hsc h1 h2 h3}
    {kk : PUnit → Prog (TpuEff nD τ sig (Elt F) Λ₀ .tc) α} (H : iprop(ctx m K ∗ SndSt m c (k + 1) ∗ R) ⊢ Runs c (kk ⟨⟩) Q) :
    iprop(ctx m K ∗ SndSt m c k ∗ R)
      ⊢ Runs c (Prog.lift (.enqueueDma bA (.remote (Dev.tc n : Thread nD τ) M (.dma qS) hsc) (.dma qR) h1 h2 h3) >>= kk) Q := by
  subst hn hM hqS hqR
  have hO : dueS c k = dueS c (k + 1) + tallyAt (recvCell (peer ⟨k, hk⟩ c) c) () N := dueFrom_take _ hk
  unfold SndSt owing at H ⊢
  rw [mix_take _ _ hk, hO]
  rw [← mix_put _ _ hk] at H
  unfold sndNeed sndDone Runs at *
  unfold accPts slotPts
  simp only [Prog.lift, Prog.bind_op, Prog.bind_ret]
  iintro ⟨#Hctx, ⟨⟨%W, HO⟩, ⟨Hacc, ⟨%f, Hslot⟩, HtS, HtR⟩, Hrest⟩, HR⟩
  ihave ⟨#Hrec, #Hlev⟩ := (show ctx m K ⊢ iprop(records m K ∗ levAts L lv) from Entails.refl _) $$ Hctx
  ihave ⟨#HiS, #HrS⟩ := (rec_send m K c ⟨k, hk⟩) $$ Hrec
  ihave ⟨#HiR, #HrR⟩ := (rec_recv m K (peer ⟨k, hk⟩ c) c) $$ Hrec
  iapply (Rounds.wp_send_pointsTo 𝒱₀ ER (sched m) (c : Thread nD τ) none (κ₁ := K (c, jSend ⟨k, hk⟩)) (κ₂ := K (peer ⟨k, hk⟩ c, jRecv c))
      (r₁ := 0) (r₂ := 0) (d₁ := 0) (d₂ := 0) (fd := f)
      (by rw [duties_send]; exact Finset.mem_singleton_self _)
      (by rw [duties_recv m _ _ (peer_ne c _).symm]; exact Finset.mem_singleton_self _)
      () () N (creditSlot c _) (amount_send m c ⟨k, hk⟩ 0) (amount_recv m (peer ⟨k, hk⟩ c) c 0) (dueS c (k + 1)) rfl (W := W)
      (by rw [payload_send]; exact BI.Entails.refl _)
      (by rw [payload_recv]; exact Entails.of_eq (pointsTo_congr (landed_eq m c f)))) $$ [Hacc Hslot HO HtS HtR]
  · isplitr; · iexact HiS
    isplitr; · iexact HiR
    isplitl [Hacc]; · iexact Hacc
    isplitl [Hslot]; · iexact Hslot
    isplitl [HO]; · iexact HO
    isplitl [HtS]; · iexact HtS
    isplitr; · iexact HrS
    isplitl [HtR]; · iexact HtR
    iexact HrR
  iintro ⟨Hc, HO⟩
  iapply H
  isplitr; · iexact Hctx
  isplitr [HR]
  · isplitl [HO]; · iexists W; iexact HO
    isplitl [Hc]; · iexact Hc
    iexact Hrest
  iexact HR

/-! ## The waits for the landings -/

/-- Slot `s` before its wait — the own slot is filled already — and after it. -/
def rcvNeed (s : Fin 32) : sProp 𝕄 :=
  if s = c then iprop(slotPts c s (gathered m) ∗ atPos ER (recvCell c s) 0 ∅ 0)
  else iprop(cred (tallyAt (recvCell c s) () N) ∗ atPos ER (recvCell c s) 0 ∅ 0)
def rcvDone (s : Fin 32) : sProp 𝕄 := iprop(slotPts c s (gathered m) ∗ semVal (recvCell c s) 0)
/-- The first `k` slots dealt with. -/
def RcvSt (k : ℕ) : sProp 𝕄 := iprop(owing c 0 ∗ bigSep Finset.univ (mix (rcvDone m c) (rcvNeed m c) k))

theorem rcv_step {R : sProp 𝕄} {α : Type} {Q : α → sProp 𝕄} (k : ℕ) (hk : k < 32) {v : BitVec 1} (hv : v = 1#1 ↔ (⟨k, hk⟩ : Dev nD) ≠ c)
    {q : DmaSem sig} (hq : q = recvS ⟨k, hk⟩) {sp sp' : Space} {s s' : Shape} {e e' : EltTy}
    {src : Memref sig .tc sp' s' e'} {dst : Memref sig .tc sp s e} {h1 : src.view.WordExact} {h2 : dst.view.WordExact} (hN : dst.view.dmaCredit = N)
    {t : Prog (TpuEff nD τ sig (Elt F) Λ₀ .tc) α} (H : iprop(ctx m K ∗ RcvSt m c (k + 1) ∗ R) ⊢ Runs c t Q) :
    iprop(ctx m K ∗ RcvSt m c k ∗ R)
      ⊢ Runs c (if _h : v = 1#1 then Prog.lift (.waitDma2 q src dst h1 h2) >>= fun _ => t else t) Q := by
  subst hq
  unfold RcvSt at H ⊢
  rw [mix_take _ _ hk]
  rw [← mix_put _ _ hk] at H
  by_cases h : v = 1#1
  · rw [dif_pos h]
    have hne := hv.mp h
    rw [rcvNeed, if_neg hne, ← hN]
    have hstep := wait_step m K c (R := iprop(bigSep (Finset.univ.erase ⟨k, hk⟩) (mix (rcvDone m c) (rcvNeed m c) k) ∗ R)) (Q := Q)
      (w := .waitDma2 (recvS ⟨k, hk⟩) src dst h1 h2) (κ := K (c, jRecv ⟨k, hk⟩)) (kk := fun _ => t)
      (wpE_waitDma2_eq 𝒱₀ (c : Thread nD τ) none Set.univ) (ctx_recv m K c ⟨k, hk⟩) (hN.trans (expect_recv m c ⟨k, hk⟩ hne).symm)
      (duties_later m _) 0 (by rw [MayWait_zero]; iintro -; iempintro) (rest_recv m c ⟨k, hk⟩ hne) (by
        refine BIBase.Entails.trans ?_ H
        unfold rcvDone
        iintro ⟨Hc, ⟨HO, Hp, Hz⟩, Hrest, HR⟩
        isplitl [Hc]; · iexact Hc
        isplitr [HR]
        · isplitl [HO]; · iexact HO
          isplitr [Hrest]
          · isplitl [Hp]; · iexact Hp
            iexact Hz
          iexact Hrest
        iexact HR)
    refine BIBase.Entails.trans ?_ hstep
    iintro ⟨Hc, ⟨HO, ⟨Hcr, Hat⟩, Hrest⟩, HR⟩
    isplitl [Hc]; · iexact Hc
    isplitl [HO Hcr Hat]
    · isplitl [HO]; · iexact HO
      isplitl [Hcr]; · iexact Hcr
      iexact Hat
    isplitl [Hrest]; · iexact Hrest
    iexact HR
  · rw [dif_neg h]
    have he : (⟨k, hk⟩ : Dev nD) = c := by by_contra hne; exact h (hv.mpr hne)
    rw [rcvNeed, if_pos he]
    have hlate : ∀ r, 0 ≤ r → (sched (F := F) m).duties (recvCell c ⟨k, hk⟩) r = ∅ := by rw [he]; exact duties_own m c
    unfold Runs at H ⊢
    iintro ⟨#Hctx, ⟨HO, ⟨Hp, Hat⟩, Hrest⟩, HR⟩
    ihave #Hinv := (ctx_recv m K c ⟨k, hk⟩) $$ Hctx
    imod (Rounds.cell_close ER (sched m) (Set.mem_univ (K (c, jRecv ⟨k, hk⟩))) (fun h => h) (R := 0) hlate) $$ [Hat] with Hz
    · isplitr; · iexact Hinv
      iexact Hat
    iapply H
    unfold rcvDone
    isplitr; · iexact Hctx
    isplitr [HR]
    · isplitl [HO]; · iexact HO
      isplitr [Hrest]
      · isplitl [Hp]; · iexact Hp
        iexact Hz
      iexact Hrest
    iexact HR

/-! ## The waits for the sends -/

/-- Send `i` before its wait and after it. -/
def retNeed (i : Fin 31) : sProp 𝕄 := iprop(cred (tallyAt (sendCell c i) () N) ∗ atPos ER (sendCell c i) 0 ∅ 0)
def retDone (i : Fin 31) : sProp 𝕄 := iprop(accPts m c (Transfers.shareTokN fullShare i.val) ∗ semVal (sendCell c i) 0)
/-- The first `k` sends returned. -/
def RetSt (k : ℕ) : sProp 𝕄 := iprop(owing c 0 ∗ bigSep Finset.univ (mix (retDone m c) (retNeed c) k))

theorem ret_step {R : sProp 𝕄} {α : Type} {Q : α → sProp 𝕄} (k : ℕ) (hk : k < 31)
    {q : DmaSem sig} (hq : q = sendS ⟨k, hk⟩) {sp sp' : Space} {s s' : Shape} {e e' : EltTy}
    {src : Memref sig .tc sp' s' e'} {dst : Memref sig .tc sp s e} {h1 : src.view.WordExact} {h2 : dst.view.WordExact} (hN : dst.view.dmaCredit = N)
    {kk : PUnit → Prog (TpuEff nD τ sig (Elt F) Λ₀ .tc) α} (H : iprop(ctx m K ∗ RetSt m c (k + 1) ∗ R) ⊢ Runs c (kk ⟨⟩) Q) :
    iprop(ctx m K ∗ RetSt m c k ∗ R) ⊢ Runs c (Prog.lift (.waitDma2 q src dst h1 h2) >>= kk) Q := by
  subst hq
  unfold RetSt at H ⊢
  rw [mix_take _ _ hk]
  rw [← mix_put _ _ hk] at H
  rw [retNeed, ← hN]
  have hstep := wait_step m K c (R := iprop(bigSep (Finset.univ.erase ⟨k, hk⟩) (mix (retDone m c) (retNeed c) k) ∗ R)) (Q := Q)
    (w := .waitDma2 (sendS ⟨k, hk⟩) src dst h1 h2) (κ := K (c, jSend ⟨k, hk⟩)) (kk := kk)
    (wpE_waitDma2_eq 𝒱₀ (c : Thread nD τ) none Set.univ) (ctx_send m K c ⟨k, hk⟩) (hN.trans (expect_send m c ⟨k, hk⟩).symm)
    (duties_later m _) 0 (by rw [MayWait_zero]; iintro -; iempintro) (rest_send m c ⟨k, hk⟩) (by
      refine BIBase.Entails.trans ?_ H
      unfold retDone
      iintro ⟨Hc, ⟨HO, Hp, Hz⟩, Hrest, HR⟩
      isplitl [Hc]; · iexact Hc
      isplitr [HR]
      · isplitl [HO]; · iexact HO
        isplitr [Hrest]
        · isplitl [Hp]; · iexact Hp
          iexact Hz
        iexact Hrest
      iexact HR)
  refine BIBase.Entails.trans ?_ hstep
  iintro ⟨Hc, ⟨HO, ⟨Hcr, Hat⟩, Hrest⟩, HR⟩
  isplitl [Hc]; · iexact Hc
  isplitl [HO Hcr Hat]
  · isplitl [HO]; · iexact HO
    isplitl [Hcr]; · iexact Hcr
    iexact Hat
  isplitl [Hrest]; · iexact Hrest
  iexact HR

end Cert.Exchange

end
-- ==== Proof.Parts.lean ====
/-
# The parts of the kernel that signal, copy and send

The printed kernel is a chain of parts. Each lemma here runs one part that has effects on device `c`, at the buffers and
semaphores of the call (`atCall`): what is held before it, a frame `R` alongside, becomes what is held after it, whatever
the words it is handed and returns.
-/
module

public import proofs.«01_k».proof.Proof.Steps

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Fin 66 → ℕ) (c : Dev nD)

/-! ## The devices signalled and sent to are the peers, in order -/

theorem dev1 (c : Dev nD) : (⟨k0_dev1 c, k0_dev1_lt c⟩ : Dev nD) = peer 0 c := by revert c; decide +kernel
theorem dev2 (c : Dev nD) : (⟨k0_dev2 c, k0_dev2_lt c⟩ : Dev nD) = peer 1 c := by revert c; decide +kernel
theorem dev3 (c : Dev nD) : (⟨k0_dev3 c, k0_dev3_lt c⟩ : Dev nD) = peer 2 c := by revert c; decide +kernel
theorem dev4 (c : Dev nD) : (⟨k0_dev4 c, k0_dev4_lt c⟩ : Dev nD) = peer 3 c := by revert c; decide +kernel
theorem dev5 (c : Dev nD) : (⟨k0_dev5 c, k0_dev5_lt c⟩ : Dev nD) = peer 4 c := by revert c; decide +kernel
theorem dev6 (c : Dev nD) : (⟨k0_dev6 c, k0_dev6_lt c⟩ : Dev nD) = peer 5 c := by revert c; decide +kernel
theorem dev7 (c : Dev nD) : (⟨k0_dev7 c, k0_dev7_lt c⟩ : Dev nD) = peer 6 c := by revert c; decide +kernel
theorem dev8 (c : Dev nD) : (⟨k0_dev8 c, k0_dev8_lt c⟩ : Dev nD) = peer 7 c := by revert c; decide +kernel
theorem dev9 (c : Dev nD) : (⟨k0_dev9 c, k0_dev9_lt c⟩ : Dev nD) = peer 8 c := by revert c; decide +kernel
theorem dev10 (c : Dev nD) : (⟨k0_dev10 c, k0_dev10_lt c⟩ : Dev nD) = peer 9 c := by revert c; decide +kernel
theorem dev11 (c : Dev nD) : (⟨k0_dev11 c, k0_dev11_lt c⟩ : Dev nD) = peer 10 c := by revert c; decide +kernel
theorem dev12 (c : Dev nD) : (⟨k0_dev12 c, k0_dev12_lt c⟩ : Dev nD) = peer 11 c := by revert c; decide +kernel
theorem dev13 (c : Dev nD) : (⟨k0_dev13 c, k0_dev13_lt c⟩ : Dev nD) = peer 12 c := by revert c; decide +kernel
theorem dev14 (c : Dev nD) : (⟨k0_dev14 c, k0_dev14_lt c⟩ : Dev nD) = peer 13 c := by revert c; decide +kernel
theorem dev15 (c : Dev nD) : (⟨k0_dev15 c, k0_dev15_lt c⟩ : Dev nD) = peer 14 c := by revert c; decide +kernel
theorem dev16 (c : Dev nD) : (⟨k0_dev16 c, k0_dev16_lt c⟩ : Dev nD) = peer 15 c := by revert c; decide +kernel
theorem dev17 (c : Dev nD) : (⟨k0_dev17 c, k0_dev17_lt c⟩ : Dev nD) = peer 16 c := by revert c; decide +kernel
theorem dev18 (c : Dev nD) : (⟨k0_dev18 c, k0_dev18_lt c⟩ : Dev nD) = peer 17 c := by revert c; decide +kernel
theorem dev19 (c : Dev nD) : (⟨k0_dev19 c, k0_dev19_lt c⟩ : Dev nD) = peer 18 c := by revert c; decide +kernel
theorem dev20 (c : Dev nD) : (⟨k0_dev20 c, k0_dev20_lt c⟩ : Dev nD) = peer 19 c := by revert c; decide +kernel
theorem dev21 (c : Dev nD) : (⟨k0_dev21 c, k0_dev21_lt c⟩ : Dev nD) = peer 20 c := by revert c; decide +kernel
theorem dev22 (c : Dev nD) : (⟨k0_dev22 c, k0_dev22_lt c⟩ : Dev nD) = peer 21 c := by revert c; decide +kernel
theorem dev23 (c : Dev nD) : (⟨k0_dev23 c, k0_dev23_lt c⟩ : Dev nD) = peer 22 c := by revert c; decide +kernel
theorem dev24 (c : Dev nD) : (⟨k0_dev24 c, k0_dev24_lt c⟩ : Dev nD) = peer 23 c := by revert c; decide +kernel
theorem dev25 (c : Dev nD) : (⟨k0_dev25 c, k0_dev25_lt c⟩ : Dev nD) = peer 24 c := by revert c; decide +kernel
theorem dev26 (c : Dev nD) : (⟨k0_dev26 c, k0_dev26_lt c⟩ : Dev nD) = peer 25 c := by revert c; decide +kernel
theorem dev27 (c : Dev nD) : (⟨k0_dev27 c, k0_dev27_lt c⟩ : Dev nD) = peer 26 c := by revert c; decide +kernel
theorem dev28 (c : Dev nD) : (⟨k0_dev28 c, k0_dev28_lt c⟩ : Dev nD) = peer 27 c := by revert c; decide +kernel
theorem dev29 (c : Dev nD) : (⟨k0_dev29 c, k0_dev29_lt c⟩ : Dev nD) = peer 28 c := by revert c; decide +kernel
theorem dev30 (c : Dev nD) : (⟨k0_dev30 c, k0_dev30_lt c⟩ : Dev nD) = peer 29 c := by revert c; decide +kernel
theorem dev31 (c : Dev nD) : (⟨k0_dev31 c, k0_dev31_lt c⟩ : Dev nD) = peer 30 c := by revert c; decide +kernel
theorem dev32 (c : Dev nD) : (⟨k0_dev32 c, k0_dev32_lt c⟩ : Dev nD) = peer 0 c := by revert c; decide +kernel
theorem dev33 (c : Dev nD) : (⟨k0_dev33 c, k0_dev33_lt c⟩ : Dev nD) = peer 1 c := by revert c; decide +kernel
theorem dev34 (c : Dev nD) : (⟨k0_dev34 c, k0_dev34_lt c⟩ : Dev nD) = peer 2 c := by revert c; decide +kernel
theorem dev35 (c : Dev nD) : (⟨k0_dev35 c, k0_dev35_lt c⟩ : Dev nD) = peer 3 c := by revert c; decide +kernel
theorem dev36 (c : Dev nD) : (⟨k0_dev36 c, k0_dev36_lt c⟩ : Dev nD) = peer 4 c := by revert c; decide +kernel
theorem dev37 (c : Dev nD) : (⟨k0_dev37 c, k0_dev37_lt c⟩ : Dev nD) = peer 5 c := by revert c; decide +kernel
theorem dev38 (c : Dev nD) : (⟨k0_dev38 c, k0_dev38_lt c⟩ : Dev nD) = peer 6 c := by revert c; decide +kernel
theorem dev39 (c : Dev nD) : (⟨k0_dev39 c, k0_dev39_lt c⟩ : Dev nD) = peer 7 c := by revert c; decide +kernel
theorem dev40 (c : Dev nD) : (⟨k0_dev40 c, k0_dev40_lt c⟩ : Dev nD) = peer 8 c := by revert c; decide +kernel
theorem dev41 (c : Dev nD) : (⟨k0_dev41 c, k0_dev41_lt c⟩ : Dev nD) = peer 9 c := by revert c; decide +kernel
theorem dev42 (c : Dev nD) : (⟨k0_dev42 c, k0_dev42_lt c⟩ : Dev nD) = peer 10 c := by revert c; decide +kernel
theorem dev43 (c : Dev nD) : (⟨k0_dev43 c, k0_dev43_lt c⟩ : Dev nD) = peer 11 c := by revert c; decide +kernel
theorem dev44 (c : Dev nD) : (⟨k0_dev44 c, k0_dev44_lt c⟩ : Dev nD) = peer 12 c := by revert c; decide +kernel
theorem dev45 (c : Dev nD) : (⟨k0_dev45 c, k0_dev45_lt c⟩ : Dev nD) = peer 13 c := by revert c; decide +kernel
theorem dev46 (c : Dev nD) : (⟨k0_dev46 c, k0_dev46_lt c⟩ : Dev nD) = peer 14 c := by revert c; decide +kernel
theorem dev47 (c : Dev nD) : (⟨k0_dev47 c, k0_dev47_lt c⟩ : Dev nD) = peer 15 c := by revert c; decide +kernel
theorem dev48 (c : Dev nD) : (⟨k0_dev48 c, k0_dev48_lt c⟩ : Dev nD) = peer 16 c := by revert c; decide +kernel
theorem dev49 (c : Dev nD) : (⟨k0_dev49 c, k0_dev49_lt c⟩ : Dev nD) = peer 17 c := by revert c; decide +kernel
theorem dev50 (c : Dev nD) : (⟨k0_dev50 c, k0_dev50_lt c⟩ : Dev nD) = peer 18 c := by revert c; decide +kernel
theorem dev51 (c : Dev nD) : (⟨k0_dev51 c, k0_dev51_lt c⟩ : Dev nD) = peer 19 c := by revert c; decide +kernel
theorem dev52 (c : Dev nD) : (⟨k0_dev52 c, k0_dev52_lt c⟩ : Dev nD) = peer 20 c := by revert c; decide +kernel
theorem dev53 (c : Dev nD) : (⟨k0_dev53 c, k0_dev53_lt c⟩ : Dev nD) = peer 21 c := by revert c; decide +kernel
theorem dev54 (c : Dev nD) : (⟨k0_dev54 c, k0_dev54_lt c⟩ : Dev nD) = peer 22 c := by revert c; decide +kernel
theorem dev55 (c : Dev nD) : (⟨k0_dev55 c, k0_dev55_lt c⟩ : Dev nD) = peer 23 c := by revert c; decide +kernel
theorem dev56 (c : Dev nD) : (⟨k0_dev56 c, k0_dev56_lt c⟩ : Dev nD) = peer 24 c := by revert c; decide +kernel
theorem dev57 (c : Dev nD) : (⟨k0_dev57 c, k0_dev57_lt c⟩ : Dev nD) = peer 25 c := by revert c; decide +kernel
theorem dev58 (c : Dev nD) : (⟨k0_dev58 c, k0_dev58_lt c⟩ : Dev nD) = peer 26 c := by revert c; decide +kernel
theorem dev59 (c : Dev nD) : (⟨k0_dev59 c, k0_dev59_lt c⟩ : Dev nD) = peer 27 c := by revert c; decide +kernel
theorem dev60 (c : Dev nD) : (⟨k0_dev60 c, k0_dev60_lt c⟩ : Dev nD) = peer 28 c := by revert c; decide +kernel
theorem dev61 (c : Dev nD) : (⟨k0_dev61 c, k0_dev61_lt c⟩ : Dev nD) = peer 29 c := by revert c; decide +kernel
theorem dev62 (c : Dev nD) : (⟨k0_dev62 c, k0_dev62_lt c⟩ : Dev nD) = peer 30 c := by revert c; decide +kernel

/-- A part at the call's buffers and semaphores. -/
abbrev atCall {β : Type*} (p : (arg0 : Memref sig .tc .hbm S4096x2048 .f32) → arg0.IsWhole → (arg1 : Memref sig .tc .hbm S4096x2048 .f32) → arg1.IsWhole
    → (arg2 : Memref sig .tc .vmem S2x2048 .f32) → arg2.IsWhole → (arg3 : Memref sig .tc .vmem S256x2048 .f32) → arg3.IsWhole
    → (arg4 : Memref sig .tc .vmem S256x2048 .f32) → arg4.IsWhole → (arg5 : Memref sig .tc .vmem S2x2048 .f32) → arg5.IsWhole
    → (arg6 : Memref sig .tc .vmem S32x2x2048 .f32) → arg6.IsWhole → DmaSems sig S2 → DmaSems sig S31 → DmaSems sig S32 → β) : β :=
  p aX (Memref.isWhole_whole _) aD (Memref.isWhole_whole _) aO (Memref.isWhole_whole _) bX (Memref.isWhole_whole _) bD (Memref.isWhole_whole _)
    bA (Memref.isWhole_whole _) bR (Memref.isWhole_whole _) cc0_scratch4 cc0_scratch5 cc0_scratch6

/-! ## Signalling -/

theorem run29 {R : sProp 𝕄} {Q : _ → sProp 𝕄} (a0 a1 a2 a3 a4 a5 a6 a7 a8 a9 a10 a11 : BitVec 32) (H : ∀ u v w, iprop(ctx m K ∗ SigSt c 3 ∗ R) ⊢ Q ⟨u, SemArray.scalar (sig.barrier 0 rfl), v, w⟩) :
    iprop(ctx m K ∗ SigSt c 0 ∗ R) ⊢ Runs c (atCall k0_part29 c a0 a1 a2 a3 a4 a5 a6 a7 a8 a9 a10 a11) Q := by
  rw [k0_part29_eq_skeleton]; unfold k0_part29_skel
  refine sig_step m K c 0 (by decide) (dev1 c) ?_
  refine sig_step m K c 1 (by decide) (dev2 c) ?_
  refine sig_step m K c 2 (by decide) (dev3 c) ?_
  exact runs_pure c (H _ _ _)
theorem run30 {R : sProp 𝕄} {Q : _ → sProp 𝕄} (a0 a1 a2 a3 a4 a5 a6 a7 a8 a9 a10 a11 a12 a13 a14 a15 a16 : BitVec 32) (H : ∀ u v, iprop(ctx m K ∗ SigSt c 8 ∗ R) ⊢ Q ⟨u, v⟩) :
    iprop(ctx m K ∗ SigSt c 3 ∗ R)
      ⊢ Runs c (atCall k0_part30 c a0 a1 a2 a3 a4 a5 a6 a7 a8 a9 a10 a11 a12 a13 a14 (SemArray.scalar (sig.barrier 0 rfl)) a15 a16) Q := by
  rw [k0_part30_eq_skeleton]; unfold k0_part30_skel
  refine sig_step m K c 3 (by decide) (dev4 c) ?_
  refine sig_step m K c 4 (by decide) (dev5 c) ?_
  refine sig_step m K c 5 (by decide) (dev6 c) ?_
  refine sig_step m K c 6 (by decide) (dev7 c) ?_
  refine sig_step m K c 7 (by decide) (dev8 c) ?_
  exact runs_pure c (H _ _)
theorem run31 {R : sProp 𝕄} {Q : _ → sProp 𝕄} (a0 a1 a2 a3 a4 a5 a6 a7 a8 a9 a10 a11 a12 a13 a14 a15 a16 : BitVec 32) (H : ∀ u v, iprop(ctx m K ∗ SigSt c 13 ∗ R) ⊢ Q ⟨u, v⟩) :
    iprop(ctx m K ∗ SigSt c 8 ∗ R)
      ⊢ Runs c (atCall k0_part31 c a0 a1 a2 a3 a4 a5 a6 a7 a8 a9 a10 a11 a12 a13 a14 (SemArray.scalar (sig.barrier 0 rfl)) a15 a16) Q := by
  rw [k0_part31_eq_skeleton]; unfold k0_part31_skel
  refine sig_step m K c 8 (by decide) (dev9 c) ?_
  refine sig_step m K c 9 (by decide) (dev10 c) ?_
  refine sig_step m K c 10 (by decide) (dev11 c) ?_
  refine sig_step m K c 11 (by decide) (dev12 c) ?_
  refine sig_step m K c 12 (by decide) (dev13 c) ?_
  exact runs_pure c (H _ _)
theorem run32 {R : sProp 𝕄} {Q : _ → sProp 𝕄} (a0 a1 a2 a3 a4 a5 a6 a7 a8 a9 a10 a11 a12 a13 a14 a15 a16 : BitVec 32) (H : ∀ u v, iprop(ctx m K ∗ SigSt c 18 ∗ R) ⊢ Q ⟨u, v⟩) :
    iprop(ctx m K ∗ SigSt c 13 ∗ R)
      ⊢ Runs c (atCall k0_part32 c a0 a1 a2 a3 a4 a5 a6 a7 a8 a9 a10 a11 a12 a13 a14 (SemArray.scalar (sig.barrier 0 rfl)) a15 a16) Q := by
  rw [k0_part32_eq_skeleton]; unfold k0_part32_skel
  refine sig_step m K c 13 (by decide) (dev14 c) ?_
  refine sig_step m K c 14 (by decide) (dev15 c) ?_
  refine sig_step m K c 15 (by decide) (dev16 c) ?_
  refine sig_step m K c 16 (by decide) (dev17 c) ?_
  refine sig_step m K c 17 (by decide) (dev18 c) ?_
  exact runs_pure c (H _ _)
theorem run33 {R : sProp 𝕄} {Q : _ → sProp 𝕄} (a0 a1 a2 a3 a4 a5 a6 a7 a8 a9 a10 a11 a12 a13 a14 a15 a16 : BitVec 32) (H : ∀ u v, iprop(ctx m K ∗ SigSt c 23 ∗ R) ⊢ Q ⟨u, v⟩) :
    iprop(ctx m K ∗ SigSt c 18 ∗ R)
      ⊢ Runs c (atCall k0_part33 c a0 a1 a2 a3 a4 a5 a6 a7 a8 a9 a10 a11 a12 a13 a14 (SemArray.scalar (sig.barrier 0 rfl)) a15 a16) Q := by
  rw [k0_part33_eq_skeleton]; unfold k0_part33_skel
  refine sig_step m K c 18 (by decide) (dev19 c) ?_
  refine sig_step m K c 19 (by decide) (dev20 c) ?_
  refine sig_step m K c 20 (by decide) (dev21 c) ?_
  refine sig_step m K c 21 (by decide) (dev22 c) ?_
  refine sig_step m K c 22 (by decide) (dev23 c) ?_
  exact runs_pure c (H _ _)
theorem run34 {R : sProp 𝕄} {Q : _ → sProp 𝕄} (a0 a1 a2 a3 a4 a5 a6 a7 a8 a9 a10 a11 a12 a13 a14 a15 a16 : BitVec 32) (H : ∀ u v, iprop(ctx m K ∗ SigSt c 28 ∗ R) ⊢ Q ⟨u, v⟩) :
    iprop(ctx m K ∗ SigSt c 23 ∗ R)
      ⊢ Runs c (atCall k0_part34 c a0 a1 a2 a3 a4 a5 a6 a7 a8 a9 a10 a11 a12 a13 a14 (SemArray.scalar (sig.barrier 0 rfl)) a15 a16) Q := by
  rw [k0_part34_eq_skeleton]; unfold k0_part34_skel
  refine sig_step m K c 23 (by decide) (dev24 c) ?_
  refine sig_step m K c 24 (by decide) (dev25 c) ?_
  refine sig_step m K c 25 (by decide) (dev26 c) ?_
  refine sig_step m K c 26 (by decide) (dev27 c) ?_
  refine sig_step m K c 27 (by decide) (dev28 c) ?_
  exact runs_pure c (H _ _)

/-- Every signal sent: what is still owed is the landings. -/
theorem sigSt_end : SigSt (F := F) c 31 ⊢ owing c (dueS c 0) := by
  unfold SigSt
  rw [dueB, dueFrom_end, add_zero]
  iintro ⟨HO, -⟩
  iexact HO

/-! ## The last signals and the row copies -/

/-- What a row copy's wait spends besides its copy. -/
def InSt (b : Fin 2) : sProp 𝕄 := iprop(inNeed m c b ∗ atPos ER (inCell c b) 0 ∅ 0)
/-- What its wait leaves. -/
def InEnd (b : Fin 2) : sProp 𝕄 := iprop(inPts m c b ∗ semVal (inCell c b) 0)

theorem run35 {R : sProp 𝕄} {Q : _ → sProp 𝕄} (a0 a1 a2 a3 a4 a5 a6 a7 a8 a9 a10 : BitVec 32)
    (H : iprop(ctx m K ∗ (owing c (dueS c 0) ∗ InEnd m c 0 ∗ InEnd m c 1) ∗ R) ⊢ Q ⟨⟩) :
    iprop(ctx m K ∗ (SigSt c 28 ∗ InSt m c 0 ∗ InSt m c 1) ∗ R)
      ⊢ Runs c (atCall k0_part35 c a0 a1 a2 a3 a4 a5 a6 a7 a8 (SemArray.scalar (sig.barrier 0 rfl)) a9 a10) Q := by
  rw [k0_part35_eq_skeleton]; unfold k0_part35_skel
  refine BIBase.Entails.trans (Q := iprop(ctx m K ∗ SigSt c 28 ∗ (InSt m c 0 ∗ InSt m c 1 ∗ R))) ?_ ?_
  · iintro ⟨Hc, ⟨H1, H2, H3⟩, H4⟩
    isplitl [Hc]; · iexact Hc
    isplitl [H1]; · iexact H1
    isplitl [H2]; · iexact H2
    isplitl [H3]; · iexact H3
    iexact H4
  refine sig_step m K c 28 (by decide) (dev29 c) ?_
  refine sig_step m K c 29 (by decide) (dev30 c) ?_
  refine sig_step m K c 30 (by decide) (dev31 c) ?_
  unfold InSt
  refine BIBase.Entails.trans (Q := iprop(ctx m K ∗ inNeed m c 0 ∗ (SigSt c 31 ∗ inNeed m c 1 ∗ atPos ER (inCell c 0) 0 ∅ 0 ∗ atPos ER (inCell c 1) 0 ∅ 0 ∗ R))) ?_ ?_
  · iintro ⟨Hc, H1, ⟨H2, H3⟩, ⟨H4, H5⟩, H6⟩
    isplitl [Hc]; · iexact Hc
    isplitl [H2]; · iexact H2
    isplitl [H1]; · iexact H1
    isplitl [H4]; · iexact H4
    isplitl [H3]; · iexact H3
    isplitl [H5]; · iexact H5
    iexact H6
  refine copyX_step m K c (by decide) ?_
  refine BIBase.Entails.trans (Q := iprop(ctx m K ∗ inNeed m c 1 ∗ (SigSt c 31 ∗ cred (tallyAt (inCell c 0) () N₂) ∗ atPos ER (inCell c 0) 0 ∅ 0 ∗ atPos ER (inCell c 1) 0 ∅ 0 ∗ R))) ?_ ?_
  · iintro ⟨Hc, H1, H2, H3, H4, H5, H6⟩
    isplitl [Hc]; · iexact Hc
    isplitl [H3]; · iexact H3
    isplitl [H2]; · iexact H2
    isplitl [H1]; · iexact H1
    isplitl [H4]; · iexact H4
    isplitl [H5]; · iexact H5
    iexact H6
  refine copyD_step m K c (by decide) ?_
  refine BIBase.Entails.trans (Q := iprop(ctx m K ∗ (owing c (dueS c 0) ∗ cred (tallyAt (inCell c 0) () N₂) ∗ atPos ER (inCell c 0) 0 ∅ 0)
    ∗ (cred (tallyAt (inCell c 1) () N₂) ∗ atPos ER (inCell c 1) 0 ∅ 0 ∗ R))) ?_ ?_
  · iintro ⟨Hc, H1, H2, H3, H4, H5, H6⟩
    isplitl [Hc]; · iexact Hc
    isplitl [H2 H3 H4]
    · isplitl [H2]; · iapply (sigSt_end (F := F) c); iexact H2
      isplitl [H3]; · iexact H3
      iexact H4
    isplitl [H1]; · iexact H1
    isplitl [H5]; · iexact H5
    iexact H6
  refine inWait_step m K c 0 (by decide) rfl ?_
  refine BIBase.Entails.trans (Q := iprop(ctx m K ∗ (owing c (dueS c 0) ∗ cred (tallyAt (inCell c 1) () N₂) ∗ atPos ER (inCell c 1) 0 ∅ 0)
    ∗ (InEnd m c 0 ∗ R))) ?_ ?_
  · iintro ⟨Hc, ⟨H1, H2⟩, H3, H4, H5⟩
    isplitl [Hc]; · iexact Hc
    isplitl [H1 H3 H4]
    · isplitl [H1]; · iexact H1
      isplitl [H3]; · iexact H3
      iexact H4
    isplitl [H2]; · unfold InEnd; iexact H2
    iexact H5
  refine inWait_step m K c 1 (by decide) (by exact creditD (inS 1)) ?_
  refine runs_pure c (BIBase.Entails.trans ?_ H)
  iintro ⟨Hc, ⟨H1, H2⟩, H3, H4⟩
  isplitl [Hc]; · iexact Hc
  isplitl [H1 H2 H3]
  · isplitl [H1]; · iexact H1
    isplitl [H3]; · iexact H3
    unfold InEnd; iexact H2
  iexact H4

/-! ## Sending -/

theorem run37 {R : sProp 𝕄} {Q : _ → sProp 𝕄} (a0 a1 a2 a3 a4 a5 a6 a7 a8 a9 a10 : BitVec 32) (H : ∀ u v, iprop(ctx m K ∗ SndSt m c 3 ∗ R) ⊢ Q ⟨u, v⟩) :
    iprop(ctx m K ∗ SndSt m c 0 ∗ R) ⊢ Runs c (atCall k0_part37 c a0 a1 a2 a3 a4 a5 a6 a7 a8 a9 a10) Q := by
  rw [k0_part37_eq_skeleton]; unfold k0_part37_skel
  refine snd_step m K c 0 (by decide) (dev32 c) (slot_of_off (off4_eq c) _) (by rfl) (recvSem_eq c) ?_
  refine snd_step m K c 1 (by decide) (dev33 c) (slot_of_off (off4_eq c) _) (by rfl) (recvSem_eq c) ?_
  refine snd_step m K c 2 (by decide) (dev34 c) (slot_of_off (off4_eq c) _) (by rfl) (recvSem_eq c) ?_
  exact runs_pure c (H _ _)
theorem run38 {R : sProp 𝕄} {Q : _ → sProp 𝕄} (a0 a1 a2 a3 a4 a5 a6 a7 a8 a9 a10 : BitVec 32) (H : ∀ u v, iprop(ctx m K ∗ SndSt m c 6 ∗ R) ⊢ Q ⟨u, v⟩) :
    iprop(ctx m K ∗ SndSt m c 3 ∗ R) ⊢ Runs c (atCall k0_part38 c a0 a1 a2 a3 a4 a5 a6 a7 a8 a9 a10) Q := by
  rw [k0_part38_eq_skeleton]; unfold k0_part38_skel
  refine snd_step m K c 3 (by decide) (dev35 c) (slot_of_off (off4_eq c) _) (by rfl) (recvSem_eq c) ?_
  refine snd_step m K c 4 (by decide) (dev36 c) (slot_of_off (off4_eq c) _) (by rfl) (recvSem_eq c) ?_
  refine snd_step m K c 5 (by decide) (dev37 c) (slot_of_off (off4_eq c) _) (by rfl) (recvSem_eq c) ?_
  exact runs_pure c (H _ _)
theorem run39 {R : sProp 𝕄} {Q : _ → sProp 𝕄} (a0 a1 a2 a3 a4 a5 a6 a7 a8 a9 a10 : BitVec 32) (H : ∀ u v, iprop(ctx m K ∗ SndSt m c 9 ∗ R) ⊢ Q ⟨u, v⟩) :
    iprop(ctx m K ∗ SndSt m c 6 ∗ R) ⊢ Runs c (atCall k0_part39 c a0 a1 a2 a3 a4 a5 a6 a7 a8 a9 a10) Q := by
  rw [k0_part39_eq_skeleton]; unfold k0_part39_skel
  refine snd_step m K c 6 (by decide) (dev38 c) (slot_of_off (off4_eq c) _) (by rfl) (recvSem_eq c) ?_
  refine snd_step m K c 7 (by decide) (dev39 c) (slot_of_off (off4_eq c) _) (by rfl) (recvSem_eq c) ?_
  refine snd_step m K c 8 (by decide) (dev40 c) (slot_of_off (off4_eq c) _) (by rfl) (recvSem_eq c) ?_
  exact runs_pure c (H _ _)
theorem run40 {R : sProp 𝕄} {Q : _ → sProp 𝕄} (a0 a1 a2 a3 a4 a5 a6 a7 a8 a9 a10 : BitVec 32) (H : ∀ u v, iprop(ctx m K ∗ SndSt m c 12 ∗ R) ⊢ Q ⟨u, v⟩) :
    iprop(ctx m K ∗ SndSt m c 9 ∗ R) ⊢ Runs c (atCall k0_part40 c a0 a1 a2 a3 a4 a5 a6 a7 a8 a9 a10) Q := by
  rw [k0_part40_eq_skeleton]; unfold k0_part40_skel
  refine snd_step m K c 9 (by decide) (dev41 c) (slot_of_off (off4_eq c) _) (by rfl) (recvSem_eq c) ?_
  refine snd_step m K c 10 (by decide) (dev42 c) (slot_of_off (off4_eq c) _) (by rfl) (recvSem_eq c) ?_
  refine snd_step m K c 11 (by decide) (dev43 c) (slot_of_off (off4_eq c) _) (by rfl) (recvSem_eq c) ?_
  exact runs_pure c (H _ _)
theorem run41 {R : sProp 𝕄} {Q : _ → sProp 𝕄} (a0 a1 a2 a3 a4 a5 a6 a7 a8 a9 a10 : BitVec 32) (H : ∀ u v, iprop(ctx m K ∗ SndSt m c 15 ∗ R) ⊢ Q ⟨u, v⟩) :
    iprop(ctx m K ∗ SndSt m c 12 ∗ R) ⊢ Runs c (atCall k0_part41 c a0 a1 a2 a3 a4 a5 a6 a7 a8 a9 a10) Q := by
  rw [k0_part41_eq_skeleton]; unfold k0_part41_skel
  refine snd_step m K c 12 (by decide) (dev44 c) (slot_of_off (off4_eq c) _) (by rfl) (recvSem_eq c) ?_
  refine snd_step m K c 13 (by decide) (dev45 c) (slot_of_off (off4_eq c) _) (by rfl) (recvSem_eq c) ?_
  refine snd_step m K c 14 (by decide) (dev46 c) (slot_of_off (off4_eq c) _) (by rfl) (recvSem_eq c) ?_
  exact runs_pure c (H _ _)
theorem run42 {R : sProp 𝕄} {Q : _ → sProp 𝕄} (a0 a1 a2 a3 a4 a5 a6 a7 a8 a9 a10 : BitVec 32) (H : ∀ u v, iprop(ctx m K ∗ SndSt m c 18 ∗ R) ⊢ Q ⟨u, v⟩) :
    iprop(ctx m K ∗ SndSt m c 15 ∗ R) ⊢ Runs c (atCall k0_part42 c a0 a1 a2 a3 a4 a5 a6 a7 a8 a9 a10) Q := by
  rw [k0_part42_eq_skeleton]; unfold k0_part42_skel
  refine snd_step m K c 15 (by decide) (dev47 c) (slot_of_off (off4_eq c) _) (by rfl) (recvSem_eq c) ?_
  refine snd_step m K c 16 (by decide) (dev48 c) (slot_of_off (off4_eq c) _) (by rfl) (recvSem_eq c) ?_
  refine snd_step m K c 17 (by decide) (dev49 c) (slot_of_off (off4_eq c) _) (by rfl) (recvSem_eq c) ?_
  exact runs_pure c (H _ _)
theorem run43 {R : sProp 𝕄} {Q : _ → sProp 𝕄} (a0 a1 a2 a3 a4 a5 a6 a7 a8 a9 a10 : BitVec 32) (H : ∀ u v, iprop(ctx m K ∗ SndSt m c 21 ∗ R) ⊢ Q ⟨u, v⟩) :
    iprop(ctx m K ∗ SndSt m c 18 ∗ R) ⊢ Runs c (atCall k0_part43 c a0 a1 a2 a3 a4 a5 a6 a7 a8 a9 a10) Q := by
  rw [k0_part43_eq_skeleton]; unfold k0_part43_skel
  refine snd_step m K c 18 (by decide) (dev50 c) (slot_of_off (off4_eq c) _) (by rfl) (recvSem_eq c) ?_
  refine snd_step m K c 19 (by decide) (dev51 c) (slot_of_off (off4_eq c) _) (by rfl) (recvSem_eq c) ?_
  refine snd_step m K c 20 (by decide) (dev52 c) (slot_of_off (off4_eq c) _) (by rfl) (recvSem_eq c) ?_
  exact runs_pure c (H _ _)
theorem run44 {R : sProp 𝕄} {Q : _ → sProp 𝕄} (a0 a1 a2 a3 a4 a5 a6 a7 a8 a9 a10 : BitVec 32) (H : ∀ u v, iprop(ctx m K ∗ SndSt m c 24 ∗ R) ⊢ Q ⟨u, v⟩) :
    iprop(ctx m K ∗ SndSt m c 21 ∗ R) ⊢ Runs c (atCall k0_part44 c a0 a1 a2 a3 a4 a5 a6 a7 a8 a9 a10) Q := by
  rw [k0_part44_eq_skeleton]; unfold k0_part44_skel
  refine snd_step m K c 21 (by decide) (dev53 c) (slot_of_off (off4_eq c) _) (by rfl) (recvSem_eq c) ?_
  refine snd_step m K c 22 (by decide) (dev54 c) (slot_of_off (off4_eq c) _) (by rfl) (recvSem_eq c) ?_
  refine snd_step m K c 23 (by decide) (dev55 c) (slot_of_off (off4_eq c) _) (by rfl) (recvSem_eq c) ?_
  exact runs_pure c (H _ _)
theorem run45 {R : sProp 𝕄} {Q : _ → sProp 𝕄} (a0 a1 a2 a3 a4 a5 a6 a7 a8 a9 a10 : BitVec 32) (H : ∀ u v, iprop(ctx m K ∗ SndSt m c 27 ∗ R) ⊢ Q ⟨u, v⟩) :
    iprop(ctx m K ∗ SndSt m c 24 ∗ R) ⊢ Runs c (atCall k0_part45 c a0 a1 a2 a3 a4 a5 a6 a7 a8 a9 a10) Q := by
  rw [k0_part45_eq_skeleton]; unfold k0_part45_skel
  refine snd_step m K c 24 (by decide) (dev56 c) (slot_of_off (off4_eq c) _) (by rfl) (recvSem_eq c) ?_
  refine snd_step m K c 25 (by decide) (dev57 c) (slot_of_off (off4_eq c) _) (by rfl) (recvSem_eq c) ?_
  refine snd_step m K c 26 (by decide) (dev58 c) (slot_of_off (off4_eq c) _) (by rfl) (recvSem_eq c) ?_
  exact runs_pure c (H _ _)
theorem run46 {R : sProp 𝕄} {Q : _ → sProp 𝕄} (a0 a1 a2 a3 a4 a5 a6 a7 a8 a9 a10 : BitVec 32) (H : ∀ u v, iprop(ctx m K ∗ SndSt m c 30 ∗ R) ⊢ Q ⟨u, v⟩) :
    iprop(ctx m K ∗ SndSt m c 27 ∗ R) ⊢ Runs c (atCall k0_part46 c a0 a1 a2 a3 a4 a5 a6 a7 a8 a9 a10) Q := by
  rw [k0_part46_eq_skeleton]; unfold k0_part46_skel
  refine snd_step m K c 27 (by decide) (dev59 c) (slot_of_off (off4_eq c) _) (by rfl) (recvSem_eq c) ?_
  refine snd_step m K c 28 (by decide) (dev60 c) (slot_of_off (off4_eq c) _) (by rfl) (recvSem_eq c) ?_
  refine snd_step m K c 29 (by decide) (dev61 c) (slot_of_off (off4_eq c) _) (by rfl) (recvSem_eq c) ?_
  exact runs_pure c (H _ _)

end Cert.Exchange

end
-- ==== Proof.Waits.lean ====
/-
# The parts of the kernel that compute, wait for the landings and wait for the sends

As in `Parts`: one lemma for each part with effects, at the call's buffers and semaphores.
-/
module

public import proofs.«01_k».proof.Proof.Parts
public import Idealize.ShloMosaic.Lib.Pipeline.Value

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Fin 66 → ℕ) (c : Dev nD)

/-! ## Loads and stores of whole buffers -/

theorem zero2 : (![0, 0] : Fin 2 → Nat) = fun _ => 0 := by
  funext a; match a with | 0 => rfl | 1 => rfl
theorem zero3 : (![0, 0, 0] : Fin 3 → Nat) = fun _ => 0 := by
  funext a; match a with | 0 => rfl | 1 => rfl | 2 => rfl

theorem readX (f : (cc0_scratch0 : Ref sig .tc).ty.Contents (Elt F)) :
    bX.view.readAt (Elt F) (Rect.unit (s := S256x2048) ![0, 0] S256x2048.size inb_S256x2048_S256x2048_0_0).toLoadRect f = f :=
  Memref.readAt_unit_zero (Elt F) cc0_scratch0 zero2 _ f
theorem readD (f : (cc0_scratch1 : Ref sig .tc).ty.Contents (Elt F)) :
    bD.view.readAt (Elt F) (Rect.unit (s := S256x2048) ![0, 0] S256x2048.size inb_S256x2048_S256x2048_0_0).toLoadRect f = f :=
  Memref.readAt_unit_zero (Elt F) cc0_scratch1 zero2 _ f
theorem readR (f : (cc0_scratch3 : Ref sig .tc).ty.Contents (Elt F)) :
    bR.view.readAt (Elt F) (Rect.unit (s := S32x2x2048) ![0, 0, 0] S32x2x2048.size inb_S32x2x2048_S32x2x2048_0_0_0).toLoadRect f = f :=
  Memref.readAt_unit_zero (Elt F) cc0_scratch3 zero3 _ f
theorem writeA (f w : (cc0_scratch2 : Ref sig .tc).ty.Contents (Elt F)) :
    (bA.access (Rect.unit (s := S2x2048) ![0, 0] S2x2048.size inb_S2x2048_S2x2048_0_0)).write (Elt F) f w Finset.univ = w :=
  Memref.write_access_unit_zero_univ (Elt F) cc0_scratch2 zero2 _ f w
theorem writeO (f w : (cc0_stg0_0 : Ref sig .tc).ty.Contents (Elt F)) :
    (aO.access (Rect.unit (s := S2x2048) ![0, 0] S2x2048.size inb_S2x2048_S2x2048_0_0)).write (Elt F) f w Finset.univ = w :=
  Memref.write_access_unit_zero_univ (Elt F) cc0_stg0_0 zero2 _ f w
theorem pay2_eq : k0_pay2 (xRows m c) (dRows m c) = part m c := by
  unfold k0_pay2 part; exact shapeCast_self _ _
theorem setA : bA.view.set = Finset.univ := View.set_whole _

/-- The own slot, as the rectangle that the kernel's store names. -/
abbrev ownRect : Rect S32x2x2048 := Rect.unit (s := S32x2x2048) (k0_off2 c) S1x2x2048.size (k0_off2_inb c)
theorem ownRect_eq : ownRect c = slotRect c := by unfold ownRect slotRect; congr 1; exact off2_eq c
theorem own_set : (bR.access (ownRect c)).set = (slotM c).view.set := by
  have h : ∀ (off : Fin 3 → ℕ) (inb), off = ![c.val, 0, 0] →
      (bR.access (Rect.unit (s := S32x2x2048) off S1x2x2048.size inb)).set = (slotM c).view.set := by
    rintro off inb rfl; exact access_set c
  exact h _ (k0_off2_inb c) (off2_eq c)
/-- The own slot, held by that rectangle. -/
theorem own_pts (f : (cc0_scratch3 : Ref sig .tc).ty.Contents (Elt F)) :
    slotPts (F := F) c c f = ((bR.access (ownRect c)).loc (c : Thread nD τ) ↦[(bR.access (ownRect c)).set]{fullShare} f) := by
  unfold slotPts
  rw [← own_set]
theorem own_written (f : (cc0_scratch3 : Ref sig .tc).ty.Contents (Elt F)) (i) (hi : i ∈ (slotM c).view.set) :
    (bR.access (ownRect c)).write (Elt F) f (k0_pay3 (xRows m c) (dRows m c)) Finset.univ i = gathered m i := by
  rw [← stored_eq m c f i hi]
  have h : ∀ r : Rect S32x2x2048, (hr : r = slotRect c) → (hs : r.shape = S1x2x2048) →
      (bR.access r).write (Elt F) f (hs ▸ k0_pay3 (xRows m c) (dRows m c)) Finset.univ i
        = (bR.access (slotRect c)).write (Elt F) f (k0_pay3 (xRows m c) (dRows m c)) Finset.univ i := by
    rintro r rfl hs; rfl
  exact h (ownRect c) (ownRect_eq c) rfl
/-- The own partial stored there fills the slot, whatever it held. -/
theorem own_stored (f : (cc0_scratch3 : Ref sig .tc).ty.Contents (Elt F)) :
    ((bR.access (ownRect c)).loc (c : Thread nD τ) ↦[(bR.access (ownRect c)).set]{fullShare}
      (bR.access (ownRect c)).write (Elt F) f (k0_pay3 (xRows m c) (dRows m c)) Finset.univ : sProp 𝕄) ⊢ slotPts c c (gathered m) := by
  rw [own_pts]
  exact Entails.of_eq (pointsTo_congr fun i hi => own_written m c f i (by rw [← own_set]; exact hi))

/-! ## The partial result, and the barrier -/

theorem run36 {R : sProp 𝕄} {Q : _ → sProp 𝕄} (a0 a1 a2 : BitVec 32)
    (H : ∀ u v, iprop(ctx m K ∗ (owing c (dueS c 0) ∗ InEnd m c 0 ∗ InEnd m c 1 ∗ accPts m c fullShare ∗ slotPts c c (gathered m)
      ∗ bigSep Finset.univ (fun i : Fin 31 => iprop(∃ f, slotPts (peer i c) c f)) ∗ semVal (barCell c) 0) ∗ R) ⊢ Q ⟨u, v⟩) :
    iprop(ctx m K ∗ (owing c (dueS c 0) ∗ InEnd m c 0 ∗ InEnd m c 1 ∗ (∃ f, bA.view.loc (c : Thread nD τ) ↦[bA.view.set]{fullShare} f)
        ∗ (∃ f, slotPts c c f) ∗ cred (tallyAt (barCell c) () 31) ∗ atPos ER (barCell c) 0 ∅ 0) ∗ R)
      ⊢ Runs c (atCall k0_part36 c a0 a1 a2 (SemArray.scalar (sig.barrier 0 rfl))) Q := by
  rw [k0_part36_eq_skeleton]; unfold k0_part36_skel
  have hbar := barWait_step m K c (Q := Q) (R := iprop(InEnd m c 0 ∗ InEnd m c 1 ∗ accPts m c fullShare ∗ slotPts c c (gathered m) ∗ R))
    (kk := fun _ => pure ⟨Scalar.addi 0#32 (Scalar.muli a1 16#32), Scalar.muli a2 4#32⟩) (by
      refine runs_pure c (BIBase.Entails.trans ?_ (H _ _))
      iintro ⟨Hc, ⟨H1, H2, H3⟩, H4, H5, H6, H7, H8⟩
      isplitl [Hc]; · iexact Hc
      isplitr [H8]
      · isplitl [H1]; · iexact H1
        isplitl [H4]; · iexact H4
        isplitl [H5]; · iexact H5
        isplitl [H6]; · iexact H6
        isplitl [H7]; · iexact H7
        isplitl [H2]; · iexact H2
        iexact H3
      iexact H8)
  unfold InEnd inPts at hbar ⊢
  rw [if_pos rfl, if_neg (by decide)] at hbar ⊢
  unfold atCall
  unfold Runs at hbar ⊢
  simp only [Prog.lift, Prog.bind_op, Prog.bind_ret]
  iintro ⟨Hc, ⟨HO, ⟨⟨HX, HaX⟩, HzX⟩, ⟨⟨HD, HaD⟩, HzD⟩, ⟨%fA, HA⟩, ⟨%fR, HR⟩, Hcred, Hat⟩, HF⟩
  iapply (wp_load 𝒱₀ (c : Thread nD τ) none Set.univ (m := bX) (S := bX.view.set) (Finset.map_subset_map.mpr (Finset.subset_univ _))) $$ HX; iintro HX
  rw [readX]
  iapply (wp_load 𝒱₀ (c : Thread nD τ) none Set.univ (m := bD) (S := bD.view.set) (Finset.map_subset_map.mpr (Finset.subset_univ _))) $$ HD; iintro HD
  rw [readD]
  iapply (wp_load 𝒱₀ (c : Thread nD τ) none Set.univ (m := bA) (S := bA.view.set) (Finset.map_subset_map.mpr (Finset.subset_univ _))) $$ HA; iintro HA
  iapply (wp_store 𝒱₀ (c : Thread nD τ) none Set.univ (m := bA) (r := Rect.unit (s := S2x2048) ![0, 0] S2x2048.size inb_S2x2048_S2x2048_0_0) (S := bA.view.set) (Mk := Finset.univ)
    (by rw [setA]; exact Finset.subset_univ _)) $$ HA; iintro HA
  rw [writeA, pay2_eq]
  ihave HR := (Entails.of_eq (own_pts c fR)) $$ HR
  iapply (wp_load_rect 𝒱₀ (c : Thread nD τ) none Set.univ (m := bR) (r := ownRect c) (S := (bR.access (ownRect c)).set) (Finset.Subset.refl _)) $$ HR; iintro HR
  iapply (wp_store 𝒱₀ (c : Thread nD τ) none Set.univ (m := bR) (r := ownRect c) (S := (bR.access (ownRect c)).set) (Mk := Finset.univ) (Finset.Subset.refl _)) $$ HR; iintro HR
  iapply hbar
  isplitl [Hc]; · iexact Hc
  isplitl [HO Hcred Hat]
  · isplitl [HO]; · iexact HO
    isplitl [Hcred]; · iexact Hcred
    iexact Hat
  isplitl [HX HaX HzX]
  · isplitl [HX HaX]
    · isplitl [HX]; · iexact HX
      iexact HaX
    iexact HzX
  isplitl [HD HaD HzD]
  · isplitl [HD HaD]
    · isplitl [HD]; · iexact HD
      iexact HaD
    iexact HzD
  isplitl [HA]; · unfold accPts; iexact HA
  isplitl [HR]; · iapply (own_stored m c fR); iexact HR
  iexact HF

/-! ## Waiting for the landings -/

/-- The printed test that slot `k` is not the device's own. -/
abbrev notOwn (w : BitVec 32) (k : ℕ) : BitVec 1 := Scalar.cmpi .ne (Scalar.extui (Scalar.cmpi .ne w (BitVec.ofNat 32 k)) : BitVec 32) 0#32

theorem notOwn_word (s c : Fin 32) : notOwn (BitVec.ofNat 32 c.val) s.val = 1#1 ↔ s ≠ c := by revert s c; decide +kernel
theorem notOwn_iff {w : BitVec 32} (hw : w = BitVec.ofNat 32 c.val) (k : ℕ) (hk : k < 32) : notOwn w k = 1#1 ↔ (⟨k, hk⟩ : Dev nD) ≠ c := by
  subst hw; exact notOwn_word ⟨k, hk⟩ c

/-- Every send under way: nothing is owed any more, and the landings are waited for. -/
theorem sndSt_end : SndSt m c 31 ⊢ iprop(owing c 0 ∗ bigSep Finset.univ (sndDone (F := F) c)) := by
  unfold SndSt
  rw [dueS, dueFrom_end, mix_full]

theorem run47 {R : sProp 𝕄} {Q : _ → sProp 𝕄} (a0 a1 a2 a3 a4 a5 a6 : BitVec 32) (hw : a3 = BitVec.ofNat 32 c.val)
    (H : iprop(ctx m K ∗ RcvSt m c 7 ∗ bigSep Finset.univ (sndDone (F := F) c) ∗ R) ⊢ Q (notOwn a3 7)) :
    iprop(ctx m K ∗ SndSt m c 30 ∗ bigSep Finset.univ (rcvNeed m c) ∗ R) ⊢ Runs c (atCall k0_part47 c a0 a1 a2 a3 a4 a5 a6) Q := by
  rw [k0_part47_eq_skeleton]; unfold k0_part47_skel
  refine snd_step m K c 30 (by decide) (dev62 c) (slot_of_off (off4_eq c) _) (by rfl) (recvSem_eq c) ?_
  refine BIBase.Entails.trans (Q := iprop(ctx m K ∗ RcvSt m c 0 ∗ bigSep Finset.univ (sndDone (F := F) c) ∗ R)) ?_ ?_
  · unfold RcvSt
    rw [mix_zero]
    iintro ⟨Hc, HS, HN, HR⟩
    ihave ⟨HO, Hd⟩ := (sndSt_end m c) $$ HS
    isplitl [Hc]; · iexact Hc
    isplitl [HO HN]
    · isplitl [HO]; · iexact HO
      iexact HN
    isplitl [Hd]; · iexact Hd
    iexact HR
  refine rcv_step m K c 0 (by decide) (notOwn_iff c hw 0 (by decide)) (by rfl) (by exact creditSlot 0 (recvS 0)) ?_
  refine rcv_step m K c 1 (by decide) (notOwn_iff c hw 1 (by decide)) (by rfl) (by exact creditSlot 1 (recvS 1)) ?_
  refine rcv_step m K c 2 (by decide) (notOwn_iff c hw 2 (by decide)) (by rfl) (by exact creditSlot 2 (recvS 2)) ?_
  refine rcv_step m K c 3 (by decide) (notOwn_iff c hw 3 (by decide)) (by rfl) (by exact creditSlot 3 (recvS 3)) ?_
  refine rcv_step m K c 4 (by decide) (notOwn_iff c hw 4 (by decide)) (by rfl) (by exact creditSlot 4 (recvS 4)) ?_
  refine rcv_step m K c 5 (by decide) (notOwn_iff c hw 5 (by decide)) (by rfl) (by exact creditSlot 5 (recvS 5)) ?_
  refine rcv_step m K c 6 (by decide) (notOwn_iff c hw 6 (by decide)) (by rfl) (by exact creditSlot 6 (recvS 6)) ?_
  exact runs_pure c H

theorem run48 {R : sProp 𝕄} {Q : _ → sProp 𝕄} (a0 a1 a2 a3 : BitVec 32) (hw : a3 = BitVec.ofNat 32 c.val)
    (H : iprop(ctx m K ∗ RcvSt m c 17 ∗ R) ⊢ Q (notOwn a3 17)) :
    iprop(ctx m K ∗ RcvSt m c 7 ∗ R) ⊢ Runs c (atCall k0_part48 a0 a1 a2 a3 (notOwn a3 7)) Q := by
  rw [k0_part48_eq_skeleton]; unfold k0_part48_skel
  refine rcv_step m K c 7 (by decide) (notOwn_iff c hw 7 (by decide)) (by rfl) (by exact creditSlot 7 (recvS 7)) ?_
  refine rcv_step m K c 8 (by decide) (notOwn_iff c hw 8 (by decide)) (by rfl) (by exact creditSlot 8 (recvS 8)) ?_
  refine rcv_step m K c 9 (by decide) (notOwn_iff c hw 9 (by decide)) (by rfl) (by exact creditSlot 9 (recvS 9)) ?_
  refine rcv_step m K c 10 (by decide) (notOwn_iff c hw 10 (by decide)) (by rfl) (by exact creditSlot 10 (recvS 10)) ?_
  refine rcv_step m K c 11 (by decide) (notOwn_iff c hw 11 (by decide)) (by rfl) (by exact creditSlot 11 (recvS 11)) ?_
  refine rcv_step m K c 12 (by decide) (notOwn_iff c hw 12 (by decide)) (by rfl) (by exact creditSlot 12 (recvS 12)) ?_
  refine rcv_step m K c 13 (by decide) (notOwn_iff c hw 13 (by decide)) (by rfl) (by exact creditSlot 13 (recvS 13)) ?_
  refine rcv_step m K c 14 (by decide) (notOwn_iff c hw 14 (by decide)) (by rfl) (by exact creditSlot 14 (recvS 14)) ?_
  refine rcv_step m K c 15 (by decide) (notOwn_iff c hw 15 (by decide)) (by rfl) (by exact creditSlot 15 (recvS 15)) ?_
  refine rcv_step m K c 16 (by decide) (notOwn_iff c hw 16 (by decide)) (by rfl) (by exact creditSlot 16 (recvS 16)) ?_
  exact runs_pure c H

theorem run49 {R : sProp 𝕄} {Q : _ → sProp 𝕄} (a0 a1 a2 a3 : BitVec 32) (hw : a3 = BitVec.ofNat 32 c.val)
    (H : iprop(ctx m K ∗ RcvSt m c 27 ∗ R) ⊢ Q (notOwn a3 27)) :
    iprop(ctx m K ∗ RcvSt m c 17 ∗ R) ⊢ Runs c (atCall k0_part49 a0 a1 a2 a3 (notOwn a3 17)) Q := by
  rw [k0_part49_eq_skeleton]; unfold k0_part49_skel
  refine rcv_step m K c 17 (by decide) (notOwn_iff c hw 17 (by decide)) (by rfl) (by exact creditSlot 17 (recvS 17)) ?_
  refine rcv_step m K c 18 (by decide) (notOwn_iff c hw 18 (by decide)) (by rfl) (by exact creditSlot 18 (recvS 18)) ?_
  refine rcv_step m K c 19 (by decide) (notOwn_iff c hw 19 (by decide)) (by rfl) (by exact creditSlot 19 (recvS 19)) ?_
  refine rcv_step m K c 20 (by decide) (notOwn_iff c hw 20 (by decide)) (by rfl) (by exact creditSlot 20 (recvS 20)) ?_
  refine rcv_step m K c 21 (by decide) (notOwn_iff c hw 21 (by decide)) (by rfl) (by exact creditSlot 21 (recvS 21)) ?_
  refine rcv_step m K c 22 (by decide) (notOwn_iff c hw 22 (by decide)) (by rfl) (by exact creditSlot 22 (recvS 22)) ?_
  refine rcv_step m K c 23 (by decide) (notOwn_iff c hw 23 (by decide)) (by rfl) (by exact creditSlot 23 (recvS 23)) ?_
  refine rcv_step m K c 24 (by decide) (notOwn_iff c hw 24 (by decide)) (by rfl) (by exact creditSlot 24 (recvS 24)) ?_
  refine rcv_step m K c 25 (by decide) (notOwn_iff c hw 25 (by decide)) (by rfl) (by exact creditSlot 25 (recvS 25)) ?_
  refine rcv_step m K c 26 (by decide) (notOwn_iff c hw 26 (by decide)) (by rfl) (by exact creditSlot 26 (recvS 26)) ?_
  exact runs_pure c H

/-- Every slot filled: the landing buffer holds all the partials, and its semaphores are at zero. -/
theorem rcvSt_end : RcvSt m c 32 ⊢ iprop(owing c 0 ∗ (((c : Thread nD τ).loc cc0_scratch3) ↦{fullShare} gathered m)
    ∗ bigSep Finset.univ fun s : Dev nD => semVal (recvCell c s) 0) := by
  unfold RcvSt rcvDone
  rw [mix_full, slots_eq]
  exact sep_mono_right (Entails.of_eq (bigSep_sep ..))

/-- The sends' credits and positions, before their waits. -/
theorem retSt_start : iprop(owing c 0 ∗ bigSep Finset.univ (sndDone (F := F) c) ∗ bigSep Finset.univ (fun i : Fin 31 => atPos ER (sendCell c i) 0 ∅ 0))
    ⊢ RetSt m c 0 := by
  unfold RetSt retNeed sndDone
  rw [mix_zero]
  exact sep_mono_right (Entails.of_eq (bigSep_sep ..).symm)

/-- The own slot, as the kernel names it. -/
abbrev ownM : Memref sig .tc .vmem S2x2048 .f32 :=
  (bR.slice (Rect.unit (s := S32x2x2048) (k0_off4 c) S1x2x2048.size (k0_off4_inb c)) (fun _ => rfl)).squeeze S2x2048 squeezes_S1x2x2048_S2x2048

theorem run50 {R : sProp 𝕄} {Q : _ → sProp 𝕄} (a0 a1 a2 a3 : BitVec 32) (hw : a3 = BitVec.ofNat 32 c.val)
    (H : iprop(ctx m K ∗ RetSt m c 2 ∗ ((((c : Thread nD τ).loc cc0_scratch3) ↦{fullShare} gathered m)
      ∗ (((c : Thread nD τ).loc cc0_stg0_0) ↦{fullShare} total m) ∗ bigSep Finset.univ fun s : Dev nD => semVal (recvCell c s) 0) ∗ R) ⊢ Q ⟨⟩) :
    iprop(ctx m K ∗ RcvSt m c 27 ∗ (bigSep Finset.univ (sndDone (F := F) c) ∗ bigSep Finset.univ (fun i : Fin 31 => atPos ER (sendCell c i) 0 ∅ 0)
        ∗ (∃ f, ((c : Thread nD τ).loc cc0_stg0_0) ↦{fullShare} f)) ∗ R)
      ⊢ Runs c (atCall k0_part50 c a0 a1 a2 a3 (notOwn a3 27)) Q := by
  rw [k0_part50_eq_skeleton]; unfold k0_part50_skel
  refine rcv_step m K c 27 (by decide) (notOwn_iff c hw 27 (by decide)) (by rfl) (by exact creditSlot 27 (recvS 27)) ?_
  refine rcv_step m K c 28 (by decide) (notOwn_iff c hw 28 (by decide)) (by rfl) (by exact creditSlot 28 (recvS 28)) ?_
  refine rcv_step m K c 29 (by decide) (notOwn_iff c hw 29 (by decide)) (by rfl) (by exact creditSlot 29 (recvS 29)) ?_
  refine rcv_step m K c 30 (by decide) (notOwn_iff c hw 30 (by decide)) (by rfl) (by exact creditSlot 30 (recvS 30)) ?_
  refine rcv_step m K c 31 (by decide) (notOwn_iff c hw 31 (by decide)) (by rfl) (by exact creditSlot 31 (recvS 31)) ?_
  have hret : iprop(ctx m K ∗ RetSt m c 0 ∗ ((((c : Thread nD τ).loc cc0_scratch3) ↦{fullShare} gathered m)
      ∗ (((c : Thread nD τ).loc cc0_stg0_0) ↦{fullShare} total m) ∗ bigSep Finset.univ fun s : Dev nD => semVal (recvCell c s) 0) ∗ R)
      ⊢ Runs c (Prog.lift (.waitDma2 (sendS 0) (ownM c) bA ((View.wordExact_bits rfl).reshape _ _) (Memref.isWhole_whole _).wordExact)
        >>= fun _ => Prog.lift (.waitDma2 (sendS 1) (ownM c) bA ((View.wordExact_bits rfl).reshape _ _) (Memref.isWhole_whole _).wordExact)
        >>= fun _ => pure ⟨⟩) Q := by
    refine ret_step m K c 0 (by decide) (by rfl) (by rfl) ?_
    refine ret_step m K c 1 (by decide) (by rfl) (by rfl) ?_
    exact runs_pure c H
  unfold Runs at hret ⊢
  simp only [Prog.lift, Prog.bind_op, Prog.bind_ret] at hret ⊢
  iintro ⟨Hc, HS, ⟨Hd, Hat, ⟨%fO, Ho⟩⟩, HR⟩
  ihave ⟨HO, Hg, Hz⟩ := (rcvSt_end m c) $$ HS
  iapply (wp_load 𝒱₀ (c : Thread nD τ) none Set.univ (m := bR) (Finset.subset_univ _)) $$ Hg; iintro Hg
  rw [readR]
  iapply (wp_load 𝒱₀ (c : Thread nD τ) none Set.univ (m := aO) (Finset.subset_univ _)) $$ Ho; iintro Ho
  iapply (wp_store 𝒱₀ (c : Thread nD τ) none Set.univ (m := aO) (r := Rect.unit (s := S2x2048) ![0, 0] S2x2048.size inb_S2x2048_S2x2048_0_0) (Mk := Finset.univ) (Finset.subset_univ _)) $$ Ho; iintro Ho
  rw [writeO]
  iapply hret
  isplitl [Hc]; · iexact Hc
  isplitl [HO Hd Hat]
  · iapply (retSt_start m c)
    isplitl [HO]; · iexact HO
    isplitl [Hd]; · iexact Hd
    iexact Hat
  isplitl [Hg Ho Hz]
  · isplitl [Hg]; · iexact Hg
    isplitl [Ho]; · iexact Ho
    iexact Hz
  iexact HR

/-! ## Waiting for the sends -/

theorem run51 {R : sProp 𝕄} {Q : _ → sProp 𝕄} (H : iprop(ctx m K ∗ RetSt m c 9 ∗ R) ⊢ Q ⟨⟩) :
    iprop(ctx m K ∗ RetSt m c 2 ∗ R) ⊢ Runs c (atCall k0_part51 c) Q := by
  rw [k0_part51_eq_skeleton]; unfold k0_part51_skel
  refine ret_step m K c 2 (by decide) (by rfl) (by rfl) ?_
  refine ret_step m K c 3 (by decide) (by rfl) (by rfl) ?_
  refine ret_step m K c 4 (by decide) (by rfl) (by rfl) ?_
  refine ret_step m K c 5 (by decide) (by rfl) (by rfl) ?_
  refine ret_step m K c 6 (by decide) (by rfl) (by rfl) ?_
  refine ret_step m K c 7 (by decide) (by rfl) (by rfl) ?_
  refine ret_step m K c 8 (by decide) (by rfl) (by rfl) ?_
  exact runs_pure c H

theorem run52 {R : sProp 𝕄} {Q : _ → sProp 𝕄} (H : iprop(ctx m K ∗ RetSt m c 16 ∗ R) ⊢ Q ⟨⟩) :
    iprop(ctx m K ∗ RetSt m c 9 ∗ R) ⊢ Runs c (atCall k0_part52 c) Q := by
  rw [k0_part52_eq_skeleton]; unfold k0_part52_skel
  refine ret_step m K c 9 (by decide) (by rfl) (by rfl) ?_
  refine ret_step m K c 10 (by decide) (by rfl) (by rfl) ?_
  refine ret_step m K c 11 (by decide) (by rfl) (by rfl) ?_
  refine ret_step m K c 12 (by decide) (by rfl) (by rfl) ?_
  refine ret_step m K c 13 (by decide) (by rfl) (by rfl) ?_
  refine ret_step m K c 14 (by decide) (by rfl) (by rfl) ?_
  refine ret_step m K c 15 (by decide) (by rfl) (by rfl) ?_
  exact runs_pure c H

theorem run53 {R : sProp 𝕄} {Q : _ → sProp 𝕄} (H : iprop(ctx m K ∗ RetSt m c 22 ∗ R) ⊢ Q ⟨⟩) :
    iprop(ctx m K ∗ RetSt m c 16 ∗ R) ⊢ Runs c (atCall k0_part53 c) Q := by
  rw [k0_part53_eq_skeleton]; unfold k0_part53_skel
  refine ret_step m K c 16 (by decide) (by rfl) (by rfl) ?_
  refine ret_step m K c 17 (by decide) (by rfl) (by rfl) ?_
  refine ret_step m K c 18 (by decide) (by rfl) (by rfl) ?_
  refine ret_step m K c 19 (by decide) (by rfl) (by rfl) ?_
  refine ret_step m K c 20 (by decide) (by rfl) (by rfl) ?_
  refine ret_step m K c 21 (by decide) (by rfl) (by rfl) ?_
  exact runs_pure c H

theorem run54 {R : sProp 𝕄} {Q : _ → sProp 𝕄} (H : iprop(ctx m K ∗ RetSt m c 29 ∗ R) ⊢ Q ⟨⟩) :
    iprop(ctx m K ∗ RetSt m c 22 ∗ R) ⊢ Runs c (atCall k0_part54 c) Q := by
  rw [k0_part54_eq_skeleton]; unfold k0_part54_skel
  refine ret_step m K c 22 (by decide) (by rfl) (by rfl) ?_
  refine ret_step m K c 23 (by decide) (by rfl) (by rfl) ?_
  refine ret_step m K c 24 (by decide) (by rfl) (by rfl) ?_
  refine ret_step m K c 25 (by decide) (by rfl) (by rfl) ?_
  refine ret_step m K c 26 (by decide) (by rfl) (by rfl) ?_
  refine ret_step m K c 27 (by decide) (by rfl) (by rfl) ?_
  refine ret_step m K c 28 (by decide) (by rfl) (by rfl) ?_
  exact runs_pure c H

end Cert.Exchange

end
-- ==== Proof.Body.lean ====
/-
# The kernel's body on one device

The parts in order: from what a device starts with to what it ends with.
-/
module

public import proofs.«01_k».proof.Proof.Waits

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Fin 66 → ℕ) (c : Dev nD)

/-! ## The parts without effects -/

/-- The device's number, as the kernel works it out from the mesh coordinates. -/
theorem myId_word (c : Dev nD) : Scalar.addi (Scalar.muli (Scalar.addi (Scalar.muli (Scalar.remsi (Scalar.divsi (Dev.word c) 16#32) 2#32) 4#32)
      (Scalar.remsi (Scalar.divsi (Dev.word c) 4#32) 4#32)) 4#32) (Scalar.remsi (Scalar.divsi (Dev.word c) 1#32) 4#32) = BitVec.ofNat 32 c.val := by
  revert c; decide +kernel

theorem run1 {P : sProp 𝕄} {Q : _ → sProp 𝕄}
    (H : ∀ v2 v5 v8 v12 v23 v34 v35, v12 = BitVec.ofNat 32 c.val → P ⊢ Q ⟨c, v2, v5, v8, v12, v23, v34, v35⟩) :
    P ⊢ Runs c (atCall k0_part1) Q := by
  unfold Runs atCall k0_part1
  simp only [Prog.lift, Prog.bind_op, Prog.bind_ret, wp_deviceId]
  exact runs_pure c (H _ _ _ _ _ _ _ (myId_word c))

/-! ## What a device starts with and ends with -/

/-- The duties of the sends a device makes: their own cells', and the peers' landing cells'. -/
def sendToks (i : Fin 31) : sProp 𝕄 := iprop(dutyTok ER (sendCell c i) 0 0 ∗ dutyTok ER (recvCell (peer i c) c) 0 0)
/-- A landing cell at the start: its position and, if it is a peer's slot, the credit for the landing. -/
def landStart (s : Fin 32) : sProp 𝕄 :=
  if s = c then atPos ER (recvCell c s) 0 ∅ 0 else iprop(cred (tallyAt (recvCell c s) () N) ∗ atPos ER (recvCell c s) 0 ∅ 0)
/-- The landing cells, the own slot filled. -/
theorem landStart_fill : iprop(slotPts c c (gathered m) ∗ bigSep Finset.univ (landStart (F := F) c)) ⊢ bigSep Finset.univ (rcvNeed m c) := by
  rw [bigSep_univ_split (Φ := landStart (F := F) c) c, bigSep_univ_split (Φ := rcvNeed m c) c]
  have h1 : landStart (F := F) c c = atPos ER (recvCell c c) 0 ∅ 0 := if_pos rfl
  have h2 : rcvNeed m c c = iprop(slotPts c c (gathered m) ∗ atPos ER (recvCell c c) 0 ∅ 0) := if_pos rfl
  have h3 : bigSep (Finset.univ.erase c) (landStart (F := F) c) = bigSep (Finset.univ.erase c) (rcvNeed m c) :=
    bigSep_congr fun s hs => by
      unfold landStart rcvNeed
      rw [if_neg (Finset.ne_of_mem_erase hs), if_neg (Finset.ne_of_mem_erase hs)]
  rw [h1, h2, h3]
  show iprop(slotPts c c (gathered m) ∗ atPos ER (recvCell c c) 0 ∅ 0 ∗ bigSep (Finset.univ.erase c) (rcvNeed m c))
    ⊢ iprop((slotPts c c (gathered m) ∗ atPos ER (recvCell c c) 0 ∅ 0) ∗ bigSep (Finset.univ.erase c) (rcvNeed m c))
  iintro ⟨H1, H2, H3⟩
  isplitr [H3]
  · isplitl [H1]; · iexact H1
    iexact H2
  iexact H3

/-- The part of the start that is needed once the own block has been read. -/
def Later : sProp 𝕄 :=
  iprop(bigSep Finset.univ (sendToks (F := F) c) ∗ bigSep Finset.univ (landStart (F := F) c)
    ∗ bigSep Finset.univ (fun i : Fin 31 => atPos ER (sendCell c i) 0 ∅ 0) ∗ ∃ f, ((c : Thread nD τ).loc cc0_stg0_0) ↦{fullShare} f)
/-- The buffers of the partial result and the barrier, as the computing part needs them. -/
def Mid : sProp 𝕄 :=
  iprop((∃ f, bA.view.loc (c : Thread nD τ) ↦[bA.view.set]{fullShare} f) ∗ (∃ f, slotPts c c f) ∗ cred (tallyAt (barCell c) () 31) ∗ atPos ER (barCell c) 0 ∅ 0)
def BodyPre : sProp 𝕄 := iprop(SigSt c 0 ∗ (InSt m c 0 ∗ InSt m c 1) ∗ Mid c ∗ Later c)
/-- What the computing part leaves for the end. -/
def Kept : sProp 𝕄 := iprop(InEnd m c 0 ∗ InEnd m c 1 ∗ semVal (barCell c) 0 ∗ accPts m c (Transfers.shareDrop fullShare 31))
def BodyPost : sProp 𝕄 :=
  iprop(owing c 0 ∗ InEnd m c 0 ∗ InEnd m c 1 ∗ accPts m c fullShare ∗ (((c : Thread nD τ).loc cc0_scratch3) ↦{fullShare} gathered m)
    ∗ (((c : Thread nD τ).loc cc0_stg0_0) ↦{fullShare} total m) ∗ semVal (barCell c) 0
    ∗ bigSep Finset.univ (fun i : Fin 31 => semVal (sendCell c i) 0) ∗ bigSep Finset.univ (fun s : Dev nD => semVal (recvCell c s) 0))

/-- From the partial result to the sends: its shares, the peers' slots and the duties, put together by peer. -/
theorem send_start :
    iprop(ctx m K ∗ (owing c (dueS c 0) ∗ InEnd m c 0 ∗ InEnd m c 1 ∗ accPts m c fullShare ∗ slotPts c c (gathered m)
        ∗ bigSep Finset.univ (fun i : Fin 31 => iprop(∃ f, slotPts (peer i c) c f)) ∗ semVal (barCell c) 0) ∗ Later c)
      ⊢ iprop(ctx m K ∗ SndSt m c 0 ∗ (bigSep Finset.univ (rcvNeed m c)
        ∗ (bigSep Finset.univ (fun i : Fin 31 => atPos ER (sendCell c i) 0 ∅ 0) ∗ ∃ f, ((c : Thread nD τ).loc cc0_stg0_0) ↦{fullShare} f) ∗ Kept m c)) := by
  have hacc : accPts m c fullShare ⊢ iprop(accPts m c (Transfers.shareDrop fullShare 31)
      ∗ bigSep Finset.univ (fun i : Fin 31 => accPts m c (Transfers.shareTokN fullShare i.val))) := Transfers.pointsTo_toks_split fullShare 31
  have hput : iprop(bigSep Finset.univ (fun i : Fin 31 => accPts m c (Transfers.shareTokN fullShare i.val))
      ∗ bigSep Finset.univ (fun i : Fin 31 => iprop(∃ f, slotPts (peer i c) c f)) ∗ bigSep Finset.univ (sendToks (F := F) c)) ⊢ bigSep Finset.univ (sndNeed m c) := by
    have h : ∀ A B C : Fin 31 → sProp 𝕄, iprop(bigSep Finset.univ A ∗ bigSep Finset.univ B ∗ bigSep Finset.univ C)
        ⊢ bigSep Finset.univ fun i => iprop(A i ∗ B i ∗ C i) := fun A B C =>
      BIBase.Entails.trans (sep_mono_right (Entails.of_eq (bigSep_sep Finset.univ B C).symm))
        (Entails.of_eq (bigSep_sep Finset.univ A fun i => iprop(B i ∗ C i)).symm)
    unfold sndNeed sendToks; exact h _ _ _
  unfold Later Kept SndSt
  rw [mix_zero]
  iintro ⟨Hc, ⟨HO, H0, H1, HA, HR, HB, HzB⟩, HT, HL, HatS, Hstg⟩
  ihave ⟨HD, HA⟩ := hacc $$ HA
  isplitl [Hc]; · iexact Hc
  isplitl [HO HA HB HT]
  · isplitl [HO]; · iexact HO
    iapply hput
    isplitl [HA]; · iexact HA
    isplitl [HB]; · iexact HB
    iexact HT
  isplitl [HR HL]
  · iapply (landStart_fill m c)
    isplitl [HR]; · iexact HR
    iexact HL
  isplitl [HatS Hstg]
  · isplitl [HatS]; · iexact HatS
    iexact Hstg
  isplitl [H0]; · iexact H0
  isplitl [H1]; · iexact H1
  isplitl [HzB]; · iexact HzB
  iexact HD

/-- The last wait done: the partial's shares joined again. -/
theorem body_end :
    iprop(ctx m K ∗ RetSt m c 31 ∗ ((((c : Thread nD τ).loc cc0_scratch3) ↦{fullShare} gathered m)
        ∗ (((c : Thread nD τ).loc cc0_stg0_0) ↦{fullShare} total m) ∗ bigSep Finset.univ fun s : Dev nD => semVal (recvCell c s) 0) ∗ Kept m c)
      ⊢ BodyPost m c := by
  have hacc : iprop(accPts m c (Transfers.shareDrop fullShare 31)
      ∗ bigSep Finset.univ (fun i : Fin 31 => accPts m c (Transfers.shareTokN fullShare i.val))) ⊢ accPts m c fullShare := Transfers.pointsTo_toks_join fullShare 31
  have hret : bigSep Finset.univ (retDone m c) ⊢ iprop(bigSep Finset.univ (fun i : Fin 31 => accPts m c (Transfers.shareTokN fullShare i.val))
      ∗ bigSep Finset.univ (fun i : Fin 31 => semVal (sendCell c i) 0)) := by
    unfold retDone; exact Entails.of_eq (bigSep_sep ..)
  unfold RetSt Kept BodyPost
  rw [mix_full]
  iintro ⟨-, ⟨HO, HS⟩, ⟨HR, Hstg, HzR⟩, H0, H1, HzB, HD⟩
  ihave ⟨HA, HzS⟩ := hret $$ HS
  isplitl [HO]; · iexact HO
  isplitl [H0]; · iexact H0
  isplitl [H1]; · iexact H1
  isplitl [HD HA]
  · iapply hacc
    isplitl [HD]; · iexact HD
    iexact HA
  isplitl [HR]; · iexact HR
  isplitl [Hstg]; · iexact Hstg
  isplitl [HzB]; · iexact HzB
  isplitl [HzS]; · iexact HzS
  iexact HzR

/-! ## The parts in order -/

/-- The end of the kernel after the landings: what run50 leaves. -/
abbrev Ended : sProp 𝕄 := iprop(((((c : Thread nD τ).loc cc0_scratch3) ↦{fullShare} gathered m)
        ∗ (((c : Thread nD τ).loc cc0_stg0_0) ↦{fullShare} total m) ∗ bigSep Finset.univ fun s : Dev nD => semVal (recvCell c s) 0) ∗ Kept m c)

set_option maxHeartbeats 1600000 in
theorem run55 {Q : _ → sProp 𝕄} (H : iprop(ctx m K ∗ RetSt m c 30 ∗ Ended m c) ⊢ Q c) :
    iprop(ctx m K ∗ BodyPre m c) ⊢ Runs c (atCall k0_part55) Q := by
  unfold atCall k0_part55 BodyPre
  refine runs_bind c (run1 c fun v2 v5 v8 v12 v23 v34 v35 hw => ?_)
  dsimp only
  refine runs_pure_bind c ⟨_, rfl⟩ ?_
  rintro ⟨v45, v56, v67, v70, v71⟩
  dsimp only
  refine runs_pure_bind c ⟨_, rfl⟩ ?_
  rintro ⟨v78, v89, v100, v103, v104, v105, v106, v107⟩
  dsimp only
  refine runs_pure_bind c ⟨_, rfl⟩ ?_
  rintro ⟨v111, v122, v133, v144, v145⟩
  dsimp only
  refine runs_pure_bind c ⟨_, rfl⟩ ?_
  rintro ⟨v155, v166, v177, v180, v181⟩
  dsimp only
  refine runs_pure_bind c ⟨_, rfl⟩ ?_
  rintro ⟨v188, v199, v210, v213, v214, v215, v216, v217⟩
  dsimp only
  refine runs_pure_bind c ⟨_, rfl⟩ ?_
  rintro ⟨v221, v232, v243, v254, v255⟩
  dsimp only
  refine runs_pure_bind c ⟨_, rfl⟩ ?_
  rintro ⟨v265, v276, v287, v290, v291⟩
  dsimp only
  refine runs_pure_bind c ⟨_, rfl⟩ ?_
  rintro ⟨v298, v309, v320, v323, v324, v325, v326, v327⟩
  dsimp only
  refine runs_pure_bind c ⟨_, rfl⟩ ?_
  rintro ⟨v331, v342, v353, v364, v365⟩
  dsimp only
  refine runs_pure_bind c ⟨_, rfl⟩ ?_
  rintro ⟨v375, v386, v397, v400, v401⟩
  dsimp only
  refine runs_pure_bind c ⟨_, rfl⟩ ?_
  rintro ⟨v408, v419, v430, v433, v434, v435, v436, v437⟩
  dsimp only
  refine runs_pure_bind c ⟨_, rfl⟩ ?_
  rintro ⟨v441, v452, v463, v474, v475⟩
  dsimp only
  refine runs_pure_bind c ⟨_, rfl⟩ ?_
  rintro ⟨v485, v496, v507, v510, v511⟩
  dsimp only
  refine runs_pure_bind c ⟨_, rfl⟩ ?_
  rintro ⟨v518, v529, v540, v543, v544, v545, v546, v547⟩
  dsimp only
  refine runs_pure_bind c ⟨_, rfl⟩ ?_
  rintro ⟨v551, v562, v573, v584, v585⟩
  dsimp only
  refine runs_pure_bind c ⟨_, rfl⟩ ?_
  rintro ⟨v595, v606, v617, v620, v621⟩
  dsimp only
  refine runs_pure_bind c ⟨_, rfl⟩ ?_
  rintro ⟨v628, v639, v650, v653, v654, v655, v656, v657⟩
  dsimp only
  refine runs_pure_bind c ⟨_, rfl⟩ ?_
  rintro ⟨v661, v672, v683, v694, v695⟩
  dsimp only
  refine runs_pure_bind c ⟨_, rfl⟩ ?_
  rintro ⟨v705, v716, v727, v730, v731⟩
  dsimp only
  refine runs_pure_bind c ⟨_, rfl⟩ ?_
  rintro ⟨v738, v749, v760, v763, v764, v765, v766, v767⟩
  dsimp only
  refine runs_pure_bind c ⟨_, rfl⟩ ?_
  rintro ⟨v771, v782, v793, v804, v805⟩
  dsimp only
  refine runs_pure_bind c ⟨_, rfl⟩ ?_
  rintro ⟨v815, v826, v837, v840, v841⟩
  dsimp only
  refine runs_pure_bind c ⟨_, rfl⟩ ?_
  rintro ⟨v848, v859, v870, v873, v874, v875, v876, v877⟩
  dsimp only
  refine runs_pure_bind c ⟨_, rfl⟩ ?_
  rintro ⟨v881, v892, v903, v914, v915⟩
  dsimp only
  refine runs_pure_bind c ⟨_, rfl⟩ ?_
  rintro ⟨v925, v936, v947, v950, v951⟩
  dsimp only
  refine runs_pure_bind c ⟨_, rfl⟩ ?_
  rintro ⟨v958, v969, v980, v983, v984, v985, v986, v987⟩
  dsimp only
  refine runs_pure_bind c ⟨_, rfl⟩ ?_
  rintro ⟨v991, v1002, v1013, v1024, v1025⟩
  dsimp only
  refine runs_bind c (run29 m K c _ _ _ _ _ _ _ _ _ _ _ _ fun u29 v_29 w29 => ?_)
  dsimp only
  refine runs_bind c (run30 m K c _ _ _ _ _ _ _ _ _ _ _ _ _ _ _ _ _ fun u30 v_30 => ?_)
  dsimp only
  refine runs_bind c (run31 m K c _ _ _ _ _ _ _ _ _ _ _ _ _ _ _ _ _ fun u31 v_31 => ?_)
  dsimp only
  refine runs_bind c (run32 m K c _ _ _ _ _ _ _ _ _ _ _ _ _ _ _ _ _ fun u32 v_32 => ?_)
  dsimp only
  refine runs_bind c (run33 m K c _ _ _ _ _ _ _ _ _ _ _ _ _ _ _ _ _ fun u33 v_33 => ?_)
  dsimp only
  refine runs_bind c (run34 m K c _ _ _ _ _ _ _ _ _ _ _ _ _ _ _ _ _ fun u34 v_34 => ?_)
  dsimp only
  refine BIBase.Entails.trans (Q := iprop(ctx m K ∗ (SigSt c 28 ∗ InSt m c 0 ∗ InSt m c 1) ∗ (Mid c ∗ Later c))) ?_ ?_
  · iintro ⟨Hc, H1, ⟨H2, H3⟩, H4⟩
    isplitl [Hc]; · iexact Hc
    isplitr [H4]
    · isplitl [H1]; · iexact H1
      isplitl [H2]; · iexact H2
      iexact H3
    iexact H4
  refine runs_bind c (run35 m K c _ _ _ _ _ _ _ _ _ _ _ ?_)
  refine BIBase.Entails.trans (Q := iprop(ctx m K ∗ (owing c (dueS c 0) ∗ InEnd m c 0 ∗ InEnd m c 1 ∗ (∃ f, bA.view.loc (c : Thread nD τ) ↦[bA.view.set]{fullShare} f)
        ∗ (∃ f, slotPts c c f) ∗ cred (tallyAt (barCell c) () 31) ∗ atPos ER (barCell c) 0 ∅ 0) ∗ Later c)) ?_ ?_
  · unfold Mid
    iintro ⟨Hc, ⟨H1, H2, H3⟩, ⟨H4, H5, H6, H7⟩, H8⟩
    isplitl [Hc]; · iexact Hc
    isplitr [H8]
    · isplitl [H1]; · iexact H1
      isplitl [H2]; · iexact H2
      isplitl [H3]; · iexact H3
      isplitl [H4]; · iexact H4
      isplitl [H5]; · iexact H5
      isplitl [H6]; · iexact H6
      iexact H7
    iexact H8
  refine runs_bind c (run36 m K c _ _ _ fun u36 v_36 => ?_)
  dsimp only
  refine BIBase.Entails.trans (send_start m K c) ?_
  refine runs_bind c (run37 m K c _ _ _ _ _ _ _ _ _ _ _ fun u37 v_37 => ?_)
  dsimp only
  refine runs_bind c (run38 m K c _ _ _ _ _ _ _ _ _ _ _ fun u38 v_38 => ?_)
  dsimp only
  refine runs_bind c (run39 m K c _ _ _ _ _ _ _ _ _ _ _ fun u39 v_39 => ?_)
  dsimp only
  refine runs_bind c (run40 m K c _ _ _ _ _ _ _ _ _ _ _ fun u40 v_40 => ?_)
  dsimp only
  refine runs_bind c (run41 m K c _ _ _ _ _ _ _ _ _ _ _ fun u41 v_41 => ?_)
  dsimp only
  refine runs_bind c (run42 m K c _ _ _ _ _ _ _ _ _ _ _ fun u42 v_42 => ?_)
  dsimp only
  refine runs_bind c (run43 m K c _ _ _ _ _ _ _ _ _ _ _ fun u43 v_43 => ?_)
  dsimp only
  refine runs_bind c (run44 m K c _ _ _ _ _ _ _ _ _ _ _ fun u44 v_44 => ?_)
  dsimp only
  refine runs_bind c (run45 m K c _ _ _ _ _ _ _ _ _ _ _ fun u45 v_45 => ?_)
  dsimp only
  refine runs_bind c (run46 m K c _ _ _ _ _ _ _ _ _ _ _ fun u46 v_46 => ?_)
  dsimp only
  refine runs_bind c (run47 m K c _ _ _ _ _ _ _ hw ?_)
  refine runs_bind c (run48 m K c _ _ _ _ hw ?_)
  refine runs_bind c (run49 m K c _ _ _ _ hw ?_)
  refine BIBase.Entails.trans (Q := iprop(ctx m K ∗ RcvSt m c 27 ∗ (bigSep Finset.univ (sndDone (F := F) c) ∗ bigSep Finset.univ (fun i : Fin 31 => atPos ER (sendCell c i) 0 ∅ 0)
        ∗ (∃ f, ((c : Thread nD τ).loc cc0_stg0_0) ↦{fullShare} f)) ∗ Kept m c)) ?_ ?_
  · iintro ⟨Hc, H1, H2, ⟨H3, H4⟩, H5⟩
    isplitl [Hc]; · iexact Hc
    isplitl [H1]; · iexact H1
    isplitr [H5]
    · isplitl [H2]; · iexact H2
      isplitl [H3]; · iexact H3
      iexact H4
    iexact H5
  refine runs_bind c (run50 m K c _ _ _ _ hw ?_)
  refine runs_bind c (run51 m K c ?_)
  refine runs_bind c (run52 m K c ?_)
  refine runs_bind c (run53 m K c ?_)
  refine runs_bind c (run54 m K c ?_)
  refine ret_step m K c 29 (by decide) (by rfl) (by rfl) ?_
  exact runs_pure c H

/-- The body on device `c`. -/
theorem body_run : iprop(ctx m K ∗ BodyPre m c) ⊢ Runs c (atCall cc0_body) fun _ => BodyPost m c := by
  unfold atCall cc0_body
  refine runs_bind c (run55 m K c ?_)
  refine ret_step m K c 30 (by decide) (by rfl) (by rfl) ?_
  exact runs_pure c (body_end m K c)

end Cert.Exchange

end
-- ==== Proof.Deal.lean ====
/-
# Dealing out the cells at launch

Every device allocates its sixty-six cells; the tokens of the duties are dealt to the devices that pay them, and what each
device owes at launch gives the credits for the barrier and the landings.
-/
module

public import proofs.«01_k».proof.Proof.Body

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Cells and tokens -/

theorem csem_injective : Function.Injective csem := by decide +kernel
theorem kcell_injective : Function.Injective (kcell : Dev nD × Fin 66 → GSem nD τ sig) := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨kcell, kcell_injective⟩

/-- A token for every cell and every device: more than the schedule has duties, the rest is left unused. -/
abbrev tokOf (x : (Dev nD × Fin 66) × Dev nD) : GSem nD τ sig × ℕ × Dev nD := (kcell x.1, 0, x.2)
theorem tokOf_injective : Function.Injective tokOf := by
  rintro ⟨a, d⟩ ⟨a', d'⟩ h
  have h1 : a = a' := kcell_injective (congrArg (fun x : GSem nD τ sig × ℕ × Dev nD => x.1) h)
  have h2 : d = d' := congrArg (fun x : GSem nD τ sig × ℕ × Dev nD => x.2.2) h
  rw [h1, h2]
def allToks : Finset (GSem nD τ sig × ℕ × Dev nD) := Finset.univ.map ⟨tokOf, tokOf_injective⟩

def u₀ : UU := (initOf (Pipeline.cells cfgs cellOf_inj) (Pipeline.launchToks cfgs cellOf_inj), initOf allCells allToks)

/-- The tokens of one cell. -/
def cellToks (g : GSem nD τ sig) : sProp 𝕄 := bigSep Finset.univ fun d : Dev nD => dutyTok ER g 0 d
/-- The tokens of device `c`'s own cells. -/
def ownToks (c : Dev nD) : sProp 𝕄 := bigSep Finset.univ fun j : Fin 66 => cellToks (kcell (c, j))
/-- The tokens of the duties device `c` pays. -/
def payToks (c : Dev nD) : sProp 𝕄 :=
  iprop(bigSep Finset.univ (fun i : Fin 31 => dutyTok ER (barCell (peer i c)) 0 c) ∗ (dutyTok ER (inCell c 0) 0 0 ∗ dutyTok ER (inCell c 1) 0 0)
    ∗ bigSep Finset.univ (sendToks (F := F) c))

def G (c : Dev nD) : sProp 𝕄 :=
  iprop((bigSep Finset.univ fun k : Fin 66 => roundState ER (sched m) (kcell (c, k)) 0)
    ∗ (bigSep Finset.univ fun k : Fin 66 => atPos ER (kcell (c, k)) 0 ∅ 0) ∗ (bigSep Finset.univ fun k : Fin 66 => reached ER (kcell (c, k)) 0) ∗ ownToks c)

/-- Device `c`'s positions in its own cells and the tokens it pays with. -/
def positions (c : Dev nD) : sProp 𝕄 := bigSep Finset.univ fun k : Fin 66 => atPos ER (kcell (c, k)) 0 ∅ 0
def G' (c : Dev nD) : sProp 𝕄 := iprop((∃ K, records m K) ∗ positions c ∗ payToks c)

theorem sep_four {A B C D : Dev nD → sProp 𝕄} :
    iprop(bigSep Finset.univ A ∗ bigSep Finset.univ B ∗ bigSep Finset.univ C ∗ bigSep Finset.univ D)
      ⊢ bigSep Finset.univ fun c => iprop(A c ∗ B c ∗ C c ∗ D c) :=
  BIBase.Entails.trans (sep_mono_right (sep_mono_right (Entails.of_eq (bigSep_sep Finset.univ C D).symm)))
    (BIBase.Entails.trans (sep_mono_right (Entails.of_eq (bigSep_sep Finset.univ B fun c => iprop(C c ∗ D c)).symm))
      (Entails.of_eq (bigSep_sep Finset.univ A fun c => iprop(B c ∗ C c ∗ D c)).symm))

theorem cut_four {A B C D : Dev nD → sProp 𝕄} : (bigSep Finset.univ fun c => iprop(A c ∗ B c ∗ C c ∗ D c))
      ⊢ iprop(bigSep Finset.univ A ∗ bigSep Finset.univ B ∗ bigSep Finset.univ C ∗ bigSep Finset.univ D) :=
    (Entails.of_eq (bigSep_sep Finset.univ A fun c => iprop(B c ∗ C c ∗ D c))).trans
      (sep_mono_right ((Entails.of_eq (bigSep_sep Finset.univ B fun c => iprop(C c ∗ D c))).trans
        (sep_mono_right (Entails.of_eq (bigSep_sep Finset.univ C D)))))

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 66 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks ownToks cellToks; rw [bigSep_map, bigSep_univ_prod, bigSep_univ_prod]; rfl
  iintro HX
  imod (Rounds.fund ER (sched m) allCells allToks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G
  iapply sep_four
  isplitl [Hst]; · iexact Hst
  isplitl [Hat]; · iexact Hat
  isplitl [Hr]; · iexact Hr
  iexact Htok

/-! ## The semaphores become cells -/

theorem ownSems0_eq (c : Dev nD) : (Pipeline.ownSems0 (Ix := Unit) (Name := ℕ) (U := UU) (Lvl := ℕ) (Val := Elt F) (τ := τ) osem c : sProp 𝕄)
    = iprop((semVal (inCell c 0) 0 ∗ semVal (inCell c 1) 0) ∗ bigSep Finset.univ (fun i : Fin 31 => semVal (sendCell c i) 0)
        ∗ bigSep Finset.univ (fun s : Dev nD => semVal (recvCell c s) 0)) := by
  unfold Pipeline.ownSems0
  exact scoped_split c fun g => semVal g 0
theorem unscopedSems0_eq (c : Dev nD) : (unscopedSems0 c : sProp 𝕄) = semVal (barCell c) 0 := by
  unfold unscopedSems0; rw [bigSep_eq_bigSepL_of_eq [SemLoc.reg barS] (by decide +kernel) (by decide +kernel)]; rfl

theorem sems_cells (c : Dev nD) :
    iprop(Pipeline.ownSems0 (Ix := Unit) (Name := ℕ) (U := UU) (Lvl := ℕ) (Val := Elt F) (τ := τ) osem c ∗ unscopedSems0 c)
      ⊢ (bigSep Finset.univ fun k : Fin 66 => semVal (kcell (c, k)) 0 : sProp 𝕄) := by
  rw [cells_split c fun g => (semVal g 0 : sProp 𝕄), ownSems0_eq, unscopedSems0_eq]
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ positions c ∗ (bigSep Finset.univ fun k : Fin 66 => reached ER (kcell (c, k)) 0) ∗ ownToks c) := by
  unfold G positions
  iintro ⟨Hos, Hus, Hst, Hat, Hre, Htok⟩
  ihave Hv := (sems_cells (F := F) c) $$ [Hos Hus]
  · isplitl [Hos]; · iexact Hos
    iexact Hus
  imod (show iprop((bigSep Finset.univ fun k : Fin 66 => semVal (kcell (c, k)) 0) ∗ bigSep Finset.univ fun k : Fin 66 => roundState ER (sched m) (kcell (c, k)) 0)
      ⊢ (|={Set.univ}=> bigSep Finset.univ fun k => iprop(∃ κ : ℕ, cellInv ER (sched m) κ (kcell (c, k))) : sProp 𝕄) from
        (Entails.of_eq (bigSep_sep ..).symm).trans
          ((bigSep_mono fun k _ => (Rounds.body_intro ER (sched m) (kcell (c, k))).trans inv_alloc).trans (bigSep_fupd _ _))) $$ [Hv Hst] with Hinv
  · isplitl [Hv]; · iexact Hv
    iexact Hst
  imodintro
  isplitl [Hinv]; · iexact Hinv
  isplitl [Hat]; · iexact Hat
  isplitl [Hre]; · iexact Hre
  iexact Htok

/-! ## The tokens go to the payers -/

theorem cellToks_take (g : GSem nD τ sig) (d : Dev nD) : cellToks (F := F) g ⊢ dutyTok ER g 0 d := bigSep_elim (Finset.mem_univ d)

/-- A token family indexed by owner and payer, seen from the payer: one for each peer. -/
theorem swap_around (Φ : Dev nD → Dev nD → sProp 𝕄) :
    (bigSep Finset.univ fun c : Dev nD => bigSep Finset.univ fun d : Dev nD => Φ c d)
      ⊢ bigSep Finset.univ fun d : Dev nD => bigSep Finset.univ fun i : Fin 31 => Φ (peer i d) d := by
  refine (Entails.of_eq (Pipeline.bigSep_univ_comm Φ)).trans (bigSep_mono fun d _ => ?_)
  refine (Entails.of_eq (bigSep_around d fun c => Φ c d)).trans ?_
  iintro ⟨-, H⟩
  iexact H

theorem ownToks_split (c : Dev nD) : ownToks (F := F) c
    ⊢ iprop((bigSep Finset.univ fun d : Dev nD => dutyTok ER (barCell c) 0 d) ∗ (dutyTok ER (inCell c 0) 0 0 ∗ dutyTok ER (inCell c 1) 0 0)
      ∗ (bigSep Finset.univ fun i : Fin 31 => dutyTok ER (sendCell c i) 0 0) ∗ bigSep Finset.univ fun s : Dev nD => dutyTok ER (recvCell c s) 0 0) := by
  unfold ownToks
  rw [cells_split c fun g => (cellToks g : sProp 𝕄)]
  refine sep_mono_right (BI.sep_mono (BI.sep_mono (cellToks_take _ 0) (cellToks_take _ 0)) (BI.sep_mono (bigSep_mono fun i _ => cellToks_take _ 0) (bigSep_mono fun s _ => cellToks_take _ 0)))

theorem toks_around : (bigSep Finset.univ fun c : Dev nD => (ownToks c : sProp 𝕄)) ⊢ bigSep Finset.univ fun c : Dev nD => payToks c := by
  have hpay : ∀ c, iprop((bigSep Finset.univ fun i : Fin 31 => dutyTok ER (barCell (peer i c)) 0 c) ∗ (dutyTok ER (inCell c 0) 0 0 ∗ dutyTok ER (inCell c 1) 0 0)
      ∗ (bigSep Finset.univ fun i : Fin 31 => dutyTok ER (sendCell c i) 0 0) ∗ bigSep Finset.univ fun i : Fin 31 => dutyTok ER (recvCell (peer i c) c) 0 0)
      ⊢ payToks (F := F) c := fun c => by
    unfold payToks sendToks
    exact sep_mono_right (sep_mono_right (Entails.of_eq (bigSep_sep ..).symm))
  refine (bigSep_mono fun c _ => ownToks_split (F := F) c).trans (cut_four.trans ?_)
  refine BIBase.Entails.trans (BI.sep_mono (swap_around fun c d => dutyTok ER (barCell c) 0 d)
    (sep_mono_right (sep_mono_right (swap_around fun c s => dutyTok ER (recvCell c s) 0 0)))) ?_
  exact sep_four.trans (bigSep_mono fun c _ => hpay c)

theorem with_records {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans ((Entails.of_eq (bigSep_sep ..).symm).trans (bigSep_mono fun c _ => h c))

theorem regroup :
    (bigSep Finset.univ fun c : Dev nD => iprop((bigSep Finset.univ fun k => iprop(∃ κ : ℕ, cellInv ER (sched m) κ (kcell (c, k))))
          ∗ positions c ∗ (bigSep Finset.univ fun k : Fin 66 => reached ER (kcell (c, k)) 0) ∗ ownToks c) : sProp 𝕄)
      ⊢ bigSep Finset.univ (G' m) := by
  refine cut_four.trans ?_
  rw [← bigSep_univ_prod (fun ck : Dev nD × Fin 66 => iprop(∃ κ : ℕ, cellInv ER (sched m) κ (kcell ck))),
    ← bigSep_univ_prod (fun ck : Dev nD × Fin 66 => (reached ER (kcell ck) 0 : sProp 𝕄))]
  iintro ⟨HI, Hat, HR, Htok⟩
  ihave HK := (BI.bigSep_exists_pi Finset.univ (fun (ck : Dev nD × Fin 66) (κ : ℕ) => (cellInv ER (sched m) κ (kcell ck) : sProp 𝕄))) $$ HI
  icases HK with ⟨%K, HI⟩
  ihave Hrec := (show iprop(bigSep Finset.univ (fun ck : Dev nD × Fin 66 => cellInv ER (sched m) (K ck) (kcell ck)) ∗ bigSep Finset.univ (fun ck : Dev nD × Fin 66 => reached ER (kcell ck) 0))
      ⊢ records m K from by unfold records; exact Entails.of_eq (bigSep_sep ..).symm) $$ [HI HR]
  · isplitl [HI]; · iexact HI
    iexact HR
  ihave Htok := (toks_around (F := F)) $$ Htok
  iapply (with_records (R := records m K) (Φ := fun c => iprop(positions c ∗ payToks c)) (Ψ := G' m) fun c => by
    unfold G'
    iintro ⟨Hr, H⟩
    isplitl [Hr]; · iexists K; iexact Hr
    iexact H)
  isplitl [Hrec]; · iexact Hrec
  iapply (show iprop((bigSep Finset.univ fun c : Dev nD => (positions c : sProp 𝕄)) ∗ bigSep Finset.univ payToks)
      ⊢ bigSep Finset.univ (fun c : Dev nD => iprop(positions c ∗ payToks c)) from Entails.of_eq (bigSep_sep ..).symm)
  isplitl [Hat]; · iexact Hat
  iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits at launch -/

theorem tally_at (g g' : GSem nD τ sig) (n : ℕ) : (tallyAt g () n : CellTallies nD τ sig Unit) g' () = if g' = g then n else 0 := by
  by_cases h : g' = g
  · subst h; rw [tallyAt_apply, if_pos ⟨rfl, rfl⟩, if_pos rfl]
  · rw [tallyAt_ne_cell h, Finsupp.zero_apply, if_neg h]

theorem sum_peers (d c : Dev nD) (n : ℕ) : (∑ i : Fin 31, if c = peer i d then n else 0) = if c = d then 0 else n := by
  by_cases h : c = d
  · subst h
    rw [if_pos rfl]
    exact Finset.sum_eq_zero fun i _ => if_neg (peer_ne c i).symm
  · rw [if_neg h, Finset.sum_eq_single (idxOf d c), if_pos (peer_idxOf d c h).symm]
    · intro i _ hi
      exact if_neg fun e => hi (by rw [e, idxOf_peer])
    · intro hn; exact absurd (Finset.mem_univ _) hn

theorem bar_eq_iff {a b : Dev nD} : barCell a = barCell b ↔ a = b := ⟨fun h => congrArg (fun g : GSem nD τ sig => g.1.1) h, fun h => h ▸ rfl⟩
theorem recv_eq_iff {a b s t : Dev nD} : recvCell a s = recvCell b t ↔ a = b ∧ s = t := by
  constructor
  · intro h
    refine ⟨congrArg (fun g : GSem nD τ sig => g.1.1) h, ?_⟩
    have h2 : (SemLoc.dma (recvS s) : SemLoc sig) = .dma (recvS t) := congrArg Prod.snd h
    have h3 : recvS s = recvS t := by injection h2
    have h4 : 34 + s.val = 34 + t.val := congrArg Fin.val h3
    exact Fin.ext (by omega)
  · rintro ⟨rfl, rfl⟩; rfl
theorem bar_ne_recv (a b s : Dev nD) : barCell a ≠ recvCell b s := fun h => by
  have h2 : (SemLoc.reg barS : SemLoc sig) = .dma (recvS s) := congrArg Prod.snd h
  cases h2

theorem owed_bar (d c : Dev nD) : O₀ d (barCell c) () = if c = d then 0 else 1 := by
  unfold O₀ dueS dueB
  rw [dueFrom_zero, dueFrom_zero, Pi.add_apply, Finsupp.add_apply, Finset.sum_apply, Finset.sum_apply, Finsupp.finsetSum_apply, Finsupp.finsetSum_apply,
    Finset.sum_eq_zero fun i _ => (tally_at _ _ _).trans (if_neg (bar_ne_recv c (peer i d) d)), Nat.zero_add, ← sum_peers d c 1]
  exact Finset.sum_congr rfl fun i _ => (tally_at _ _ _).trans (if_congr bar_eq_iff rfl rfl)
theorem owed_recv (d c s : Dev nD) : O₀ d (recvCell c s) () = if s = d then (if c = d then 0 else N) else 0 := by
  unfold O₀ dueS dueB
  rw [dueFrom_zero, dueFrom_zero, Pi.add_apply, Finsupp.add_apply, Finset.sum_apply, Finset.sum_apply, Finsupp.finsetSum_apply, Finsupp.finsetSum_apply,
    Finset.sum_eq_zero (s := Finset.univ) (f := fun i : Fin 31 => (tallyAt (barCell (peer i d)) () 1 : CellTallies nD τ sig Unit) (recvCell c s) ())
      fun i _ => (tally_at _ _ _).trans (if_neg (bar_ne_recv (peer i d) c s).symm), Nat.add_zero]
  by_cases h : s = d
  · subst h
    rw [if_pos rfl, ← sum_peers s c N]
    exact Finset.sum_congr rfl fun i _ => (tally_at _ _ _).trans (if_congr (recv_eq_iff.trans (and_iff_left rfl)) rfl rfl)
  · rw [if_neg h]
    exact Finset.sum_eq_zero fun i _ => (tally_at _ _ _).trans (if_neg fun e => h (recv_eq_iff.mp e).2)

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c]
  have h : ∀ c : Dev nD, (∑ d : Dev nD, if c = d then 0 else 1) = 31 := by decide +kernel
  exact h c
theorem launch_recv (c s : Dev nD) (h : s ≠ c) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s,
    Finset.sum_ite_eq Finset.univ s fun d => if c = d then 0 else N, if_pos (Finset.mem_univ _), if_neg (Ne.symm h)]

/-- The landing credits: none for the own slot. -/
def landCred (c s : Dev nD) : sProp 𝕄 := if s = c then iprop(emp) else cred (tallyAt (recvCell c s) () N)

theorem recvLoc_injective : Function.Injective fun s : Dev nD => (SemLoc.dma (recvS s) : SemLoc sig) := by
  intro s t h
  have h3 : recvS s = recvS t := by injection h
  have h4 : 34 + s.val = 34 + t.val := congrArg Fin.val h3
  exact Fin.ext (by omega)

theorem drop_all {P : sProp 𝕄} : P ⊢ iprop(emp) := by
  iintro -
  iempintro

theorem creds (c : Dev nD) :
    (Pipeline.launchCred O₀ c : sProp 𝕄) ⊢ iprop(cred (tallyAt (barCell c) () 31) ∗ bigSep Finset.univ (landCred (F := F) c)) := by
  unfold Pipeline.launchCred
  rw [bigSep_univ_at _ (SemLoc.reg barS), launch_bar]
  refine sep_mono_right ?_
  refine BIBase.Entails.trans (bigSep_subset (t := Finset.univ.map ⟨fun s : Dev nD => (SemLoc.dma (recvS s) : SemLoc sig), recvLoc_injective⟩) (fun sm hsm => ?_)) ?_
  · obtain ⟨s, -, rfl⟩ := Finset.mem_map.mp hsm
    exact Finset.mem_erase.mpr ⟨fun h => (by cases h), Finset.mem_univ _⟩
  · rw [bigSep_map]
    refine bigSep_mono fun s _ => ?_
    unfold landCred
    split
    · exact drop_all
    · next h => exact Entails.of_eq (congrArg (fun x => (cred x : sProp 𝕄)) (launch_recv c s h))

end Cert.Exchange

end
-- ==== Proof.Launch.lean ====
/-
# The run of the whole program

From the launch: each device's buffers, arguments, credits and tokens make the start of the body, its end gives back the
arguments and the closed cells, and every run ends with the result array at the sum, the arguments as they were and every
counter at zero.
-/
module

public import proofs.«01_k».proof.Proof.Deal
public import proofs.«01_k».proof.Proof.Gen.KernelIdeal.Points
public import Idealize.ShloMosaic.Lib.Pipeline.CollectiveSegs
public import Idealize.ShloMosaic.Lib.Pipeline.ValueKit.Geometry
public import Idealize.ShloMosaic.Lib.Quiescent

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

variable (ρ : Dev nD → PrngReg)

/-! ## The pipeline's data -/

/-- The arguments of device `c`, as the memory has them. -/
def argPts (c : Dev nD) : sProp 𝕄 :=
  iprop((((c : Thread nD τ).loc main_arg0) ↦{fullShare} m ((c : Thread nD τ).loc main_arg0)) ∗ (((c : Thread nD τ).loc main_arg1) ↦{fullShare} m ((c : Thread nD τ).loc main_arg1))
    ∗ (((c : Thread nD τ).loc main_arg2) ↦{fullShare} m ((c : Thread nD τ).loc main_arg2)))
/-- The four scratch buffers at any contents. -/
def bufPts (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ (∃ f, ((c : Thread nD τ).loc cc0_scratch3) ↦{fullShare} f))
/-- What a device holds at launch besides its buffers. -/
def start (c : Dev nD) : sProp 𝕄 :=
  iprop(G' m c ∗ levAts L lv ∗ (cred (tallyAt (barCell c) () 31) ∗ bigSep Finset.univ (landCred (F := F) c)) ∗ argPts m c)
def Φ₀ (c : Dev nD) : sProp 𝕄 := iprop(start m c ∗ bufPts c)
/-- The cells of device `c`, closed. -/
def closedSems (c : Dev nD) : sProp 𝕄 :=
  iprop(semVal (barCell c) 0 ∗ (semVal (inCell c 0) 0 ∗ semVal (inCell c 1) 0) ∗ bigSep Finset.univ (fun i : Fin 31 => semVal (sendCell c i) 0)
    ∗ bigSep Finset.univ (fun s : Dev nD => semVal (recvCell c s) 0))
def Φ₁ (c : Dev nD) : sProp 𝕄 := iprop(bufPts c ∗ closedSems c ∗ argPts m c)

def dats (_ : Fin 1) (c : Dev nD) : Dat τ (Elt F) Unit ℕ UU ℕ cfg0 c where
  A w := m ((cfg0.win w).arr.view.loc (c : Thread nD τ))
  after w _ := match w with
    | ⟨0, _⟩ => total m
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## Buffers and views -/

theorem whole_pts (c : Dev nD) (b : Ref sig .tc) (q : PosShare TreeShare) (f : Buf (Elt F) ((c : Thread nD τ).loc b)) :
    ((Memref.whole b).view.loc (c : Thread nD τ) ↦[(Memref.whole b).view.set]{q} f : sProp 𝕄) = (((c : Thread nD τ).loc b) ↦{q} f) := by
  simp only [Memref.view_whole, View.set_whole]
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- The rows a device reads, cut out of the argument; the rest is kept aside. -/
def restX (c : Dev nD) : sProp 𝕄 := ((c : Thread nD τ).loc main_arg0) ↦[Finset.univ \ (rowsX c).view.set]{fullShare} m ((c : Thread nD τ).loc main_arg0)
def restD (c : Dev nD) : sProp 𝕄 := ((c : Thread nD τ).loc main_arg1) ↦[Finset.univ \ (rowsD c).view.set]{fullShare} m ((c : Thread nD τ).loc main_arg1)
theorem cutX (c : Dev nD) : (((c : Thread nD τ).loc main_arg0) ↦{fullShare} m ((c : Thread nD τ).loc main_arg0) : sProp 𝕄)
    ⊣⊢ iprop(((rowsX c).view.loc (c : Thread nD τ) ↦[(rowsX c).view.set]{fullShare} m ((c : Thread nD τ).loc main_arg0)) ∗ restX m c) :=
  pointsTo_split_subset (Finset.subset_univ _)
theorem cutD (c : Dev nD) : (((c : Thread nD τ).loc main_arg1) ↦{fullShare} m ((c : Thread nD τ).loc main_arg1) : sProp 𝕄)
    ⊣⊢ iprop(((rowsD c).view.loc (c : Thread nD τ) ↦[(rowsD c).view.set]{fullShare} m ((c : Thread nD τ).loc main_arg1)) ∗ restD m c) :=
  pointsTo_split_subset (Finset.subset_univ _)

/-! ## The start of the body -/

theorem positions_split (c : Dev nD) : positions (F := F) c
    ⊢ iprop(atPos ER (barCell c) 0 ∅ 0 ∗ (atPos ER (inCell c 0) 0 ∅ 0 ∗ atPos ER (inCell c 1) 0 ∅ 0) ∗ bigSep Finset.univ (fun i : Fin 31 => atPos ER (sendCell c i) 0 ∅ 0)
      ∗ bigSep Finset.univ (fun s : Dev nD => atPos ER (recvCell c s) 0 ∅ 0)) := by
  unfold positions
  exact Entails.of_eq (cells_split c fun g => (atPos ER g 0 ∅ 0 : sProp 𝕄))

theorem land_start (c : Dev nD) : iprop(bigSep Finset.univ (landCred (F := F) c) ∗ bigSep Finset.univ (fun s : Dev nD => atPos ER (recvCell c s) 0 ∅ 0))
    ⊢ bigSep Finset.univ (landStart (F := F) c) := by
  refine BIBase.Entails.trans (Entails.of_eq (bigSep_sep ..).symm) (bigSep_mono fun s _ => ?_)
  show iprop(landCred c s ∗ atPos ER (recvCell c s) 0 ∅ 0) ⊢ landStart c s
  unfold landCred landStart
  split
  · iintro ⟨-, H⟩; iexact H
  · iintro ⟨H1, H2⟩
    isplitl [H1]; · iexact H1
    iexact H2

theorem sig_start (c : Dev nD) (f : Buf (Elt F) ((c : Thread nD τ).loc cc0_scratch3)) :
    iprop(owing c (O₀ c) ∗ bigSep Finset.univ (fun i : Fin 31 => dutyTok ER (barCell (peer i c)) 0 c) ∗ (((c : Thread nD τ).loc cc0_scratch3) ↦{fullShare} f))
      ⊢ iprop(SigSt (F := F) c 0 ∗ ∃ f, slotPts c c f) := by
  have h : iprop(bigSep Finset.univ (fun i : Fin 31 => dutyTok ER (barCell (peer i c)) 0 c) ∗ bigSep Finset.univ (fun i : Fin 31 => slotPts c (peer i c) f))
      ⊢ bigSep Finset.univ (sigNeed (F := F) c) := by
    refine BIBase.Entails.trans (Entails.of_eq (bigSep_sep ..).symm) (bigSep_mono fun i _ => ?_)
    show iprop(dutyTok ER (barCell (peer i c)) 0 c ∗ slotPts c (peer i c) f) ⊢ sigNeed c i
    unfold sigNeed
    iintro ⟨H1, H2⟩
    isplitl [H1]; · iexact H1
    iexists f; iexact H2
  have hs : (((c : Thread nD τ).loc cc0_scratch3) ↦{fullShare} f : sProp 𝕄) ⊢ iprop(slotPts c c f ∗ bigSep Finset.univ (fun i : Fin 31 => slotPts c (peer i c) f)) :=
    BIBase.Entails.trans (Entails.of_eq (slots_eq c f)) (Entails.of_eq (bigSep_around c fun s => slotPts c s f))
  unfold SigSt
  rw [mix_zero]
  iintro ⟨HO, Ht, Hs⟩
  ihave Hs := hs $$ Hs
  icases Hs with ⟨Ho, Hs⟩
  isplitr [Ho]
  · isplitl [HO]; · iexact HO
    iapply h
    isplitl [Ht]; · iexact Ht
    iexact Hs
  iexists f; iexact Ho

theorem inX_start (c : Dev nD) (f : Buf (Elt F) ((c : Thread nD τ).loc cc0_scratch0)) :
    iprop(((rowsX c).view.loc (c : Thread nD τ) ↦[(rowsX c).view.set]{fullShare} m ((c : Thread nD τ).loc main_arg0)) ∗ (((c : Thread nD τ).loc cc0_scratch0) ↦{fullShare} f)
      ∗ dutyTok ER (inCell c 0) 0 0 ∗ atPos ER (inCell c 0) 0 ∅ 0) ⊢ InSt m c 0 := by
  unfold InSt inNeed
  rw [if_pos rfl, ← whole_pts]
  iintro ⟨H1, H2, H3, H4⟩
  isplitr [H4]
  · isplitl [H1]; · iexact H1
    isplitl [H2]; · iexists f; iexact H2
    iexact H3
  iexact H4
theorem inD_start (c : Dev nD) (f : Buf (Elt F) ((c : Thread nD τ).loc cc0_scratch1)) :
    iprop(((rowsD c).view.loc (c : Thread nD τ) ↦[(rowsD c).view.set]{fullShare} m ((c : Thread nD τ).loc main_arg1)) ∗ (((c : Thread nD τ).loc cc0_scratch1) ↦{fullShare} f)
      ∗ dutyTok ER (inCell c 1) 0 0 ∗ atPos ER (inCell c 1) 0 ∅ 0) ⊢ InSt m c 1 := by
  unfold InSt inNeed
  rw [if_neg (by decide), ← whole_pts]
  iintro ⟨H1, H2, H3, H4⟩
  isplitr [H4]
  · isplitl [H1]; · iexact H1
    isplitl [H2]; · iexists f; iexact H2
    iexact H3
  iexact H4

/-- The parts of the arguments that the body does not touch. -/
def aside (c : Dev nD) : sProp 𝕄 :=
  iprop(restX m c ∗ restD m c ∗ (((c : Thread nD τ).loc main_arg2) ↦{fullShare} m ((c : Thread nD τ).loc main_arg2)))

theorem body_start (c : Dev nD) :
    iprop(Φ₀ m c ∗ owing c (O₀ c) ∗ ∃ f, ((c : Thread nD τ).loc cc0_stg0_0) ↦{fullShare} f)
      ⊢ iprop(∃ K, (ctx m K ∗ BodyPre m c) ∗ aside m c) := by
  unfold Φ₀ start G' payToks bufPts argPts
  iintro ⟨⟨⟨⟨⟨%K, Hr⟩, Hp, Hb, ⟨Hi0, Hi1⟩, Hst⟩, Hl, ⟨Hcb, Hcl⟩, Ha0, Ha1, Ha2⟩, ⟨%f0, Hf0⟩, ⟨%f1, Hf1⟩, ⟨%f2, Hf2⟩, ⟨%f3, Hf3⟩⟩, HO, Hg⟩
  ihave Hp := (positions_split c) $$ Hp
  icases Hp with ⟨Hpb, ⟨Hp0, Hp1⟩, Hps, Hpr⟩
  ihave Ha0 := (cutX m c).1 $$ Ha0
  icases Ha0 with ⟨Hx, Hrx⟩
  ihave Ha1 := (cutD m c).1 $$ Ha1
  icases Ha1 with ⟨Hd, Hrd⟩
  iexists K
  isplitr [Hrx Hrd Ha2]
  · isplitl [Hr Hl]
    · unfold ctx
      isplitl [Hr]; · iexact Hr
      iexact Hl
    ihave Hsig := (sig_start c f3) $$ [HO Hb Hf3]
    · isplitl [HO]; · iexact HO
      isplitl [Hb]; · iexact Hb
      iexact Hf3
    icases Hsig with ⟨Hsig, Hown⟩
    unfold BodyPre
    isplitl [Hsig]; · iexact Hsig
    isplitl [Hx Hf0 Hi0 Hp0 Hd Hf1 Hi1 Hp1]
    · isplitl [Hx Hf0 Hi0 Hp0]
      · iapply (inX_start m c f0)
        isplitl [Hx]; · iexact Hx
        isplitl [Hf0]; · iexact Hf0
        isplitl [Hi0]; · iexact Hi0
        iexact Hp0
      · iapply (inD_start m c f1)
        isplitl [Hd]; · iexact Hd
        isplitl [Hf1]; · iexact Hf1
        isplitl [Hi1]; · iexact Hi1
        iexact Hp1
    isplitl [Hf2 Hown Hcb Hpb]
    · unfold Mid
      isplitl [Hf2]
      · iexists f2
        iapply (Entails.of_eq (whole_pts c cc0_scratch2 fullShare f2).symm)
        iexact Hf2
      isplitl [Hown]; · iexact Hown
      isplitl [Hcb]; · iexact Hcb
      iexact Hpb
    unfold Later
    isplitl [Hst]; · iexact Hst
    isplitl [Hcl Hpr]
    · iapply (land_start c)
      isplitl [Hcl]; · iexact Hcl
      iexact Hpr
    isplitl [Hps]; · iexact Hps
    iexact Hg
  unfold aside
  isplitl [Hrx]; · iexact Hrx
  isplitl [Hrd]; · iexact Hrd
  iexact Ha2

/-! ## The end of the body -/

theorem inX_end (c : Dev nD) : InEnd m c 0
    ⊢ iprop(((rowsX c).view.loc (c : Thread nD τ) ↦[(rowsX c).view.set]{fullShare} m ((c : Thread nD τ).loc main_arg0)) ∗ (∃ f, ((c : Thread nD τ).loc cc0_scratch0) ↦{fullShare} f)
      ∗ semVal (inCell c 0) 0) := by
  unfold InEnd inPts
  rw [if_pos rfl, whole_pts]
  iintro ⟨⟨H1, H2⟩, H3⟩
  isplitl [H2]; · iexact H2
  isplitl [H1]; · iexists _; iexact H1
  iexact H3
theorem inD_end (c : Dev nD) : InEnd m c 1
    ⊢ iprop(((rowsD c).view.loc (c : Thread nD τ) ↦[(rowsD c).view.set]{fullShare} m ((c : Thread nD τ).loc main_arg1)) ∗ (∃ f, ((c : Thread nD τ).loc cc0_scratch1) ↦{fullShare} f)
      ∗ semVal (inCell c 1) 0) := by
  unfold InEnd inPts
  rw [if_neg (by decide), whole_pts]
  iintro ⟨⟨H1, H2⟩, H3⟩
  isplitl [H2]; · iexact H2
  isplitl [H1]; · iexists _; iexact H1
  iexact H3

theorem body_finish (c : Dev nD) : iprop(BodyPost m c ∗ aside m c)
    ⊢ iprop(Φ₁ m c ∗ owing c 0 ∗ (((c : Thread nD τ).loc cc0_stg0_0) ↦{fullShare} total m)) := by
  unfold BodyPost aside Φ₁ bufPts closedSems argPts accPts
  rw [whole_pts]
  iintro ⟨⟨HO, Hi0, Hi1, Hacc, Hr, Hg, Hb, Hs, Hv⟩, Hrx, Hrd, Ha2⟩
  ihave Hi0 := (inX_end m c) $$ Hi0
  icases Hi0 with ⟨Hx, Hf0, Hi0⟩
  ihave Hi1 := (inD_end m c) $$ Hi1
  icases Hi1 with ⟨Hd, Hf1, Hi1⟩
  isplitr [HO Hg]
  · isplitl [Hf0 Hf1 Hacc Hr]
    · isplitl [Hf0]; · iexact Hf0
      isplitl [Hf1]; · iexact Hf1
      isplitl [Hacc]; · iexists _; iexact Hacc
      iexists _; iexact Hr
    isplitl [Hi0 Hi1 Hb Hs Hv]
    · isplitl [Hb]; · iexact Hb
      isplitl [Hi0 Hi1]
      · isplitl [Hi0]; · iexact Hi0
        iexact Hi1
      isplitl [Hs]; · iexact Hs
      iexact Hv
    isplitl [Hx Hrx]
    · iapply (cutX m c).2
      isplitl [Hx]; · iexact Hx
      iexact Hrx
    isplitl [Hd Hrd]
    · iapply (cutD m c).2
      isplitl [Hd]; · iexact Hd
      iexact Hrd
    iexact Ha2
  isplitl [HO]; · iexact HO
  iexact Hg

theorem body_all (c : Dev nD) :
    iprop(Φ₀ m c ∗ owing c (O₀ c) ∗ ∃ f, ((c : Thread nD τ).loc cc0_stg0_0) ↦{fullShare} f)
      ⊢ Runs c (atCall cc0_body) fun _ => iprop(Φ₁ m c ∗ owing c 0 ∗ (((c : Thread nD τ).loc cc0_stg0_0) ↦{fullShare} total m)) := by
  refine (body_start m c).trans ?_
  have h : ∀ K, iprop((ctx m K ∗ BodyPre m c) ∗ aside m c)
      ⊢ Runs c (atCall cc0_body) fun _ => iprop(Φ₁ m c ∗ owing c 0 ∗ (((c : Thread nD τ).loc cc0_stg0_0) ↦{fullShare} total m)) := fun K =>
    (sep_mono_left (body_run m K c)).trans ((wp_frame_r _ _ _).trans (wp_mono _ _ _ fun _ => body_finish m c))
  iintro ⟨%K, H⟩
  iapply (h K)
  iexact H

/-- The body as the pipeline calls it. -/
theorem body_eq : (bodyAt0 t0_0 : Prog (TpuEff nD τ sig (Elt F) Λ₀ .tc) PUnit) = atCall cc0_body := rfl

theorem obl_in (c : Dev nD) {D : Type} (b : D → Buf (Elt F) ((c : Thread nD τ).loc cc0_stg0_0)) :
    iprop(Φ₀ m c ∗ (dats m 0 c).owesAt () t0_0.castSucc ∗ (∃ d, ∃ f, ⌜f = b d⌝ ∗ (((c : Thread nD τ).loc cc0_stg0_0) ↦{fullShare} f)))
      ⊢ iprop(Φ₀ m c ∗ owing c (O₀ c) ∗ ∃ f, ((c : Thread nD τ).loc cc0_stg0_0) ↦{fullShare} f) := by
  unfold owing Dat.owesAt Pipeline.owesWithin
  iintro ⟨H1, ⟨%W, -, HO⟩, ⟨%d, %f, -, Hf⟩⟩
  isplitl [H1]; · iexact H1
  isplitl [HO]; · iexists W; iexact HO
  iexists f; iexact Hf
theorem obl_out (c : Dev nD) :
    iprop(Φ₁ m c ∗ owing c 0 ∗ (((c : Thread nD τ).loc cc0_stg0_0) ↦{fullShare} total m))
      ⊢ iprop(Φ₁ m c ∗ (dats m 0 c).owesAt () t0_0.succ ∗ (∃ f, ⌜f = total m⌝ ∗ (((c : Thread nD τ).loc cc0_stg0_0) ↦{fullShare} f))) := by
  unfold owing Dat.owesAt Pipeline.owesWithin
  iintro ⟨H1, ⟨%W, HO⟩, Hf⟩
  isplitl [H1]; · iexact H1
  isplitl [HO]
  · iexists W
    isplitr; · ipureintro; exact fun _ _ => Or.inl trivial
    iexact HO
  iexists _
  isplitr; · ipureintro; rfl
  iexact Hf

theorem obl_mid (c : Dev nD) {D : Type} (b : D → Buf (Elt F) ((c : Thread nD τ).loc cc0_stg0_0)) :
    iprop(Φ₀ m c ∗ (dats m 0 c).owesAt () t0_0.castSucc ∗ (∃ d, ∃ f, ⌜f = b d⌝ ∗ (((c : Thread nD τ).loc cc0_stg0_0) ↦{fullShare} f)))
      ⊢ wp frame (wpE (defs₀ (F := F)) 𝒱₀ (c : Thread nD τ) none) Set.univ (bodyAt0 t0_0)
        fun _ => iprop(Φ₁ m c ∗ (dats m 0 c).owesAt () t0_0.succ ∗ (∃ f, ⌜f = total m⌝ ∗ (((c : Thread nD τ).loc cc0_stg0_0) ↦{fullShare} f))) := by
  rw [body_eq]
  refine BIBase.Entails.trans (obl_in m c b) ?_
  refine BIBase.Entails.trans (body_all m c) ?_
  exact wp_mono _ _ _ fun _ => obl_out m c

set_option maxRecDepth 4000 in
set_option maxHeartbeats 1000000 in
theorem body_obligation (c : Dev nD) : BodyObligation (dats (F := F) m 0 c) (defs₀ (F := F)) 𝒱₀ () Set.univ := fun t => by
  rw [show t = t0_0 from fin_N0 t]
  rw [bigSep_W0, bigSep_W0]
  simp only [owns_whole_eq]
  have h : (defs₀ (F := F) Proc.tc 0 (t0_0, cfg0.slots t0_0) : Prog (TpuEff nD τ sig (Elt F) Λ₀ .tc) PUnit) = bodyAt0 t0_0 := rfl
  generalize hb : (bodyAt0 t0_0 : Prog (TpuEff nD τ sig (Elt F) Λ₀ .tc) PUnit) = p at h
  show iprop(Φ₀ m c ∗ (dats m 0 c).owesAt () t0_0.castSucc ∗ (∃ d, ∃ f, ⌜f = (dats m 0 c).before (0 : Fin 1) t0_0 d⌝ ∗ (((c : Thread nD τ).loc cc0_stg0_0) ↦{fullShare} f)))
    ⊢ wp frame (wpE (defs₀ (F := F)) 𝒱₀ (c : Thread nD τ) none) Set.univ (defs₀ (F := F) Proc.tc 0 (t0_0, cfg0.slots t0_0))
      fun _ => iprop(Φ₁ m c ∗ (dats m 0 c).owesAt () t0_0.succ ∗ (∃ f, ⌜f = total m⌝ ∗ (((c : Thread nD τ).loc cc0_stg0_0) ↦{fullShare} f)))
  rw [h]
  have e1 := obl_in m c fun d => (dats m 0 c).before (0 : Fin 1) t0_0 d
  refine BIBase.Entails.trans e1 ?_
  subst hb
  exact BIBase.Entails.trans (body_all m c) (wp_mono _ _ _ fun _ => obl_out m c)

/-! ## The launch -/

theorem ownSemFacts : Pipeline.OwnSemFacts cfg0.spec osem := by decide +kernel
theorem share_eq (c : Dev nD) (w : Fin cfg0.W) : (dats (F := F) m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  have ha : (Pipeline.unscopedRestP Pipeline.Prefetch.none cfg0.spec c (fun b => m ((c : Thread nD τ).loc b)) : sProp 𝕄) ⊢ argPts m c := by
    rw [Pipeline.unscopedRestP_none]
    unfold argPts
    exact Entails.of_eq (unscopedRest0_eq c _)
  iintro ⟨Ha, Hlev, Hcr, -, HG⟩
  ihave Ha := ha $$ Ha
  ihave Hc := (creds (F := F) c) $$ Hcr
  imodintro
  unfold start
  isplitl
  · isplitl [HG]; · iexact HG
    isplitl [Hlev]; · iexact Hlev
    isplitl [Hc]; · iexact Hc
    iexact Ha
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ bufPts
  iintro ⟨Hs, -, Hr⟩
  isplitl [Hs]; · iexact Hs
  iexact Hr

theorem phi1_exit (c : Dev nD) :
    (dats m 0 c).Φ (Fin.last cfg0.N) ⊢ iprop((unscopedSems0 c ∗ argPts m c) ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold Φ₁ bufPts closedSems
  iintro ⟨Hr, ⟨HzB, Hz⟩, Ha⟩
  isplitl [HzB Ha]
  · isplitl [HzB]; · iexact HzB
    iexact Ha
  isplitl [Hz]; · iexact Hz
  iexact Hr

theorem waits (c : Dev nD) : (levAts L lv : sProp 𝕄) ⊢ Pipeline.cellsWaits cfgs (dats m) () 0 c :=
  Pipeline.cellsWaits_intro cfgs (dats m) () 0 c fun w s t =>
    mayWait_lt c _ _ 0 (by fin_cases w; fin_cases s; rfl) fun g u hg => by
      rcases t with ⟨_ | _, ht⟩
      · exact O₀_pos hg
      · exact absurd hg (Nat.lt_irrefl 0)

/-- The arguments of a device read the same at the end. -/
theorem args_read (c : Dev nD) (s' : Phys nD τ sig (Elt F)) :
    iprop(argPts m c ∗ SI s') ⊢ iprop(⌜s'.mem.mem ((c : Thread nD τ).loc main_arg0) = m ((c : Thread nD τ).loc main_arg0) ∧ s'.mem.mem ((c : Thread nD τ).loc main_arg1) = m ((c : Thread nD τ).loc main_arg1)
      ∧ s'.mem.mem ((c : Thread nD τ).loc main_arg2) = m ((c : Thread nD τ).loc main_arg2)⌝ ∗ SI s') := by
  unfold argPts
  iintro ⟨⟨H0, H1, H2⟩, HSI⟩
  icombine HSI H0 gives %h0
  icombine HSI H1 gives %h1
  icombine HSI H2 gives %h2
  isplitr
  · ipureintro
    exact ⟨Buf.eq_of_forall_mem_univ h0, Buf.eq_of_forall_mem_univ h1, Buf.eq_of_forall_mem_univ h2⟩
  iexact HSI

/-- The result array after the run. -/
theorem result_eq (c : Dev nD) : (dats (F := F) m 0 c).arrAt 0 cfg0.N = (total m : Buf (Elt F) ((c : Thread nD τ).loc main_v1)) := by
  refine (dats m 0 c).arrAt_eq_of_after_last 0 t0_0 (by decide +kernel) _ fun j => ?_
  blk_simp
  rfl

/-- What a run ends with. -/
def Ends (r : PUnit × MemSt nD τ sig (Elt F)) : Prop :=
  (∀ c : Dev nD, r.2.mem ((c : Thread nD τ).loc main_v1) = (total m : Buf (Elt F) ((c : Thread nD τ).loc main_v1))
    ∧ r.2.mem ((c : Thread nD τ).loc main_arg0) = m ((c : Thread nD τ).loc main_arg0) ∧ r.2.mem ((c : Thread nD τ).loc main_arg1) = m ((c : Thread nD τ).loc main_arg1)
    ∧ r.2.mem ((c : Thread nD τ).loc main_arg2) = m ((c : Thread nD τ).loc main_arg2)) ∧ r.2.sem = fun _ => 0

set_option maxRecDepth 8000 in
/-- From any memory with zero counters, over any float values: every run of @main ends, with the result array of each device
    at the sum of the partials, the arguments unchanged and every semaphore counter zero. -/
theorem run_main : θ_run defs (onTc (τ := τ) (main (F := F))) ⟨m, fun _ => 0, ρ⟩ (Ends m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(unscopedSems0 c ∗ argPts m c)) (Z := fun _ => iprop(emp))
    (hX := start_intro m ρ) (hin := phi0_intro m) (hout := phi1_exit m)
    (QY := fun c s => (s.mem ((c : Thread nD τ).loc main_arg0) = m ((c : Thread nD τ).loc main_arg0) ∧ s.mem ((c : Thread nD τ).loc main_arg1) = m ((c : Thread nD τ).loc main_arg1)
      ∧ s.mem ((c : Thread nD τ).loc main_arg2) = m ((c : Thread nD τ).loc main_arg2)) ∧ ∀ sm : SemLoc sig, sm.isScoped .tc = false → s.sem ((c.tc : Thread nD τ), sm) = 0)
    (hY := fun c s' => by
      iintro ⟨⟨Hu, Ha⟩, -, HSI⟩
      ihave H := (args_read m c s') $$ [Ha HSI]
      · isplitl [Ha] <;> iassumption
      icases H with ⟨%ha, HSI⟩
      imod (Pipeline.unscopedSems0_read (X := unscopedSems0 c) (c := c) fupd_intro s') $$ [Hu HSI] with ⟨%hu, HSI⟩
      · isplitl [Hu] <;> iassumption
      imodintro
      isplitr
      · ipureintro; exact ⟨ha, hu⟩
      iexact HSI)
    (hQ := fun _ h hs => ⟨fun c => ⟨((h c).1 0).trans (result_eq m c), (h c).2.2.1⟩, sem_eq_zero hs fun c => (h c).2.2.2⟩)

end Cert.Exchange

end
-- ==== Proof.Math.lean ====
/-
  The arithmetic of one row, over the extended reals. The kernel takes a row's variance as the mean of the squares less
  the square of the mean and multiplies by the reciprocal root; the reference takes the mean of the squared deviations
  and multiplies by one over the root. On a row of finite numbers the two factors are one.
-/
module

public import proofs.«01_k».proof.Defs
public import Idealize.ShloMosaic.PureOps.Ideal
public import Idealize.ShloMosaic.Lib.Pointwise
public import Idealize.ShloMosaic.Lib.Pipeline.Value

@[expose] public section

noncomputable section

namespace Cert.Rows

open Idealize.ShloMosaic

/-- The number of columns, as the programs spell it. -/
abbrev nE : EReal := Ideal.ofBits .f32 0x45000000#32
/-- The small number added to the variance, as the programs spell it. -/
abbrev epsE : EReal := Ideal.ofBits .f32 0x3727C5AC#32

theorem nE_eq : nE = ((2048 : ℝ) : EReal) := by
  simp [nE, Ideal.ofBits, Ideal.ieee, -EReal.coe_mul]; norm_num

theorem epsE_pos : ∃ e : ℝ, 0 < e ∧ epsE = (e : EReal) := by
  refine ⟨_, ?_, by simp [epsE, Ideal.ofBits, Ideal.ieee, -EReal.coe_mul]; rfl⟩
  norm_num

/-- The mean of a row. -/
def mean (x : Fin 2048 → EReal) : EReal := Ideal.div (∑ k, x k) nE

/-- The kernel's variance of a row: the mean square less the squared mean. -/
def varK (x : Fin 2048 → EReal) : EReal := mean (fun k => x k * x k) - mean x * mean x

/-- The reference's variance of a row: the mean squared deviation. -/
def varR (x : Fin 2048 → EReal) : EReal := mean fun k => (x k - mean x) * (x k - mean x)

theorem coe_sum {ι : Type} (s : Finset ι) (a : ι → ℝ) : ∑ k ∈ s, (a k : EReal) = ((∑ k ∈ s, a k : ℝ) : EReal) := by
  classical
  induction s using Finset.induction_on with
  | empty => simp
  | insert i s hi ih => rw [Finset.sum_insert hi, Finset.sum_insert hi, ih, EReal.coe_add]

theorem mean_coe (a : Fin 2048 → ℝ) : mean (fun k => (a k : EReal)) = (((∑ k, a k) / 2048 : ℝ) : EReal) := by
  rw [mean, nE_eq, Ideal.div_coe (by norm_num : (2048 : ℝ) ≠ 0), coe_sum, ← EReal.coe_mul]
  congr 1
  ring

theorem varK_coe (a : Fin 2048 → ℝ) : varK (fun k => (a k : EReal))
    = (((∑ k, a k * a k) / 2048 - (∑ k, a k) / 2048 * ((∑ k, a k) / 2048) : ℝ) : EReal) := by
  rw [varK, mean_coe, show (fun k => (a k : EReal) * (a k : EReal)) = fun k => ((a k * a k : ℝ) : EReal) from
    funext fun k => (EReal.coe_mul _ _).symm, mean_coe, ← EReal.coe_mul, ← EReal.coe_sub]

theorem varR_coe (a : Fin 2048 → ℝ) : varR (fun k => (a k : EReal))
    = (((∑ k, (a k - (∑ l, a l) / 2048) * (a k - (∑ l, a l) / 2048)) / 2048 : ℝ) : EReal) := by
  rw [varR, mean_coe, show (fun k => ((a k : EReal) - (((∑ l, a l) / 2048 : ℝ) : EReal)) * ((a k : EReal) - (((∑ l, a l) / 2048 : ℝ) : EReal)))
      = fun k => (((a k - (∑ l, a l) / 2048) * (a k - (∑ l, a l) / 2048) : ℝ) : EReal) from
    funext fun k => by rw [← EReal.coe_sub, ← EReal.coe_mul], mean_coe]

/-- Over the reals the two variances are one. -/
theorem variance_eq (a : Fin 2048 → ℝ) :
    (∑ k, a k * a k) / 2048 - (∑ k, a k) / 2048 * ((∑ k, a k) / 2048)
      = (∑ k, (a k - (∑ l, a l) / 2048) * (a k - (∑ l, a l) / 2048)) / 2048 := by
  obtain ⟨s, hs⟩ : ∃ s, s = ∑ k, a k := ⟨_, rfl⟩
  rw [← hs, show (fun k => (a k - s / 2048) * (a k - s / 2048)) = fun k => a k * a k - a k * (s / 1024) + s / 2048 * (s / 2048) from
    funext fun k => by ring, Finset.sum_add_distrib, Finset.sum_sub_distrib, ← Finset.sum_mul, ← hs, Finset.sum_const,
    Finset.card_univ, Fintype.card_fin, nsmul_eq_mul]
  push_cast
  ring

/-- On a row of finite numbers, the kernel's factor is the reference's. -/
theorem factor_eq (x : Fin 2048 → EReal) (hx : ∀ k, ∃ a : ℝ, x k = (a : EReal)) :
    Ideal.rsqrt (varK x + epsE) = Ideal.div 1 (Ideal.sqrt (varR x + epsE)) := by
  choose a ha using hx
  obtain rfl : x = fun k => (a k : EReal) := funext ha
  obtain ⟨e, he, hE⟩ := epsE_pos
  rw [varK_coe, varR_coe, variance_eq, hE, ← EReal.coe_add]
  obtain ⟨v, hv⟩ : ∃ v : ℝ, v = (∑ k, (a k - (∑ l, a l) / 2048) * (a k - (∑ l, a l) / 2048)) / 2048 + e := ⟨_, rfl⟩
  have hpos : 0 < v := by
    rw [hv]
    exact add_pos_of_nonneg_of_pos (div_nonneg (Finset.sum_nonneg fun k _ => mul_self_nonneg _) (by norm_num)) he
  rw [← hv, Ideal.sqrt_coe, if_neg hpos.le.not_gt, Ideal.div_coe (Real.sqrt_pos.mpr hpos).ne', one_mul, one_div,
    Ideal.rsqrt_coe, if_neg hpos.le.not_gt, if_neg hpos.ne']

/-- One term of the first row of the result: the gradient at a column times the normalised row there. -/
def term (x d : Fin 2048 → EReal) (q : Fin 2048) : EReal :=
  d q * ((x q - mean x) * Ideal.rsqrt (varK x + epsE))

/-- The first of two stacked rows. -/
theorem stack_zero (a b : (⟨2, ![1, 2048]⟩ : Shape).Idx → EReal)
    (h : Shape.Concatenates [⟨2, ![1, 2048]⟩, ⟨2, ![1, 2048]⟩] ⟨2, ![2, 2048]⟩ 0) (q : Fin 2048) :
    concatenate ⟨2, ![2, 2048]⟩ 0 [⟨⟨2, ![1, 2048]⟩, a⟩, ⟨⟨2, ![1, 2048]⟩, b⟩] h (ix2 0 q) = a (ix2 0 q) :=
  concatenate_pair_apply_left 0 a b h _ rfl (ix2 0 q) fun c => by
    match c with
    | ⟨0, _⟩ => rfl
    | ⟨1, _⟩ => rfl

/-- The second of two stacked rows. -/
theorem stack_one (a b : (⟨2, ![1, 2048]⟩ : Shape).Idx → EReal)
    (h : Shape.Concatenates [⟨2, ![1, 2048]⟩, ⟨2, ![1, 2048]⟩] ⟨2, ![2, 2048]⟩ 0) (q : Fin 2048) :
    concatenate ⟨2, ![2, 2048]⟩ 0 [⟨⟨2, ![1, 2048]⟩, a⟩, ⟨⟨2, ![1, 2048]⟩, b⟩] h (ix2 1 q) = b (ix2 0 q) :=
  concatenate_pair_apply_right 0 a b h _ rfl rfl (ix2 0 q) (fun c hc => by
    match c with
    | ⟨0, _⟩ => exact absurd rfl hc
    | ⟨1, _⟩ => rfl) rfl

end Cert.Rows

end
-- ==== Proof.Partial.lean ====
/-
  What one device adds up from its 256 rows, index by index: column by column, the sum of the gradient times the
  normalised row, and the sum of the gradient.
-/
module

public import proofs.«01_k».proof.Proof.Math
public import proofs.«01_k».proof.Proof.Gen.KernelIdeal.Skeleton
public import Idealize.ShloMosaic.Lib.Pointwise
public import Idealize.ShloMosaic.Lib.Pipeline.Value
public import Idealize.ShloMosaic.Lib.ValueLayout
public import Idealize.ShloMosaic.Lib.ValueLayoutCasts

@[expose] public section

noncomputable section

namespace Cert.Rows

open Idealize.ShloMosaic Cert.KernelIdeal Cert.KernelIdeal.Gen

/-- Row `r` of an array. -/
abbrev row {n : Nat} (x : (⟨2, ![n, 2048]⟩ : Shape).Idx → EReal) (r : Fin n) : Fin 2048 → EReal := fun k => x (ix2 r k)

theorem pay1_zero (x dy : Vec Ideal S256x2048 .f32) (q : Fin 2048) :
    k0_pay1 (F := Ideal) x dy (ix2 0 q) = ∑ r : Fin 256, term (row x r) (row dy r) q := by
  unfold k0_pay1
  dsimp only
  refine (stack_zero _ _ _ q).trans ?_
  simp only [term, varK, mean, row]
  pointwise

theorem pay1_one (x dy : Vec Ideal S256x2048 .f32) (q : Fin 2048) :
    k0_pay1 (F := Ideal) x dy (ix2 1 q) = ∑ r : Fin 256, row dy r q := by
  unfold k0_pay1
  dsimp only
  refine (stack_one _ _ _ q).trans ?_
  pointwise

theorem pay4_apply (v : Vec Ideal S32x2x2048 .f32) (p : Fin 2) (q : Fin 2048) :
    k0_pay4 (F := Ideal) v (ix2 p q) = ∑ s : Fin 32, v (ix3 s p q) := by
  unfold k0_pay4
  dsimp only
  pointwise

end Cert.Rows

end
-- ==== Proof.Reference.lean ====
/-
  What the reference computes, index by index: column by column over all 8192 rows, the sum of the gradient times the
  normalised row, and the sum of the gradient.
-/
module

public import proofs.«01_k».proof.Proof.Math
public import proofs.«01_k».proof.Proof.Gen.ReferenceIdeal.Run
public import Idealize.ShloMosaic.Lib.Pointwise
public import Idealize.ShloMosaic.Lib.Pipeline.Value
public import Idealize.ShloMosaic.Lib.KernelVsHost

@[expose] public section

noncomputable section

namespace Cert.Rows

open Idealize.ShloMosaic Cert.ReferenceIdeal Cert.ReferenceIdeal.Gen

/-- The reference's mean of every row, as it spells it. -/
def meanCol (x : FVec Ideal S8192x2048 .f32) : FVec Ideal S8192x1 .f32 :=
  Host.divf (broadcastInDim S8192x1 ![0] bcast_S8192_S8192x1_0 (Host.reduceAdd x (constant S_ .f32 0x00000000#32) reducesTo_S8192x2048_S8192_d1 h_S_)) (broadcastInDim S8192x1 ![] bcast_S_S8192x1 (constant S_ .f32 0x45000000#32))

/-- The rows less their means. -/
def centred (x : FVec Ideal S8192x2048 .f32) : FVec Ideal S8192x2048 .f32 :=
  subf x (broadcastInDim S8192x2048 ![0, 1] bcast_S8192x1_S8192x2048_0_1 (meanCol x))

/-- The reference's count of columns: the literal less the correction, zero. -/
def count : FVec Ideal S_ .f32 := subf (constant S_ .f32 0x45000000#32) (sitofp .f32 (constantI S_ 32 0#32))

/-- The reference's variance of every row, as it spells it. -/
def varCol (x : FVec Ideal S8192x2048 .f32) : FVec Ideal S8192x1 .f32 :=
  select (broadcastInDim S8192x1 ![] bcast_S_S8192x1 (cmpf .ogt count (constant S_ .f32 0x00000000#32)))
    (Host.divf (broadcastInDim S8192x1 ![0] bcast_S8192_S8192x1_0 (Host.reduceAdd (mulf (centred x) (centred x)) (constant S_ .f32 0x00000000#32) reducesTo_S8192x2048_S8192_d1 h_S_)) (broadcastInDim S8192x1 ![] bcast_S_S8192x1 count))
    (broadcastInDim S8192x1 ![] bcast_S_S8192x1 (id (constant S_ .f32 0x7FC00000#32)))

/-- One over the root of the variance, as the reference spells it. -/
def factorCol (x : FVec Ideal S8192x2048 .f32) : FVec Ideal S8192x1 .f32 :=
  Host.divf (broadcastInDim S8192x1 ![] bcast_S_S8192x1 (constant S_ .f32 0x3F800000#32))
    (Host.sqrt (addf (varCol x) (broadcastInDim S8192x1 ![] bcast_S_S8192x1 (constant S_ .f32 0x3727C5AC#32))))

/-- The reference's result, as it spells it. -/
def result (x d : FVec Ideal S8192x2048 .f32) : FVec Ideal S2x2048 .f32 :=
  concatenate S2x2048 0 [⟨S1x2048, (broadcastInDim S1x2048 ![1] bcast_S2048_S1x2048_1 (Host.reduceAdd (mulf d (mulf (centred x) (broadcastInDim S8192x2048 ![0, 1] bcast_S8192x1_S8192x2048_0_1 (factorCol x)))) (constant S_ .f32 0x00000000#32) reducesTo_S8192x2048_S2048_d0 h_S_))⟩,
    ⟨S1x2048, (broadcastInDim S1x2048 ![1] bcast_S2048_S1x2048_1 (Host.reduceAdd d (constant S_ .f32 0x00000000#32) reducesTo_S8192x2048_S2048_d0 h_S_))⟩] concatenates_S1x2048_S1x2048_S2x2048_d0

variable (x d : FVec Ideal S8192x2048 .f32)

theorem meanCol_apply (r : Fin 8192) (u : Fin 1) : meanCol x (ix2 r u) = mean fun k => x (ix2 r k) := by
  simp only [meanCol, mean]
  pointwise

theorem centred_apply (r : Fin 8192) (k : Fin 2048) : centred x (ix2 r k) = x (ix2 r k) - mean fun l => x (ix2 r l) := by
  rw [← meanCol_apply x r 0]
  simp only [centred]
  pointwise

theorem count_apply (i : S_.Idx) : count i = nE := by
  simp only [count]
  pointwise
  rw [show (FloatOps.sitofp .f32 0#32 : Ideal .f32) = 0 from sitofp_zero]
  exact sub_zero _

theorem varCol_apply (r : Fin 8192) (u : Fin 1) : varCol x (ix2 r u) = varR fun k => x (ix2 r k) := by
  have hpos : (0 : EReal) < nE := by rw [nE_eq]; exact_mod_cast (by norm_num : (0 : ℝ) < 2048)
  simp only [varCol, varR]
  pointwise
  rw [count_apply, if_pos hpos, mean]
  simp only [centred_apply]

theorem factorCol_apply (r : Fin 8192) (u : Fin 1) :
    factorCol x (ix2 r u) = Ideal.div 1 (Ideal.sqrt (varR (fun k => x (ix2 r k)) + epsE)) := by
  rw [← varCol_apply x r u]
  simp only [factorCol]
  pointwise

theorem result_zero (q : Fin 2048) : result x d (ix2 0 q) = ∑ r : Fin 8192,
    d (ix2 r q) * ((x (ix2 r q) - mean fun l => x (ix2 r l)) * Ideal.div 1 (Ideal.sqrt (varR (fun k => x (ix2 r k)) + epsE))) := by
  simp only [result]
  refine (stack_zero _ _ _ q).trans ?_
  simp only [← centred_apply, ← factorCol_apply x _ 0]
  pointwise

theorem result_one (q : Fin 2048) : result x d (ix2 1 q) = ∑ r : Fin 8192, d (ix2 r q) := by
  simp only [result]
  refine (stack_one _ _ _ q).trans ?_
  pointwise

end Cert.Rows

end
-- ==== Proof.Value.lean ====
/-
  The two results agree. Device `s`'s rows are rows `256 s .. 256 s + 255` of the whole arrays, so the thirty-two
  partials added up are the sums over all 8192 rows, and on finite rows the two programs' terms are one.
-/
module

public import proofs.«01_k».proof.Proof.Partial
public import proofs.«01_k».proof.Proof.Reference
public import proofs.«01_k».proof.Proof.Protocol
public import Idealize.ShloMosaic.Lib.Layout

@[expose] public section

noncomputable section

namespace Cert.Rows

open Idealize.ShloMosaic Idealize.ShloMosaic.TcCoe Idealize.SL.Sem Cert.KernelIdeal Cert.KernelIdeal.Gen Cert.Exchange

/-! ## A device's rows in the whole array -/

/-- Where row `r` of device `s`'s rows is in the whole array. -/
def wholeRow (s : Fin 32) (r : Fin 256) : Fin 8192 := ⟨256 * s.val + r.val, by omega⟩

/-- A sum over the whole array's rows, device by device. -/
theorem sum_rows (f : Fin 8192 → EReal) : ∑ s : Fin 32, ∑ r : Fin 256, f (wholeRow s r) = ∑ R : Fin 8192, f R := by
  rw [← Fintype.sum_prod_type']
  exact Fintype.sum_equiv finProdFinEquiv _ _ fun p => congrArg f (Fin.ext (Nat.add_comm _ _))

/-- The block of the whole array a device holds. -/
abbrev blockOf (X : (⟨2, ![8192, 2048]⟩ : Shape).Idx → EReal) (c : Dev nD) : S4096x2048.Idx → EReal :=
  Layout.blockN ⟨2, ![4096, 2048]⟩ ⟨2, ![8192, 2048]⟩ (Layout.meshBlock [2, 4, 4] ![[0], []] c) X

theorem block_apply (X : (⟨2, ![8192, 2048]⟩ : Shape).Idx → EReal) (c : Dev nD) (r : Fin 4096) (k : Fin 2048)
    (R : Fin 8192) (hR : R.val = 4096 * (c.val / 16) + r.val) : blockOf X c (ix2 r k) = X (ix2 R k) := by
  have hc : c.val < 32 := c.isLt
  refine congrArg X (funext fun a => Fin.ext ?_)
  match a with
  | ⟨0, _⟩ =>
    show ((c.val / 16) % 2 * 1 + 0) * 4096 + r.val = R.val
    omega
  | ⟨1, _⟩ =>
    show 0 * 2048 + k.val = k.val
    omega

/-- The place in a device's block of row `r` of its rows. -/
def blockRow (c : Dev nD) (r : Fin 256) : Fin 4096 :=
  ⟨1024 * ((c.val / 4) % 4) + 256 * (c.val % 4) + r.val, by have := r.isLt; omega⟩

theorem wholeRow_eq (c : Dev nD) (r : Fin 256) : (wholeRow c r).val = 4096 * (c.val / 16) + (blockRow c r).val := by
  have hc : c.val < 32 := c.isLt
  show 256 * c.val + r.val = 4096 * (c.val / 16) + (1024 * ((c.val / 4) % 4) + 256 * (c.val % 4) + r.val)
  omega

/-- The index at which a device's rows are read from its block. -/
theorem rows_emb (c : Dev nD) (r : Fin 256) (k : Fin 2048) :
    (Rect.unit (s := S4096x2048) (k0_off1 c) S256x2048.size (k0_off1_inb c)).emb (ix2 r k) = ix2 (blockRow c r) k := by
  funext a
  refine Fin.ext ?_
  have h0 : k0_off1 c 0 = 1024 * ((c.val / 4) % 4) + 256 * (c.val % 4) := congrFun (k0_off1_eq c) 0
  have h1 : k0_off1 c 1 = 0 := congrFun (k0_off1_eq c) 1
  match a with
  | ⟨0, _⟩ =>
    show k0_off1 c 0 + 1 * r.val = (blockRow c r).val
    rw [h0, Nat.one_mul]; rfl
  | ⟨1, _⟩ =>
    show k0_off1 c 1 + 1 * k.val = k.val
    rw [h1]; omega

variable (m : (ℓ : Loc nD τ sig) → Buf (Elt Ideal) ℓ) (X D : (⟨2, ![8192, 2048]⟩ : Shape).Idx → EReal)

theorem xRows_apply (c : Dev nD) (hX : m ((c : Thread nD τ).loc main_arg0) = blockOf X c) (r : Fin 256) (k : Fin 2048) :
    xRows m c (ix2 r k) = X (ix2 (wholeRow c r) k) := by
  refine Eq.trans ?_ (block_apply X c (blockRow c r) k _ (wholeRow_eq c r))
  rw [← hX, ← rows_emb]
  rfl

theorem dRows_apply (c : Dev nD) (hD : m ((c : Thread nD τ).loc main_arg1) = blockOf D c) (r : Fin 256) (k : Fin 2048) :
    dRows m c (ix2 r k) = D (ix2 (wholeRow c r) k) := by
  refine Eq.trans ?_ (block_apply D c (blockRow c r) k _ (wholeRow_eq c r))
  rw [← hD, ← rows_emb]
  rfl

/-! ## Finite entries -/

/-- A block every entry of which lies below infinity in size is a block of real numbers. -/
theorem real_of_finite [Cert.Pre_x_finite_KernelIdeal.Facts] (x d : FVec Ideal S4096x2048 .f32) (g : FVec Ideal S2048 .f32)
    (h : Cert.Pre_x_finite_KernelIdeal.fn (F := Ideal) x d g = fun _ => 1#1) (i : S4096x2048.Idx) : ∃ a : ℝ, x i = (a : EReal) := by
  have hi : Ideal.cmp .olt (max (x i : EReal) (-(x i : EReal))) (Ideal.ofBits .f32 0x7F800000#32) = 1#1 := congrFun h i
  have htop : Ideal.ofBits .f32 0x7F800000#32 = ⊤ := by simp [Ideal.ofBits, Ideal.ieee]
  rw [htop] at hi
  have hlt : max (x i : EReal) (-(x i : EReal)) < ⊤ := by
    by_contra hn
    simp [Ideal.cmp, hn] at hi
  rw [max_lt_iff] at hlt
  refine ⟨EReal.toReal (x i), (EReal.coe_toReal hlt.1.ne ?_).symm⟩
  intro hb
  rw [hb] at hlt
  exact absurd hlt.2 (by simp)

/-! ## The results -/

/-- One row's contribution to the kernel's result. -/
def entry (p : Fin 2) (x d : Fin 2048 → EReal) (q : Fin 2048) : EReal := if p = 0 then term x d q else d q

theorem part_apply (c : Dev nD) (hX : m ((c : Thread nD τ).loc main_arg0) = blockOf X c)
    (hD : m ((c : Thread nD τ).loc main_arg1) = blockOf D c) (p : Fin 2) (q : Fin 2048) :
    part m c (ix2 p q) = ∑ r : Fin 256, entry p (row X (wholeRow c r)) (row D (wholeRow c r)) q := by
  have hx : ∀ r, row (xRows m c) r = row X (wholeRow c r) := fun r => funext fun k => xRows_apply m X c hX r k
  have hd : ∀ r, row (dRows m c) r = row D (wholeRow c r) := fun r => funext fun k => dRows_apply m D c hD r k
  match p with
  | 0 =>
    refine (pay1_zero _ _ q).trans (Finset.sum_congr rfl fun r _ => ?_)
    rw [hx, hd]; rfl
  | 1 =>
    refine (pay1_one _ _ q).trans (Finset.sum_congr rfl fun r _ => ?_)
    rw [hd]; rfl

/-- The kernel's result is the sum over all rows. -/
theorem total_apply (hX : ∀ c : Dev nD, m ((c : Thread nD τ).loc main_arg0) = blockOf X c)
    (hD : ∀ c : Dev nD, m ((c : Thread nD τ).loc main_arg1) = blockOf D c) (p : Fin 2) (q : Fin 2048) :
    (total m : S2x2048.Idx → EReal) (ix2 p q) = ∑ R : Fin 8192, entry p (row X R) (row D R) q := by
  rw [← sum_rows]
  refine (pay4_apply _ p q).trans (Finset.sum_congr rfl fun s _ => ?_)
  refine Eq.trans ?_ (part_apply m X D s (hX s) (hD s) p q)
  refine congrArg (part m s) (funext fun a => ?_)
  match a with
  | ⟨0, _⟩ => rfl
  | ⟨1, _⟩ => rfl

/-- The reference's result is the same sum, where `x` is finite. -/
theorem result_apply (hfin : ∀ R k, ∃ a : ℝ, X (ix2 R k) = (a : EReal)) (p : Fin 2) (q : Fin 2048) :
    result X D (ix2 p q) = ∑ R : Fin 8192, entry p (row X R) (row D R) q := by
  match p with
  | 0 =>
    refine (result_zero X D q).trans (Finset.sum_congr rfl fun R _ => ?_)
    rw [← factor_eq (fun k => X (ix2 R k)) (hfin R)]; rfl
  | 1 => exact result_one X D q

/-- The whole array is finite where every device's block of it is. -/
theorem whole_finite (h : ∀ (c : Dev nD) (i : S4096x2048.Idx), ∃ a : ℝ, blockOf X c i = (a : EReal)) (R : Fin 8192) (k : Fin 2048) :
    ∃ a : ℝ, X (ix2 R k) = (a : EReal) := by
  have hR := R.isLt
  have hb := h ⟨16 * (R.val / 4096), by show _ < 32; omega⟩ (ix2 ⟨R.val % 4096, Nat.mod_lt _ (by decide)⟩ k)
  rwa [block_apply X _ _ k R (by show R.val = 4096 * (16 * (R.val / 4096) / 16) + R.val % 4096; omega)] at hb

/-- The kernel's result is the reference's. -/
theorem total_eq_result (hX : ∀ c : Dev nD, m ((c : Thread nD τ).loc main_arg0) = blockOf X c)
    (hD : ∀ c : Dev nD, m ((c : Thread nD τ).loc main_arg1) = blockOf D c)
    (hfin : ∀ R k, ∃ a : ℝ, X (ix2 R k) = (a : EReal)) : (total m : S2x2048.Idx → EReal) = result X D := by
  funext i
  have hi : i = ix2 (i 0 : Fin 2) (i 1 : Fin 2048) := funext fun a => by
    match a with
    | ⟨0, _⟩ => rfl
    | ⟨1, _⟩ => rfl
  rw [hi]
  exact (total_apply m X D hX hD _ _).trans (result_apply X D hfin _ _).symm

end Cert.Rows

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- The two printed programs are one text: a device's program of one is that of the other, -/
theorem run_kernel_eq : θ_run (Cert.Kernel.defs (F := Bits)) (onTc (τ := Cert.Kernel.τ) (Cert.Kernel.main (F := Bits)))
    = θ_run (Cert.KernelIdeal.defs (F := Bits)) (onTc (τ := Cert.KernelIdeal.τ) (Cert.KernelIdeal.main (F := Bits))) := by
  sl_kernel_rfl

/-- so the launch over the machine's words runs to its end, its arguments unchanged and every counter zero. -/
theorem frame_kernel : Cert.quiescent_Kernel := fun m ρ _ => by
  rw [run_kernel_eq]
  exact (θ_run Cert.KernelIdeal.defs _ _).mono (fun _ h => ⟨fun c => (h.1 c).2, h.2⟩)
    (Cert.Exchange.run_main (F := Bits) m ρ)

/-- The same launch over the extended reals. -/
theorem frame_ideal : Cert.quiescent_KernelIdeal := fun m ρ _ =>
  (θ_run Cert.KernelIdeal.defs _ _).mono (fun _ h => ⟨fun c => (h.1 c).2, h.2⟩) (Cert.Exchange.run_main (F := Ideal) m ρ)

/-- The reference runs to its end, its arguments unchanged. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

instance finite_blocks : Cert.Pre_x_finite_KernelIdeal.Facts := ⟨by decide⟩
instance finite_whole : Cert.Pre_x_finite_ReferenceIdeal.Facts := ⟨by decide⟩

/-- Where the blocks of `x` are finite, every device ends with the reference's result. -/
theorem algebraic : Cert.algebraic_KernelIdeal_ReferenceIdeal_pre_x_finite_KernelIdeal := by
  intro m g m' g' hfinite hagree
  have hX := fun c => (hagree c).1
  have hD := fun c => (hagree c).2.1
  have hfin := Cert.Rows.whole_finite _ fun c i => by
    have h := Cert.Rows.real_of_finite _ _ _ (hfinite c) i
    rwa [hX c] at h
  refine ⟨Cert.Exchange.total m, ?_, ?_⟩
  · exact (θ_run Cert.KernelIdeal.defs _ _).mono (fun _ h c => h.1 c) (Cert.Exchange.run_main (F := Ideal) m g)
  · refine (θ_run Cert.ReferenceIdeal.defs _ _).mono (fun _ h => ⟨(h 0).1.trans ?_, (h 0).2⟩)
      (Cert.ReferenceIdeal.Value.run (F := Ideal) m' g')
    exact (Cert.Rows.total_eq_result m _ _ hX hD hfin).symm

theorem claim : Cert.Claim :=
  ⟨Cert.Kernel.Gen.facts, Cert.KernelIdeal.Gen.facts, Cert.ReferenceIdeal.Gen.facts, finite_blocks, finite_whole,
    frame_kernel, frame_ideal, fun m ρ _ => frame_ideal m ρ trivial, frame_reference,
    fun m ρ _ => frame_reference m ρ trivial, trivial, algebraic⟩

end Cert.Proof

end
